-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 [hPre_pre13 : Cert.Pre_pre13.Facts] (m : (ℓ : Loc Cert.Kernel13.nD Cert.Kernel13.τ Cert.Kernel13.sig) → Buf (Elt Bits) ℓ) : Prop :=
  ∀ c : Dev Cert.Kernel13.nD,
    (Cert.Pre_pre13.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5)) (m ((c.tc : Thread Cert.Kernel13.nD Cert.Kernel13.τ).loc Cert.Kernel13.main_arg6)) (m ((c.tc : Thread Cert.Kernel13.nD Cert.Kernel13.τ).loc Cert.Kernel13.main_arg7))) = (fun _ => 1#1)

def Pre_Kernel13Ideal [hPre_pre13 : Cert.Pre_pre13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_pre13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_pre13 [hPre_pre13 : Cert.Pre_pre13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_pre13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))) = (fun _ => 1#1)

def Pre_Kernel14 [hPre_pre14 : Cert.Pre_pre14.Facts] (m : (ℓ : Loc Cert.Kernel14.nD Cert.Kernel14.τ Cert.Kernel14.sig) → Buf (Elt Bits) ℓ) : Prop :=
  ∀ c : Dev Cert.Kernel14.nD,
    (Cert.Pre_pre14.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5)) (m ((c.tc : Thread Cert.Kernel14.nD Cert.Kernel14.τ).loc Cert.Kernel14.main_arg6)) (m ((c.tc : Thread Cert.Kernel14.nD Cert.Kernel14.τ).loc Cert.Kernel14.main_arg7))) = (fun _ => 1#1)

def Pre_Kernel14Ideal [hPre_pre14 : Cert.Pre_pre14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_pre14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_pre14 [hPre_pre14 : Cert.Pre_pre14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_pre14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))) = (fun _ => 1#1)

def Pre_Kernel15 [hPre_pre15 : Cert.Pre_pre15.Facts] (m : (ℓ : Loc Cert.Kernel15.nD Cert.Kernel15.τ Cert.Kernel15.sig) → Buf (Elt Bits) ℓ) : Prop :=
  ∀ c : Dev Cert.Kernel15.nD,
    (Cert.Pre_pre15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5)) (m ((c.tc : Thread Cert.Kernel15.nD Cert.Kernel15.τ).loc Cert.Kernel15.main_arg6)) (m ((c.tc : Thread Cert.Kernel15.nD Cert.Kernel15.τ).loc Cert.Kernel15.main_arg7))) = (fun _ => 1#1)

def Pre_Kernel15Ideal [hPre_pre15 : Cert.Pre_pre15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_pre15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_pre15 [hPre_pre15 : Cert.Pre_pre15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_pre15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7))) = (fun _ => 1#1)

def Pre_Kernel16 [hPre_pre16 : Cert.Pre_pre16.Facts] (m : (ℓ : Loc Cert.Kernel16.nD Cert.Kernel16.τ Cert.Kernel16.sig) → Buf (Elt Bits) ℓ) : Prop :=
  ∀ c : Dev Cert.Kernel16.nD,
    (Cert.Pre_pre16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5)) (m ((c.tc : Thread Cert.Kernel16.nD Cert.Kernel16.τ).loc Cert.Kernel16.main_arg6)) (m ((c.tc : Thread Cert.Kernel16.nD Cert.Kernel16.τ).loc Cert.Kernel16.main_arg7))) = (fun _ => 1#1)

def Pre_Kernel16Ideal [hPre_pre16 : Cert.Pre_pre16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_pre16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_pre16 [hPre_pre16 : Cert.Pre_pre16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_pre16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))) = (fun _ => 1#1)

def Pre_Kernel18 [hPre_pre18 : Cert.Pre_pre18.Facts] (m : (ℓ : Loc Cert.Kernel18.nD Cert.Kernel18.τ Cert.Kernel18.sig) → Buf (Elt Bits) ℓ) : Prop :=
  ∀ c : Dev Cert.Kernel18.nD,
    (Cert.Pre_pre18.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2))) = (fun _ => 1#1)

def Pre_Kernel18Ideal [hPre_pre18 : Cert.Pre_pre18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_pre18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_pre18 [hPre_pre18 : Cert.Pre_pre18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_pre18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel13 [hKernel13 : Cert.Kernel13.Facts] [hPre_pre13 : Cert.Pre_pre13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] [hPre_pre13 : Cert.Pre_pre13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Reference13Ideal_pre_pre13 [hReference13Ideal : Cert.Reference13Ideal.Facts] [hPre_pre13 : Cert.Pre_pre13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_pre13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] [hPre_pre14 : Cert.Pre_pre14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] [hPre_pre14 : Cert.Pre_pre14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Reference14Ideal_pre_pre14 [hReference14Ideal : Cert.Reference14Ideal.Facts] [hPre_pre14 : Cert.Pre_pre14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_pre14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] [hPre_pre15 : Cert.Pre_pre15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] [hPre_pre15 : Cert.Pre_pre15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Reference15Ideal_pre_pre15 [hReference15Ideal : Cert.Reference15Ideal.Facts] [hPre_pre15 : Cert.Pre_pre15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_pre15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] [hPre_pre16 : Cert.Pre_pre16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] [hPre_pre16 : Cert.Pre_pre16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Reference16Ideal_pre_pre16 [hReference16Ideal : Cert.Reference16Ideal.Facts] [hPre_pre16 : Cert.Pre_pre16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_pre16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel18 [hKernel18 : Cert.Kernel18.Facts] [hPre_pre18 : Cert.Pre_pre18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] [hPre_pre18 : Cert.Pre_pre18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_pre18 [hReference18Ideal : Cert.Reference18Ideal.Facts] [hPre_pre18 : Cert.Pre_pre18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_pre18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_v81) = v3 c
          ∧ r.2.mem ((c.tc : Thread Cert.Reference2Ideal.nD Cert.Reference2Ideal.τ).loc Cert.Reference2Ideal.main_v82) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v41_0)) (v1 : (c : Dev Cert.Kernel4Ideal.nD) → Buf (Elt Ideal) ((c.tc : Thread Cert.Kernel4Ideal.nD Cert.Kernel4Ideal.τ).loc Cert.Kernel4Ideal.main_v41_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v41_0) = v0 c
          ∧ r.2.mem ((c.tc : Thread Cert.Kernel4Ideal.nD Cert.Kernel4Ideal.τ).loc Cert.Kernel4Ideal.main_v41_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v50_0)) (v1 : (c : Dev Cert.Kernel5Ideal.nD) → Buf (Elt Ideal) ((c.tc : Thread Cert.Kernel5Ideal.nD Cert.Kernel5Ideal.τ).loc Cert.Kernel5Ideal.main_v50_1)) (v2 : (c : Dev Cert.Kernel5Ideal.nD) → Buf (Elt Ideal) ((c.tc : Thread Cert.Kernel5Ideal.nD Cert.Kernel5Ideal.τ).loc Cert.Kernel5Ideal.main_v50_2)) (v3 : (c : Dev Cert.Kernel5Ideal.nD) → Buf (Elt Ideal) ((c.tc : Thread Cert.Kernel5Ideal.nD Cert.Kernel5Ideal.τ).loc Cert.Kernel5Ideal.main_v50_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v50_0) = v0 c
          ∧ r.2.mem ((c.tc : Thread Cert.Kernel5Ideal.nD Cert.Kernel5Ideal.τ).loc Cert.Kernel5Ideal.main_v50_1) = v1 c
          ∧ r.2.mem ((c.tc : Thread Cert.Kernel5Ideal.nD Cert.Kernel5Ideal.τ).loc Cert.Kernel5Ideal.main_v50_2) = v2 c
          ∧ r.2.mem ((c.tc : Thread Cert.Kernel5Ideal.nD Cert.Kernel5Ideal.τ).loc Cert.Kernel5Ideal.main_v50_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v131) = v0 c
          ∧ r.2.mem ((c.tc : Thread Cert.Reference5Ideal.nD Cert.Reference5Ideal.τ).loc Cert.Reference5Ideal.main_v133) = v1 c
          ∧ r.2.mem ((c.tc : Thread Cert.Reference5Ideal.nD Cert.Reference5Ideal.τ).loc Cert.Reference5Ideal.main_v132) = v2 c
          ∧ r.2.mem ((c.tc : Thread Cert.Reference5Ideal.nD Cert.Reference5Ideal.τ).loc Cert.Reference5Ideal.main_v134) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v43) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v44) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)) (v3 : (c : Dev Cert.Kernel7Ideal.nD) → Buf (Elt Ideal) ((c.tc : Thread Cert.Kernel7Ideal.nD Cert.Kernel7Ideal.τ).loc Cert.Kernel7Ideal.main_v7_3)) (v4 : (c : Dev Cert.Kernel7Ideal.nD) → Buf (Elt Ideal) ((c.tc : Thread Cert.Kernel7Ideal.nD Cert.Kernel7Ideal.τ).loc Cert.Kernel7Ideal.main_v7_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_v7_3) = v3 c
          ∧ r.2.mem ((c.tc : Thread Cert.Kernel7Ideal.nD Cert.Kernel7Ideal.τ).loc Cert.Kernel7Ideal.main_v7_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_v110) = v1 c
          ∧ r.2.mem ((c.tc : Thread Cert.Reference7Ideal.nD Cert.Reference7Ideal.τ).loc Cert.Reference7Ideal.main_v112) = v2 c
          ∧ r.2.mem ((c.tc : Thread Cert.Reference7Ideal.nD Cert.Reference7Ideal.τ).loc Cert.Reference7Ideal.main_v113) = v3 c
          ∧ r.2.mem ((c.tc : Thread Cert.Reference7Ideal.nD Cert.Reference7Ideal.τ).loc Cert.Reference7Ideal.main_v114) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v50) = v0 c
          ∧ r.2.mem ((c.tc : Thread Cert.Reference9Ideal.nD Cert.Reference9Ideal.τ).loc Cert.Reference9Ideal.main_v51) = v1 c
          ∧ r.2.mem ((c.tc : Thread Cert.Reference9Ideal.nD Cert.Reference9Ideal.τ).loc Cert.Reference9Ideal.main_v52) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v15_0)) (v1 : (c : Dev Cert.Kernel10Ideal.nD) → Buf (Elt Ideal) ((c.tc : Thread Cert.Kernel10Ideal.nD Cert.Kernel10Ideal.τ).loc Cert.Kernel10Ideal.main_v15_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15_0) = v0 c
          ∧ r.2.mem ((c.tc : Thread Cert.Kernel10Ideal.nD Cert.Kernel10Ideal.τ).loc Cert.Kernel10Ideal.main_v15_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v39) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel13_Kernel13Ideal : Prop :=
  True

def algebraic_Kernel13Ideal_Reference13Ideal [hKernel13Ideal : Cert.Kernel13Ideal.Facts] [hReference13Ideal : Cert.Reference13Ideal.Facts] [hPre_pre13 : Cert.Pre_pre13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_v41) = v1 c
          ∧ r.2.mem ((c.tc : Thread Cert.Reference13Ideal.nD Cert.Reference13Ideal.τ).loc Cert.Reference13Ideal.main_v22) = v2 c
          ∧ r.2.mem ((c.tc : Thread Cert.Reference13Ideal.nD Cert.Reference13Ideal.τ).loc Cert.Reference13Ideal.main_v28) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] [hPre_pre14 : Cert.Pre_pre14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_v41) = v1 c
          ∧ r.2.mem ((c.tc : Thread Cert.Reference14Ideal.nD Cert.Reference14Ideal.τ).loc Cert.Reference14Ideal.main_v22) = v2 c
          ∧ r.2.mem ((c.tc : Thread Cert.Reference14Ideal.nD Cert.Reference14Ideal.τ).loc Cert.Reference14Ideal.main_v28) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] [hPre_pre15 : Cert.Pre_pre15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_v41) = v1 c
          ∧ r.2.mem ((c.tc : Thread Cert.Reference15Ideal.nD Cert.Reference15Ideal.τ).loc Cert.Reference15Ideal.main_v22) = v2 c
          ∧ r.2.mem ((c.tc : Thread Cert.Reference15Ideal.nD Cert.Reference15Ideal.τ).loc Cert.Reference15Ideal.main_v28) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  True

def algebraic_Kernel16Ideal_Reference16Ideal [hKernel16Ideal : Cert.Kernel16Ideal.Facts] [hReference16Ideal : Cert.Reference16Ideal.Facts] [hPre_pre16 : Cert.Pre_pre16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v17) = v0 c
          ∧ r.2.mem ((c.tc : Thread Cert.Reference16Ideal.nD Cert.Reference16Ideal.τ).loc Cert.Reference16Ideal.main_v41) = v1 c
          ∧ r.2.mem ((c.tc : Thread Cert.Reference16Ideal.nD Cert.Reference16Ideal.τ).loc Cert.Reference16Ideal.main_v22) = v2 c
          ∧ r.2.mem ((c.tc : Thread Cert.Reference16Ideal.nD Cert.Reference16Ideal.τ).loc Cert.Reference16Ideal.main_v28) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel18_Kernel18Ideal : Prop :=
  True

def algebraic_Kernel18Ideal_Reference18Ideal [hKernel18Ideal : Cert.Kernel18Ideal.Facts] [hReference18Ideal : Cert.Reference18Ideal.Facts] [hPre_pre18 : Cert.Pre_pre18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel18 : Cert.Kernel18.Facts) (hKernel18Ideal : Cert.Kernel18Ideal.Facts) (hReference18Ideal : Cert.Reference18Ideal.Facts) (hPre_pre13 : Cert.Pre_pre13.Facts) (hPre_pre14 : Cert.Pre_pre14.Facts) (hPre_pre15 : Cert.Pre_pre15.Facts) (hPre_pre16 : Cert.Pre_pre16.Facts) (hPre_pre18 : Cert.Pre_pre18.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13) (hPre_pre13 := hPre_pre13)
    ∧ quiescent_Kernel13Ideal (hKernel13Ideal := hKernel13Ideal) (hPre_pre13 := hPre_pre13)
    ∧ quiescent_Reference13Ideal (hReference13Ideal := hReference13Ideal)
    ∧ quiescent_Reference13Ideal_pre_pre13 (hReference13Ideal := hReference13Ideal) (hPre_pre13 := hPre_pre13)
    ∧ quiescent_Kernel14 (hKernel14 := hKernel14) (hPre_pre14 := hPre_pre14)
    ∧ quiescent_Kernel14Ideal (hKernel14Ideal := hKernel14Ideal) (hPre_pre14 := hPre_pre14)
    ∧ quiescent_Reference14Ideal (hReference14Ideal := hReference14Ideal)
    ∧ quiescent_Reference14Ideal_pre_pre14 (hReference14Ideal := hReference14Ideal) (hPre_pre14 := hPre_pre14)
    ∧ quiescent_Kernel15 (hKernel15 := hKernel15) (hPre_pre15 := hPre_pre15)
    ∧ quiescent_Kernel15Ideal (hKernel15Ideal := hKernel15Ideal) (hPre_pre15 := hPre_pre15)
    ∧ quiescent_Reference15Ideal (hReference15Ideal := hReference15Ideal)
    ∧ quiescent_Reference15Ideal_pre_pre15 (hReference15Ideal := hReference15Ideal) (hPre_pre15 := hPre_pre15)
    ∧ quiescent_Kernel16 (hKernel16 := hKernel16) (hPre_pre16 := hPre_pre16)
    ∧ quiescent_Kernel16Ideal (hKernel16Ideal := hKernel16Ideal) (hPre_pre16 := hPre_pre16)
    ∧ quiescent_Reference16Ideal (hReference16Ideal := hReference16Ideal)
    ∧ quiescent_Reference16Ideal_pre_pre16 (hReference16Ideal := hReference16Ideal) (hPre_pre16 := hPre_pre16)
    ∧ quiescent_Kernel18 (hKernel18 := hKernel18) (hPre_pre18 := hPre_pre18)
    ∧ quiescent_Kernel18Ideal (hKernel18Ideal := hKernel18Ideal) (hPre_pre18 := hPre_pre18)
    ∧ quiescent_Reference18Ideal (hReference18Ideal := hReference18Ideal)
    ∧ quiescent_Reference18Ideal_pre_pre18 (hReference18Ideal := hReference18Ideal) (hPre_pre18 := hPre_pre18)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal) (hPre_pre13 := hPre_pre13)
    ∧ preserves_Kernel14_Kernel14Ideal
    ∧ algebraic_Kernel14Ideal_Reference14Ideal (hKernel14Ideal := hKernel14Ideal) (hReference14Ideal := hReference14Ideal) (hPre_pre14 := hPre_pre14)
    ∧ preserves_Kernel15_Kernel15Ideal
    ∧ algebraic_Kernel15Ideal_Reference15Ideal (hKernel15Ideal := hKernel15Ideal) (hReference15Ideal := hReference15Ideal) (hPre_pre15 := hPre_pre15)
    ∧ preserves_Kernel16_Kernel16Ideal
    ∧ algebraic_Kernel16Ideal_Reference16Ideal (hKernel16Ideal := hKernel16Ideal) (hReference16Ideal := hReference16Ideal) (hPre_pre16 := hPre_pre16)
    ∧ preserves_Kernel18_Kernel18Ideal
    ∧ algebraic_Kernel18Ideal_Reference18Ideal (hKernel18Ideal := hKernel18Ideal) (hReference18Ideal := hReference18Ideal) (hPre_pre18 := hPre_pre18)
-- ==== Pre_pre13.lean ====
abbrev S1 : Shape := ⟨1, ![1]⟩
abbrev S8x128x1024 : Shape := ⟨3, ![8, 128, 1024]⟩
abbrev S7x128x1024 : Shape := ⟨3, ![7, 128, 1024]⟩
abbrev S2x128x1024 : Shape := ⟨3, ![2, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x128x1024 .f32) (main_arg2 : FVec F S8x128x1024 .f32) (main_arg3 : FVec F S7x128x1024 .bf16) (main_arg4 : FVec F S7x128x1024 .bf16) (main_arg5 : FVec F S2x128x1024 .f32) (main_arg6 : FVec F S2x128x1024 .f32) (main_arg7 : FVec F S2x128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pre14.lean ====
abbrev S1 : Shape := ⟨1, ![1]⟩
abbrev S8x1024x512 : Shape := ⟨3, ![8, 1024, 512]⟩
abbrev S7x1024x512 : Shape := ⟨3, ![7, 1024, 512]⟩
abbrev S2x1024x512 : Shape := ⟨3, ![2, 1024, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x512 .f32) (main_arg2 : FVec F S8x1024x512 .f32) (main_arg3 : FVec F S7x1024x512 .bf16) (main_arg4 : FVec F S7x1024x512 .bf16) (main_arg5 : FVec F S2x1024x512 .f32) (main_arg6 : FVec F S2x1024x512 .f32) (main_arg7 : FVec F S2x1024x512 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pre15.lean ====
abbrev S1 : Shape := ⟨1, ![1]⟩
abbrev S8x512x1024 : Shape := ⟨3, ![8, 512, 1024]⟩
abbrev S7x512x1024 : Shape := ⟨3, ![7, 512, 1024]⟩
abbrev S2x512x1024 : Shape := ⟨3, ![2, 512, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x512x1024 .f32) (main_arg2 : FVec F S8x512x1024 .f32) (main_arg3 : FVec F S7x512x1024 .bf16) (main_arg4 : FVec F S7x512x1024 .bf16) (main_arg5 : FVec F S2x512x1024 .f32) (main_arg6 : FVec F S2x512x1024 .f32) (main_arg7 : FVec F S2x512x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pre16.lean ====
abbrev S1 : Shape := ⟨1, ![1]⟩
abbrev S8x224x1024 : Shape := ⟨3, ![8, 224, 1024]⟩
abbrev S7x224x1024 : Shape := ⟨3, ![7, 224, 1024]⟩
abbrev S2x224x1024 : Shape := ⟨3, ![2, 224, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x224x1024 .f32) (main_arg2 : FVec F S8x224x1024 .f32) (main_arg3 : FVec F S7x224x1024 .bf16) (main_arg4 : FVec F S7x224x1024 .bf16) (main_arg5 : FVec F S2x224x1024 .f32) (main_arg6 : FVec F S2x224x1024 .f32) (main_arg7 : FVec F S2x224x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pre18.lean ====
abbrev S1 : Shape := ⟨1, ![1]⟩
abbrev S784x128 : Shape := ⟨2, ![784, 128]⟩
abbrev S7x784x128 : Shape := ⟨3, ![7, 784, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S784x128 .f32) (main_arg2 : FVec F S7x784x128 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel2.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x512x1024 : Shape := ⟨3, ![8, 512, 1024]⟩
abbrev S512x1024 : Shape := ⟨2, ![512, 1024]⟩
abbrev S512x4096 : Shape := ⟨2, ![512, 4096]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩

abbrev nBuf : Space → Nat
  | .hbm => 37
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .bf16⟩
  | .hbm, ⟨27, _⟩ => ⟨S4096x1024, .f32⟩
  | .hbm, ⟨28, _⟩ => ⟨S4096x1024, .bf16⟩
  | .hbm, ⟨29, _⟩ => ⟨S1x1024, .f32⟩
  | .hbm, ⟨30, _⟩ => ⟨S4096x1024, .bf16⟩
  | .hbm, ⟨31, _⟩ => ⟨S8x512x1024, .bf16⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S8192x4096, .bf16⟩
  | .hbm, ⟨36, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4096x1024, .bf16⟩
  | .local _ .vmem, ⟨8, _⟩ => ⟨S8x512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x4096, .bf16⟩
  | .local _ .vmem, ⟨16, _⟩ => ⟨S512x4096, .bf16⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S8192x4096, .f32⟩
  | .hbm, ⟨90, _⟩ => ⟨S_, .f32⟩
  | .hbm, ⟨91, _⟩ => ⟨S8192x4096, .f32⟩
  | .hbm, ⟨92, _⟩ => ⟨S8192x4096, .f32⟩
  | .hbm, ⟨93, _⟩ => ⟨S_, .f32⟩
  | .hbm, ⟨94, _⟩ => ⟨S8192x4096, .f32⟩
  | .hbm, ⟨95, _⟩ => ⟨S8192x4096, .i1⟩
  | .hbm, ⟨96, _⟩ => ⟨S_, .f32⟩
  | .hbm, ⟨97, _⟩ => ⟨S8192x4096, .f32⟩
  | .hbm, ⟨98, _⟩ => ⟨S8192x4096, .f32⟩
  | .hbm, ⟨99, _⟩ => ⟨S_, .f32⟩
  | .hbm, ⟨100, _⟩ => ⟨S8192x4096, .f32⟩
  | .hbm, ⟨101, _⟩ => ⟨S8192x4096, .f32⟩
  | .hbm, ⟨102, _⟩ => ⟨S8192x1024, .f32⟩
  | .hbm, ⟨103, _⟩ => ⟨S8192x4096, .f32⟩
  | .hbm, ⟨104, _⟩ => ⟨S8192x4096, .f32⟩
  | .hbm, ⟨105, _⟩ => ⟨S_, .f32⟩
  | .hbm, ⟨106, _⟩ => ⟨S8192x4096, .f32⟩
  | .hbm, ⟨107, _⟩ => ⟨S8192x4096, .f32⟩
  | .hbm, ⟨108, _⟩ => ⟨S8192x1024, .bf16⟩
  | .hbm, ⟨109, _⟩ => ⟨S8192x1024, .bf16⟩
  | .hbm, ⟨110, _⟩ => ⟨S8192x4096, .bf16⟩
  | .hbm, ⟨111, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x512x1024 : Shape := ⟨3, ![8, 512, 1024]⟩
abbrev S1024x2048 : Shape := ⟨2, ![1024, 2048]⟩
abbrev S1024x1024 : Shape := ⟨2, ![1024, 1024]⟩
abbrev S4x512x1024 : Shape := ⟨3, ![4, 512, 1024]⟩
abbrev S2048x1024 : Shape := ⟨2, ![2048, 1024]⟩
abbrev S512x1024 : Shape := ⟨2, ![512, 1024]⟩
abbrev S1x512x1024 : Shape := ⟨3, ![1, 512, 1024]⟩

abbrev nBuf : Space → Nat
  | .hbm => 29
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S8192x1024, .bf16⟩
  | .hbm, ⟨27, _⟩ => ⟨S8x512x1024, .f32⟩
  | .hbm, ⟨28, _⟩ => ⟨S8x512x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x1024, .f32⟩
  | .local _ .vmem, ⟨5, _⟩ => ⟨S4x512x1024, .f32⟩
  | .local _ .vmem, ⟨6, _⟩ => ⟨S4x512x1024, .bf16⟩
  | .local _ .vmem, ⟨7, _⟩ => ⟨S4x512x1024, .bf16⟩
  | .local _ .vmem, ⟨8, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference3Ideal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S4096x1024 : Shape := ⟨2, ![4096, 1024]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x512x1024 : Shape := ⟨3, ![8, 512, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S1024x4096, .f32⟩
  | .hbm, ⟨30, _⟩ => ⟨S4096x1024, .f32⟩
  | .hbm, ⟨31, _⟩ => ⟨S8x512x1024, .f32⟩
  | .hbm, ⟨32, _⟩ => ⟨S8x512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x1024x512 : Shape := ⟨3, ![8, 1024, 512]⟩
abbrev S1024x1024 : Shape := ⟨2, ![1024, 1024]⟩
abbrev S1024x2048 : Shape := ⟨2, ![1024, 2048]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 60
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .i1⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S8192x1024, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S8192x4096, .bf16⟩
  | .hbm, ⟨58, _⟩ => ⟨S8x1024x512, .f32⟩
  | .hbm, ⟨59, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S4x1024x512, .f32⟩
  | .local _ .vmem, ⟨5, _⟩ => ⟨S4x1024x512, .f32⟩
  | .local _ .vmem, ⟨6, _⟩ => ⟨S4x1024x512, .bf16⟩
  | .local _ .vmem, ⟨7, _⟩ => ⟨S4x1024x512, .bf16⟩
  | .local _ .vmem, ⟨8, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference4Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x8x512 : Shape := ⟨3, ![1024, 8, 512]⟩
abbrev S8x1024x512 : Shape := ⟨3, ![8, 1024, 512]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S4096x1024, .f32⟩
  | .hbm, ⟨42, _⟩ => ⟨S1024x4096, .f32⟩
  | .hbm, ⟨43, _⟩ => ⟨S1024x8x512, .f32⟩
  | .hbm, ⟨44, _⟩ => ⟨S8x1024x512, .f32⟩
  | .hbm, ⟨45, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x1024 : Shape := ⟨2, ![1024, 1024]⟩
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x256 : Shape := ⟨2, ![8192, 256]⟩
abbrev S256 : Shape := ⟨1, ![256]⟩
abbrev S1x256 : Shape := ⟨2, ![1, 256]⟩
abbrev S1x1024 : Shape := ⟨2, ![1, 1024]⟩
abbrev S8x128x1024 : Shape := ⟨3, ![8, 128, 1024]⟩
abbrev S512x1024 : Shape := ⟨2, ![512, 1024]⟩
abbrev S512x512 : Shape := ⟨2, ![512, 512]⟩
abbrev S512x1 : Shape := ⟨2, ![512, 1]⟩
abbrev S512x256 : Shape := ⟨2, ![512, 256]⟩
abbrev S128x1024 : Shape := ⟨2, ![128, 1024]⟩
abbrev S1x128x1024 : Shape := ⟨3, ![1, 128, 1024]⟩

abbrev nBuf : Space → Nat
  | .hbm => 67
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x512, .f32⟩
  | .hbm, ⟨5, _⟩ => ⟨S512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x256, .f32⟩
  | .hbm, ⟨23, _⟩ => ⟨S256, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x256, .f32⟩
  | .hbm, ⟨36, _⟩ => ⟨S8192x256, .f32⟩
  | .hbm, ⟨37, _⟩ => ⟨S1x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S256, .f32⟩
  | .hbm, ⟨42, _⟩ => ⟨S8192x256, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x256, .f32⟩
  | .hbm, ⟨54, _⟩ => ⟨S8192x256, .f32⟩
  | .hbm, ⟨55, _⟩ => ⟨S1x256, .f32⟩
  | .hbm, ⟨56, _⟩ => ⟨S8192x256, .f32⟩
  | .hbm, ⟨57, _⟩ => ⟨S8192x256, .f32⟩
  | .hbm, ⟨58, _⟩ => ⟨S8192x1024, .f32⟩
  | .hbm, ⟨59, _⟩ => ⟨S8192x1024, .bf16⟩
  | .hbm, ⟨60, _⟩ => ⟨S8192x1024, .bf16⟩
  | .hbm, ⟨61, _⟩ => ⟨S1x1024, .f32⟩
  | .hbm, ⟨62, _⟩ => ⟨S1024x1024, .bf16⟩
  | .hbm, ⟨63, _⟩ => ⟨S8192x1024, .f32⟩
  | .hbm, ⟨64, _⟩ => ⟨S1x1024, .f32⟩
  | .hbm, ⟨65, _⟩ => ⟨S8x128x1024, .f32⟩
  | .hbm, ⟨66, _⟩ => ⟨S8x128x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x128x1024, .f32⟩
  | .local _ .vmem, ⟨12, _⟩ => ⟨S8x128x1024, .bf16⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v50_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v114 : BitVec 1 := Scalar.cmpi .eq arg0 c15_i32
  let v115 : BitVec 32 := Scalar.extui v114
  let c0_i32_39 : BitVec 32 := 0#32
  let v116 : BitVec 1 := Scalar.cmpi .ne v115 c0_i32_39
  v116

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S8192x1024 : Shape := ⟨2, ![8192, 1024]⟩
abbrev S1024 : Shape := ⟨1, ![1024]⟩
abbrev S1024x1024 : Shape := ⟨2, ![1024, 1024]⟩
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x256 : Shape := ⟨2, ![8192, 256]⟩
abbrev S256 : Shape := ⟨1, ![256]⟩
abbrev S1x256 : Shape := ⟨2, ![1, 256]⟩
abbrev S8x128x1024 : Shape := ⟨3, ![8, 128, 1024]⟩
abbrev S1x1024 : Shape := ⟨2, ![1, 1024]⟩

abbrev nBuf : Space → Nat
  | .hbm => 172
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x1024, .f32⟩
  | 4 => ⟨S8192x512, .f32⟩
  | 5 => ⟨S512, .f32⟩
  | 6 => ⟨S8192x512, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x512, .f32⟩
  | 22 => ⟨S8192x512, .f32⟩
  | 23 => ⟨S1x512, .f32⟩
  | 24 => ⟨S8192x512, .f32⟩
  | 25 => ⟨S8192x512, .f32⟩
  | 26 => ⟨S8192x256, .f32⟩
  | 27 => ⟨S256, .f32⟩
  | 28 => ⟨S8192x256, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x256, .f32⟩
  | 44 => ⟨S8192x256, .f32⟩
  | 45 => ⟨S1x256, .f32⟩
  | 46 => ⟨S8192x256, .f32⟩
  | 47 => ⟨S8192x256, .f32⟩
  | 48 => ⟨S8192x256, .f32⟩
  | 49 => ⟨S256, .f32⟩
  | 50 => ⟨S8192x256, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x256, .f32⟩
  | 66 => ⟨S8192x256, .f32⟩
  | 67 => ⟨S1x256, .f32⟩
  | 68 => ⟨S8192x256, .f32⟩
  | 69 => ⟨S8192x256, .f32⟩
  | 70 => ⟨S8192x1024, .f32⟩
  | 71 => ⟨S8192x1024, .f32⟩
  | 72 => ⟨S1024x1024, .f32⟩
  | 73 => ⟨S1024x1024, .f32⟩
  | 74 => ⟨S8192x1024, .f32⟩
  | 75 => ⟨S8192x512, .f32⟩
  | 76 => ⟨S8192x256, .f32⟩
  | 77 => ⟨S8192x256, .f32⟩
  | 78 => ⟨S8192x256, .f32⟩
  | 79 => ⟨S_, .f32⟩
  | 80 => ⟨S256, .f32⟩
  | 81 => ⟨S1x256, .f32⟩
  | 82 => ⟨S8192x256, .f32⟩
  | 83 => ⟨S8192x256, .f32⟩
  | 84 => ⟨S_, .f32⟩
  | 85 => ⟨S256, .f32⟩
  | 86 => ⟨S8192x256, .f32⟩
  | 87 => ⟨S_, .f32⟩
  | 88 => ⟨S8192, .f32⟩
  | 89 => ⟨S8192x1, .f32⟩
  | 90 => ⟨S8192x256, .f32⟩
  | 91 => ⟨S8192x256, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S_, .f32⟩
  | 104 => ⟨S1024, .f32⟩
  | 105 => ⟨S_, .f32⟩
  | 106 => ⟨S8192x1024, .f32⟩
  | 107 => ⟨S8192x256, .f32⟩
  | 108 => ⟨S_, .f32⟩
  | 109 => ⟨S256, .f32⟩
  | 110 => ⟨S1x256, .f32⟩
  | 111 => ⟨S8192x256, .f32⟩
  | 112 => ⟨S8192x256, .f32⟩
  | 113 => ⟨S_, .f32⟩
  | 114 => ⟨S256, .f32⟩
  | 115 => ⟨S8192x256, .f32⟩
  | 116 => ⟨S_, .f32⟩
  | 117 => ⟨S8192, .f32⟩
  | 118 => ⟨S8192x1, .f32⟩
  | 119 => ⟨S8192x256, .f32⟩
  | 120 => ⟨S8192x256, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x256, .f32⟩
  | _ => ⟨S8192x1024, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S_, .f32⟩
  | 5 => ⟨S1024, .f32⟩
  | 6 => ⟨S1024, .f32⟩
  | 7 => ⟨S_, .f32⟩
  | 8 => ⟨S8192x1024, .f32⟩
  | 9 => ⟨S8192x1024, .f32⟩
  | 10 => ⟨S8192x512, .f32⟩
  | 11 => ⟨S_, .f32⟩
  | 12 => ⟨S512, .f32⟩
  | 13 => ⟨S1x512, .f32⟩
  | 14 => ⟨S8192x512, .f32⟩
  | 15 => ⟨S8192x512, .f32⟩
  | 16 => ⟨S_, .f32⟩
  | 17 => ⟨S512, .f32⟩
  | 18 => ⟨S8192x512, .f32⟩
  | 19 => ⟨S_, .f32⟩
  | 20 => ⟨S8192, .f32⟩
  | 21 => ⟨S8192x1, .f32⟩
  | 22 => ⟨S8192x512, .f32⟩
  | 23 => ⟨S8192x512, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S_, .f32⟩
  | 36 => ⟨S1024, .f32⟩
  | 37 => ⟨S1024, .f32⟩
  | 38 => ⟨S_, .f32⟩
  | 39 => ⟨S8192x1024, .f32⟩
  | 40 => ⟨S8192x1024, .f32⟩
  | 41 => ⟨S8x128x1024, .f32⟩
  | 42 => ⟨S1x1024, .f32⟩
  | 43 => ⟨S8x128x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_v75 : Ref sig .tc := ⟨.hbm, 95, rfl⟩
abbrev main_cst_15 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_cst_17 : Ref sig .tc := ⟨.hbm, 105, rfl⟩
abbrev main_v83 : Ref sig .tc := ⟨.hbm, 106, rfl⟩
abbrev main_v84 : Ref sig .tc := ⟨.hbm, 107, rfl⟩
abbrev main_cst_18 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_cst_20 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_21 : Ref sig .tc := ⟨.hbm, 122, rfl⟩
abbrev main_v96 : Ref sig .tc := ⟨.hbm, 123, rfl⟩
abbrev main_v97 : Ref sig .tc := ⟨.hbm, 124, rfl⟩
abbrev main_cst_22 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_23 : Ref sig .tc := ⟨.hbm, 132, rfl⟩
abbrev main_v104 : Ref sig .tc := ⟨.hbm, 133, rfl⟩
abbrev main_v105 : Ref sig .tc := ⟨.hbm, 134, rfl⟩
abbrev main_cst_24 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_25 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_26 : Ref sig .tc := ⟨.hbm, 144, rfl⟩
abbrev main_v113 : Ref sig .tc := ⟨.hbm, 145, rfl⟩
abbrev main_v114 : Ref sig .tc := ⟨.hbm, 146, rfl⟩
abbrev main_cst_27 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_28 : Ref sig .tc := ⟨.hbm, 153, rfl⟩
abbrev main_v120 : Ref sig .tc := ⟨.hbm, 154, rfl⟩
abbrev main_v121 : Ref sig .tc := ⟨.hbm, 155, rfl⟩
abbrev main_cst_29 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_30 : Ref sig .tc := ⟨.hbm, 163, rfl⟩
abbrev main_v128 : Ref sig .tc := ⟨.hbm, 164, rfl⟩
abbrev main_v129 : Ref sig .tc := ⟨.hbm, 165, rfl⟩
abbrev main_cst_31 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩

abbrev nD : Nat := 1
abbrev τ : Topo := Topo.v7x

variable {F : FTy → Type} [FloatOps F]
-- ==== Kernel6.lean ====
abbrev S8192x1792 : Shape := ⟨2, ![8192, 1792]⟩
abbrev S8192x1024 : Shape := ⟨2, ![8192, 1024]⟩
abbrev S1024 : Shape := ⟨1, ![1024]⟩
abbrev S1024x1792 : Shape := ⟨2, ![1024, 1792]⟩
abbrev S1792x1024 : Shape := ⟨2, ![1792, 1024]⟩
abbrev S1x1024 : Shape := ⟨2, ![1, 1024]⟩
abbrev S8x224x1024 : Shape := ⟨3, ![8, 224, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩
abbrev S224x1024 : Shape := ⟨2, ![224, 1024]⟩
abbrev S1x224x1024 : Shape := ⟨3, ![1, 224, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1792, .f32⟩
  | .hbm, ⟨5, _⟩ => ⟨S1792x1024, .f32⟩
  | .hbm, ⟨6, _⟩ => ⟨S1792x1024, .bf16⟩
  | .hbm, ⟨7, _⟩ => ⟨S8192x1792, .bf16⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S8x224x1024, .f32⟩
  | .hbm, ⟨12, _⟩ => ⟨S8x224x1024, .bf16⟩
  | .local _ .vmem, ⟨0, _⟩ => ⟨S512x1792, .bf16⟩
  | .local _ .vmem, ⟨1, _⟩ => ⟨S512x1792, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1792x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x224x1024, .f32⟩
  | .local _ .vmem, ⟨12, _⟩ => ⟨S8x224x1024, .bf16⟩
  | .local _ .vmem, ⟨13, _⟩ => ⟨S1792x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v54 : BitVec 1 := Scalar.cmpi .eq arg0 c15_i32
  let v55 : BitVec 32 := Scalar.extui v54
  let c0_i32_29 : BitVec 32 := 0#32
  let v56 : BitVec 1 := Scalar.cmpi .ne v55 c0_i32_29
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x224x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x224x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x1792 : Shape := ⟨2, ![8192, 1792]⟩
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1792x1024 : Shape := ⟨2, ![1792, 1024]⟩
abbrev S8x224x1024 : Shape := ⟨3, ![8, 224, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1792, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1792, .f32⟩
  | .hbm, ⟨26, _⟩ => ⟨S1792x1024, .f32⟩
  | .hbm, ⟨27, _⟩ => ⟨S1024x1792, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1792x1024, .f32⟩
  | .hbm, ⟨56, _⟩ => ⟨S8x224x1024, .f32⟩
  | .hbm, ⟨57, _⟩ => ⟨S1x1024, .f32⟩
  | .hbm, ⟨58, _⟩ => ⟨S8x224x1024, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S512x256 : Shape := ⟨2, ![512, 256]⟩
abbrev S1x256 : Shape := ⟨2, ![1, 256]⟩
abbrev S1x1024x512 : Shape := ⟨3, ![1, 1024, 512]⟩
abbrev S1024x512 : Shape := ⟨2, ![1024, 512]⟩

abbrev nBuf : Space → Nat
  | .hbm => 19
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S4096x1024, .bf16⟩
  | .hbm, ⟨14, _⟩ => ⟨S8192x1024, .f32⟩
  | .hbm, ⟨15, _⟩ => ⟨S8192x4096, .bf16⟩
  | .hbm, ⟨16, _⟩ => ⟨S8192x1024, .f32⟩
  | .hbm, ⟨17, _⟩ => ⟨S8192x1024, .bf16⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S8x1024x512, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S8192x1024 : Shape := ⟨2, ![8192, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x256 : Shape := ⟨2, ![8192, 256]⟩
abbrev S256 : Shape := ⟨1, ![256]⟩
abbrev S1x256 : Shape := ⟨2, ![1, 256]⟩
abbrev S1x1024 : Shape := ⟨2, ![1, 1024]⟩
abbrev S8192x4096 : Shape := ⟨2, ![8192, 4096]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x1024, .f32⟩
  | 4 => ⟨S1024, .f32⟩
  | 5 => ⟨S1024x4096, .f32⟩
  | 6 => ⟨S4096x1024, .f32⟩
  | 7 => ⟨S8192x512, .f32⟩
  | 8 => ⟨S512, .f32⟩
  | 9 => ⟨S8192x512, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x512, .f32⟩
  | 21 => ⟨S8192x512, .f32⟩
  | 22 => ⟨S1x512, .f32⟩
  | 23 => ⟨S8192x512, .f32⟩
  | 24 => ⟨S8192x512, .f32⟩
  | 25 => ⟨S8192x256, .f32⟩
  | 26 => ⟨S256, .f32⟩
  | 27 => ⟨S8192x256, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x256, .f32⟩
  | 39 => ⟨S8192x256, .f32⟩
  | 40 => ⟨S1x256, .f32⟩
  | 41 => ⟨S8192x256, .f32⟩
  | 42 => ⟨S8192x256, .f32⟩
  | 43 => ⟨S8192x256, .f32⟩
  | 44 => ⟨S256, .f32⟩
  | 45 => ⟨S8192x256, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x256, .f32⟩
  | 57 => ⟨S8192x256, .f32⟩
  | 58 => ⟨S1x256, .f32⟩
  | 59 => ⟨S8192x256, .f32⟩
  | 60 => ⟨S8192x256, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x4096, .f32⟩
  | 81 => ⟨S_, .f32⟩
  | 82 => ⟨S8192x4096, .f32⟩
  | 83 => ⟨S8192x4096, .f32⟩
  | 84 => ⟨S8192x4096, .f32⟩
  | 85 => ⟨S8192x512, .f32⟩
  | 86 => ⟨S512, .f32⟩
  | 87 => ⟨S8192x512, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x512, .f32⟩
  | 99 => ⟨S8192x512, .f32⟩
  | 100 => ⟨S1x512, .f32⟩
  | 101 => ⟨S8192x512, .f32⟩
  | 102 => ⟨S8192x512, .f32⟩
  | 103 => ⟨S8192x256, .f32⟩
  | 104 => ⟨S256, .f32⟩
  | 105 => ⟨S8192x256, .f32⟩
  | 106 => ⟨S_, .f32⟩
  | 107 => ⟨S8192, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192x1, .f32⟩
  | 114 => ⟨S8192x1, .f32⟩
  | 115 => ⟨S8192x1, .f32⟩
  | 116 => ⟨S8192x256, .f32⟩
  | 117 => ⟨S8192x256, .f32⟩
  | 118 => ⟨S1x256, .f32⟩
  | 119 => ⟨S8192x256, .f32⟩
  | 120 => ⟨S8192x256, .f32⟩
  | 121 => ⟨S8192x256, .f32⟩
  | 122 => ⟨S256, .f32⟩
  | 123 => ⟨S8192x256, .f32⟩
  | 124 => ⟨S_, .f32⟩
  | 125 => ⟨S8192, .f32⟩
  | 126 => ⟨S8192x1, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x256, .f32⟩
  | 7 => ⟨S8192x256, .f32⟩
  | 8 => ⟨S1x256, .f32⟩
  | 9 => ⟨S8192x256, .f32⟩
  | 10 => ⟨S8192x256, .f32⟩
  | 11 => ⟨S8192x1024, .f32⟩
  | 12 => ⟨S8192x4096, .bf16⟩
  | 13 => ⟨S8192x1024, .f32⟩
  | 14 => ⟨S8192x1024, .f32⟩
  | 15 => ⟨S8192x1024, .bf16⟩
  | 16 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call0_cst : Ref sig .tc := ⟨.hbm, 81, rfl⟩
abbrev main_call0_v0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_v83 : Ref sig .tc := ⟨.hbm, 108, rfl⟩
abbrev main_cst_15 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_17 : Ref sig .tc := ⟨.hbm, 124, rfl⟩
abbrev main_v97 : Ref sig .tc := ⟨.hbm, 125, rfl⟩
abbrev main_v98 : Ref sig .tc := ⟨.hbm, 126, rfl⟩
abbrev main_cst_18 : Ref sig .tc := ⟨.hbm, 127, rfl⟩
abbrev main_v99 : Ref sig .tc := ⟨.hbm, 128, rfl⟩
abbrev main_v100 : Ref sig .tc := ⟨.hbm, 129, rfl⟩
abbrev main_cst_19 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S8192x1792 : Shape := ⟨2, ![8192, 1792]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1792x1024, .f32⟩
  | .hbm, ⟨5, _⟩ => ⟨S1792x1024, .bf16⟩
  | .hbm, ⟨6, _⟩ => ⟨S8192x1792, .f32⟩
  | .hbm, ⟨7, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1792x1024, .bf16⟩
  | .local _ .vmem, ⟨4, _⟩ => ⟨S1024x1792, .f32⟩
  | .local _ .vmem, ⟨5, _⟩ => ⟨S1024x1792, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1792, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel10.lean ====
abbrev S8192x1792 : Shape := ⟨2, ![8192, 1792]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x224x1024 : Shape := ⟨3, ![8, 224, 1024]⟩
abbrev S1024x1792 : Shape := ⟨2, ![1024, 1792]⟩
abbrev S1024x1024 : Shape := ⟨2, ![1024, 1024]⟩
abbrev S1792x1024 : Shape := ⟨2, ![1792, 1024]⟩
abbrev S224x1024 : Shape := ⟨2, ![224, 1024]⟩
abbrev S1x224x1024 : Shape := ⟨3, ![1, 224, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1792, .bf16⟩
  | .hbm, ⟨21, _⟩ => ⟨S8x224x1024, .f32⟩
  | .hbm, ⟨22, _⟩ => ⟨S8x224x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1024, .bf16⟩
  | .local _ .vmem, ⟨3, _⟩ => ⟨S1024x1024, .bf16⟩
  | .local _ .vmem, ⟨4, _⟩ => ⟨S8x224x1024, .f32⟩
  | .local _ .vmem, ⟨5, _⟩ => ⟨S8x224x1024, .bf16⟩
  | .local _ .vmem, ⟨6, _⟩ => ⟨S1792x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S8x224x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]
-- ==== Reference10Ideal.lean ====
abbrev S8192x1792 : Shape := ⟨2, ![8192, 1792]⟩
abbrev S8192x1024 : Shape := ⟨2, ![8192, 1024]⟩
abbrev S1024 : Shape := ⟨1, ![1024]⟩
abbrev S_ : Shape := ⟨0, ![]⟩
abbrev S1024x1792 : Shape := ⟨2, ![1024, 1792]⟩
abbrev S8192 : Shape := ⟨1, ![8192]⟩
abbrev S8192x1 : Shape := ⟨2, ![8192, 1]⟩
abbrev S1x1024 : Shape := ⟨2, ![1, 1024]⟩
abbrev S1792x1024 : Shape := ⟨2, ![1792, 1024]⟩
abbrev S8x224x1024 : Shape := ⟨3, ![8, 224, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x1792, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1792, .f32⟩
  | .hbm, ⟨22, _⟩ => ⟨S1792x1024, .f32⟩
  | .hbm, ⟨23, _⟩ => ⟨S1024x1792, .f32⟩
  | .hbm, ⟨24, _⟩ => ⟨S1792x1024, .f32⟩
  | .hbm, ⟨25, _⟩ => ⟨S8x224x1024, .f32⟩
  | .hbm, ⟨26, _⟩ => ⟨S8x224x1024, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel11.lean ====
abbrev S8192x1792 : Shape := ⟨2, ![8192, 1792]⟩
abbrev S8192x1024 : Shape := ⟨2, ![8192, 1024]⟩
abbrev S1024 : Shape := ⟨1, ![1024]⟩
abbrev S1024x1792 : Shape := ⟨2, ![1024, 1792]⟩
abbrev S1792x1024 : Shape := ⟨2, ![1792, 1024]⟩
abbrev S_ : Shape := ⟨0, ![]⟩
abbrev S8x128 : Shape := ⟨2, ![8, 128]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1792, .f32⟩
  | .hbm, ⟨5, _⟩ => ⟨S1792x1024, .f32⟩
  | .hbm, ⟨6, _⟩ => ⟨S1792x1024, .bf16⟩
  | .hbm, ⟨7, _⟩ => ⟨S_, .f32⟩
  | .hbm, ⟨8, _⟩ => ⟨S8x128, .f32⟩
  | .hbm, ⟨9, _⟩ => ⟨S8192x1792, .bf16⟩
  | .hbm, ⟨10, _⟩ => ⟨S1x1024, .f32⟩
  | .hbm, ⟨11, _⟩ => ⟨S8192x1024, .f32⟩
  | .hbm, ⟨12, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1792x1024, .bf16⟩
  | .local _ .vmem, ⟨8, _⟩ => ⟨S8x128, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x1792 : Shape := ⟨2, ![8192, 1792]⟩
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1792, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1792, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel13.lean ====
abbrev S1 : Shape := ⟨1, ![1]⟩
abbrev S8x128x1024 : Shape := ⟨3, ![8, 128, 1024]⟩
abbrev S7x128x1024 : Shape := ⟨3, ![7, 128, 1024]⟩
abbrev S2x128x1024 : Shape := ⟨3, ![2, 128, 1024]⟩
abbrev S_ : Shape := ⟨0, ![]⟩
abbrev S8x128 : Shape := ⟨2, ![8, 128]⟩
abbrev S1x128x1024 : Shape := ⟨3, ![1, 128, 1024]⟩
abbrev S128x1024 : Shape := ⟨2, ![128, 1024]⟩

abbrev nBuf : Space → Nat
  | .hbm => 13
  | .vmem => 23
  | .smem => 1
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S7x128x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S8x128, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S7x128x1024, .bf16⟩
  | .local _ .vmem, ⟨3, _⟩ => ⟨S7x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S7x128x1024, .bf16⟩
  | .local _ .vmem, ⟨7, _⟩ => ⟨S7x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S8x128, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .smem, ⟨0, _⟩ => ⟨S1, .i32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference13Ideal.lean ====
abbrev S1 : Shape := ⟨1, ![1]⟩
abbrev S8x128x1024 : Shape := ⟨3, ![8, 128, 1024]⟩
abbrev S7x128x1024 : Shape := ⟨3, ![7, 128, 1024]⟩
abbrev S2x128x1024 : Shape := ⟨3, ![2, 128, 1024]⟩
abbrev S8 : Shape := ⟨1, ![8]⟩
abbrev S_ : Shape := ⟨0, ![]⟩
abbrev S8x1x1 : Shape := ⟨3, ![8, 1, 1]⟩
abbrev S128x1024 : Shape := ⟨2, ![128, 1024]⟩
abbrev S1x128x1024 : Shape := ⟨3, ![1, 128, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .f32⟩
  | .hbm, ⟨2, _⟩ => ⟨S8x128x1024, .f32⟩
  | .hbm, ⟨3, _⟩ => ⟨S7x128x1024, .bf16⟩
  | .hbm, ⟨4, _⟩ => ⟨S7x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x128x1024, .i1⟩
  | .hbm, ⟨16, _⟩ => ⟨S8x128x1024, .f32⟩
  | .hbm, ⟨17, _⟩ => ⟨S8x128x1024, .f32⟩
  | .hbm, ⟨18, _⟩ => ⟨S_, .f32⟩
  | .hbm, ⟨19, _⟩ => ⟨S128x1024, .f32⟩
  | .hbm, ⟨20, _⟩ => ⟨S7x128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S_, .f32⟩
  | .hbm, ⟨26, _⟩ => ⟨S8x128x1024, .i1⟩
  | .hbm, ⟨27, _⟩ => ⟨S8x128x1024, .f32⟩
  | .hbm, ⟨28, _⟩ => ⟨S8x128x1024, .f32⟩
  | .hbm, ⟨29, _⟩ => ⟨S_, .f32⟩
  | .hbm, ⟨30, _⟩ => ⟨S128x1024, .f32⟩
  | .hbm, ⟨31, _⟩ => ⟨S7x128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S1x128x1024, .f32⟩
  | .hbm, ⟨36, _⟩ => ⟨S1x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S_, .f32⟩
  | .hbm, ⟨42, _⟩ => ⟨S2x128x1024, .f32⟩
  | .hbm, ⟨43, _⟩ => ⟨S2x128x1024, .f32⟩
  | .hbm, ⟨44, _⟩ => ⟨S2x128x1024, .f32⟩
  | .hbm, ⟨45, _⟩ => ⟨S_, .f32⟩
  | .hbm, ⟨46, _⟩ => ⟨S2x128x1024, .f32⟩
  | .hbm, ⟨47, _⟩ => ⟨S2x128x1024, .f32⟩
  | .hbm, ⟨48, _⟩ => ⟨S2x128x1024, .f32⟩
  | .hbm, ⟨49, _⟩ => ⟨S_, .f32⟩
  | .hbm, ⟨50, _⟩ => ⟨S2x128x1024, .f32⟩
  | .hbm, ⟨51, _⟩ => ⟨S2x128x1024, .f32⟩
  | .hbm, ⟨52, _⟩ => ⟨S2x128x1024, .f32⟩
  | .hbm, ⟨53, _⟩ => ⟨S_, .f32⟩
  | .hbm, ⟨54, _⟩ => ⟨S2x128x1024, .f32⟩
  | .hbm, ⟨55, _⟩ => ⟨S2x128x1024, .f32⟩
  | .hbm, ⟨56, _⟩ => ⟨S_, .f32⟩
  | .hbm, ⟨57, _⟩ => ⟨S2x128x1024, .f32⟩
  | .hbm, ⟨58, _⟩ => ⟨S2x128x1024, .f32⟩
  | .hbm, ⟨59, _⟩ => ⟨S2x128x1024, .f32⟩
  | .hbm, ⟨60, _⟩ => ⟨S_, .f32⟩
  | .hbm, ⟨61, _⟩ => ⟨S2x128x1024, .f32⟩
  | .hbm, ⟨62, _⟩ => ⟨S2x128x1024, .f32⟩
  | .hbm, ⟨63, _⟩ => ⟨S2x128x1024, .f32⟩
  | .hbm, ⟨64, _⟩ => ⟨S_, .f32⟩
  | .hbm, ⟨65, _⟩ => ⟨S2x128x1024, .f32⟩
  | .hbm, ⟨66, _⟩ => ⟨S2x128x1024, .f32⟩
  | .hbm, ⟨67, _⟩ => ⟨S2x128x1024, .f32⟩
  | .hbm, ⟨68, _⟩ => ⟨S_, .f32⟩
  | .hbm, ⟨69, _⟩ => ⟨S2x128x1024, .f32⟩
  | .hbm, ⟨70, _⟩ => ⟨S2x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel14.lean ====
abbrev S1 : Shape := ⟨1, ![1]⟩
abbrev S8x1024x512 : Shape := ⟨3, ![8, 1024, 512]⟩
abbrev S7x1024x512 : Shape := ⟨3, ![7, 1024, 512]⟩
abbrev S2x1024x512 : Shape := ⟨3, ![2, 1024, 512]⟩
abbrev S_ : Shape := ⟨0, ![]⟩
abbrev S8x128 : Shape := ⟨2, ![8, 128]⟩
abbrev S1x256x512 : Shape := ⟨3, ![1, 256, 512]⟩
abbrev S7x256x512 : Shape := ⟨3, ![7, 256, 512]⟩
abbrev S256x512 : Shape := ⟨2, ![256, 512]⟩

abbrev nBuf : Space → Nat
  | .hbm => 13
  | .vmem => 23
  | .smem => 1
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S7x1024x512, .bf16⟩
  | .hbm, ⟨3, _⟩ => ⟨S7x1024x512, .bf16⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S8x128, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S7x256x512, .bf16⟩
  | .local _ .vmem, ⟨3, _⟩ => ⟨S7x256x512, .bf16⟩
  | .local _ .vmem, ⟨4, _⟩ => ⟨S1x256x512, .f32⟩
  | .local _ .vmem, ⟨5, _⟩ => ⟨S1x256x512, .f32⟩
  | .local _ .vmem, ⟨6, _⟩ => ⟨S7x256x512, .bf16⟩
  | .local _ .vmem, ⟨7, _⟩ => ⟨S7x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S8x128, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .smem, ⟨0, _⟩ => ⟨S1, .i32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c3_i32 : BitVec 32 := 3#32
  let v2 : BitVec 32 := Scalar.select v1 arg1 c3_i32
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference14Ideal.lean ====
abbrev S1 : Shape := ⟨1, ![1]⟩
abbrev S8x1024x512 : Shape := ⟨3, ![8, 1024, 512]⟩
abbrev S7x1024x512 : Shape := ⟨3, ![7, 1024, 512]⟩
abbrev S2x1024x512 : Shape := ⟨3, ![2, 1024, 512]⟩
abbrev S8 : Shape := ⟨1, ![8]⟩
abbrev S_ : Shape := ⟨0, ![]⟩
abbrev S8x1x1 : Shape := ⟨3, ![8, 1, 1]⟩
abbrev S1024x512 : Shape := ⟨2, ![1024, 512]⟩
abbrev S1x1024x512 : Shape := ⟨3, ![1, 1024, 512]⟩

abbrev nBuf : Space → Nat
  | .hbm => 71
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x512, .f32⟩
  | .hbm, ⟨2, _⟩ => ⟨S8x1024x512, .f32⟩
  | .hbm, ⟨3, _⟩ => ⟨S7x1024x512, .bf16⟩
  | .hbm, ⟨4, _⟩ => ⟨S7x1024x512, .bf16⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x1024x512, .i1⟩
  | .hbm, ⟨16, _⟩ => ⟨S8x1024x512, .f32⟩
  | .hbm, ⟨17, _⟩ => ⟨S8x1024x512, .f32⟩
  | .hbm, ⟨18, _⟩ => ⟨S_, .f32⟩
  | .hbm, ⟨19, _⟩ => ⟨S1024x512, .f32⟩
  | .hbm, ⟨20, _⟩ => ⟨S7x1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S_, .f32⟩
  | .hbm, ⟨26, _⟩ => ⟨S8x1024x512, .i1⟩
  | .hbm, ⟨27, _⟩ => ⟨S8x1024x512, .f32⟩
  | .hbm, ⟨28, _⟩ => ⟨S8x1024x512, .f32⟩
  | .hbm, ⟨29, _⟩ => ⟨S_, .f32⟩
  | .hbm, ⟨30, _⟩ => ⟨S1024x512, .f32⟩
  | .hbm, ⟨31, _⟩ => ⟨S7x1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1x1024x512, .f32⟩
  | .hbm, ⟨36, _⟩ => ⟨S1x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | .hbm, ⟨41, _⟩ => ⟨S_, .f32⟩
  | .hbm, ⟨42, _⟩ => ⟨S2x1024x512, .f32⟩
  | .hbm, ⟨43, _⟩ => ⟨S2x1024x512, .f32⟩
  | .hbm, ⟨44, _⟩ => ⟨S2x1024x512, .f32⟩
  | .hbm, ⟨45, _⟩ => ⟨S_, .f32⟩
  | .hbm, ⟨46, _⟩ => ⟨S2x1024x512, .f32⟩
  | .hbm, ⟨47, _⟩ => ⟨S2x1024x512, .f32⟩
  | .hbm, ⟨48, _⟩ => ⟨S2x1024x512, .f32⟩
  | .hbm, ⟨49, _⟩ => ⟨S_, .f32⟩
  | .hbm, ⟨50, _⟩ => ⟨S2x1024x512, .f32⟩
  | .hbm, ⟨51, _⟩ => ⟨S2x1024x512, .f32⟩
  | .hbm, ⟨52, _⟩ => ⟨S2x1024x512, .f32⟩
  | .hbm, ⟨53, _⟩ => ⟨S_, .f32⟩
  | .hbm, ⟨54, _⟩ => ⟨S2x1024x512, .f32⟩
  | .hbm, ⟨55, _⟩ => ⟨S2x1024x512, .f32⟩
  | .hbm, ⟨56, _⟩ => ⟨S_, .f32⟩
  | .hbm, ⟨57, _⟩ => ⟨S2x1024x512, .f32⟩
  | .hbm, ⟨58, _⟩ => ⟨S2x1024x512, .f32⟩
  | .hbm, ⟨59, _⟩ => ⟨S2x1024x512, .f32⟩
  | .hbm, ⟨60, _⟩ => ⟨S_, .f32⟩
  | .hbm, ⟨61, _⟩ => ⟨S2x1024x512, .f32⟩
  | .hbm, ⟨62, _⟩ => ⟨S2x1024x512, .f32⟩
  | .hbm, ⟨63, _⟩ => ⟨S2x1024x512, .f32⟩
  | .hbm, ⟨64, _⟩ => ⟨S_, .f32⟩
  | .hbm, ⟨65, _⟩ => ⟨S2x1024x512, .f32⟩
  | .hbm, ⟨66, _⟩ => ⟨S2x1024x512, .f32⟩
  | .hbm, ⟨67, _⟩ => ⟨S2x1024x512, .f32⟩
  | .hbm, ⟨68, _⟩ => ⟨S_, .f32⟩
  | .hbm, ⟨69, _⟩ => ⟨S2x1024x512, .f32⟩
  | .hbm, ⟨70, _⟩ => ⟨S2x1024x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel15.lean ====
abbrev S1 : Shape := ⟨1, ![1]⟩
abbrev S8x512x1024 : Shape := ⟨3, ![8, 512, 1024]⟩
abbrev S7x512x1024 : Shape := ⟨3, ![7, 512, 1024]⟩
abbrev S2x512x1024 : Shape := ⟨3, ![2, 512, 1024]⟩
abbrev S_ : Shape := ⟨0, ![]⟩
abbrev S8x128 : Shape := ⟨2, ![8, 128]⟩
abbrev S1x256x1024 : Shape := ⟨3, ![1, 256, 1024]⟩
abbrev S7x256x1024 : Shape := ⟨3, ![7, 256, 1024]⟩
abbrev S256x1024 : Shape := ⟨2, ![256, 1024]⟩

abbrev nBuf : Space → Nat
  | .hbm => 13
  | .vmem => 23
  | .smem => 1
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S7x512x1024, .bf16⟩
  | .hbm, ⟨3, _⟩ => ⟨S7x512x1024, .bf16⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S8x128, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S7x256x1024, .bf16⟩
  | .local _ .vmem, ⟨3, _⟩ => ⟨S7x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S7x256x1024, .bf16⟩
  | .local _ .vmem, ⟨7, _⟩ => ⟨S7x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S8x128, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .smem, ⟨0, _⟩ => ⟨S1, .i32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c1_i32 : BitVec 32 := 1#32
  let v2 : BitVec 32 := Scalar.select v1 arg1 c1_i32
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference15Ideal.lean ====
abbrev S1 : Shape := ⟨1, ![1]⟩
abbrev S8x512x1024 : Shape := ⟨3, ![8, 512, 1024]⟩
abbrev S7x512x1024 : Shape := ⟨3, ![7, 512, 1024]⟩
abbrev S2x512x1024 : Shape := ⟨3, ![2, 512, 1024]⟩
abbrev S8 : Shape := ⟨1, ![8]⟩
abbrev S_ : Shape := ⟨0, ![]⟩
abbrev S8x1x1 : Shape := ⟨3, ![8, 1, 1]⟩
abbrev S512x1024 : Shape := ⟨2, ![512, 1024]⟩
abbrev S1x512x1024 : Shape := ⟨3, ![1, 512, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x512x1024, .f32⟩
  | .hbm, ⟨2, _⟩ => ⟨S8x512x1024, .f32⟩
  | .hbm, ⟨3, _⟩ => ⟨S7x512x1024, .bf16⟩
  | .hbm, ⟨4, _⟩ => ⟨S7x512x1024, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x512x1024, .i1⟩
  | .hbm, ⟨16, _⟩ => ⟨S8x512x1024, .f32⟩
  | .hbm, ⟨17, _⟩ => ⟨S8x512x1024, .f32⟩
  | .hbm, ⟨18, _⟩ => ⟨S_, .f32⟩
  | .hbm, ⟨19, _⟩ => ⟨S512x1024, .f32⟩
  | .hbm, ⟨20, _⟩ => ⟨S7x512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S_, .f32⟩
  | .hbm, ⟨26, _⟩ => ⟨S8x512x1024, .i1⟩
  | .hbm, ⟨27, _⟩ => ⟨S8x512x1024, .f32⟩
  | .hbm, ⟨28, _⟩ => ⟨S8x512x1024, .f32⟩
  | .hbm, ⟨29, _⟩ => ⟨S_, .f32⟩
  | .hbm, ⟨30, _⟩ => ⟨S512x1024, .f32⟩
  | .hbm, ⟨31, _⟩ => ⟨S7x512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S1x512x1024, .f32⟩
  | .hbm, ⟨36, _⟩ => ⟨S1x512x1024, .f32⟩
  | .hbm, ⟨37, _⟩ => ⟨S2x512x1024, .f32⟩
  | .hbm, ⟨38, _⟩ => ⟨S_, .f32⟩
  | .hbm, ⟨39, _⟩ => ⟨S2x512x1024, .f32⟩
  | .hbm, ⟨40, _⟩ => ⟨S2x512x1024, .f32⟩
  | .hbm, ⟨41, _⟩ => ⟨S_, .f32⟩
  | .hbm, ⟨42, _⟩ => ⟨S2x512x1024, .f32⟩
  | .hbm, ⟨43, _⟩ => ⟨S2x512x1024, .f32⟩
  | .hbm, ⟨44, _⟩ => ⟨S2x512x1024, .f32⟩
  | .hbm, ⟨45, _⟩ => ⟨S_, .f32⟩
  | .hbm, ⟨46, _⟩ => ⟨S2x512x1024, .f32⟩
  | .hbm, ⟨47, _⟩ => ⟨S2x512x1024, .f32⟩
  | .hbm, ⟨48, _⟩ => ⟨S2x512x1024, .f32⟩
  | .hbm, ⟨49, _⟩ => ⟨S_, .f32⟩
  | .hbm, ⟨50, _⟩ => ⟨S2x512x1024, .f32⟩
  | .hbm, ⟨51, _⟩ => ⟨S2x512x1024, .f32⟩
  | .hbm, ⟨52, _⟩ => ⟨S2x512x1024, .f32⟩
  | .hbm, ⟨53, _⟩ => ⟨S_, .f32⟩
  | .hbm, ⟨54, _⟩ => ⟨S2x512x1024, .f32⟩
  | .hbm, ⟨55, _⟩ => ⟨S2x512x1024, .f32⟩
  | .hbm, ⟨56, _⟩ => ⟨S_, .f32⟩
  | .hbm, ⟨57, _⟩ => ⟨S2x512x1024, .f32⟩
  | .hbm, ⟨58, _⟩ => ⟨S2x512x1024, .f32⟩
  | .hbm, ⟨59, _⟩ => ⟨S2x512x1024, .f32⟩
  | .hbm, ⟨60, _⟩ => ⟨S_, .f32⟩
  | .hbm, ⟨61, _⟩ => ⟨S2x512x1024, .f32⟩
  | .hbm, ⟨62, _⟩ => ⟨S2x512x1024, .f32⟩
  | .hbm, ⟨63, _⟩ => ⟨S2x512x1024, .f32⟩
  | .hbm, ⟨64, _⟩ => ⟨S_, .f32⟩
  | .hbm, ⟨65, _⟩ => ⟨S2x512x1024, .f32⟩
  | .hbm, ⟨66, _⟩ => ⟨S2x512x1024, .f32⟩
  | .hbm, ⟨67, _⟩ => ⟨S2x512x1024, .f32⟩
  | .hbm, ⟨68, _⟩ => ⟨S_, .f32⟩
  | .hbm, ⟨69, _⟩ => ⟨S2x512x1024, .f32⟩
  | .hbm, ⟨70, _⟩ => ⟨S2x512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel16.lean ====
abbrev S1 : Shape := ⟨1, ![1]⟩
abbrev S8x224x1024 : Shape := ⟨3, ![8, 224, 1024]⟩
abbrev S7x224x1024 : Shape := ⟨3, ![7, 224, 1024]⟩
abbrev S2x224x1024 : Shape := ⟨3, ![2, 224, 1024]⟩
abbrev S_ : Shape := ⟨0, ![]⟩
abbrev S8x128 : Shape := ⟨2, ![8, 128]⟩
abbrev S1x112x1024 : Shape := ⟨3, ![1, 112, 1024]⟩
abbrev S7x112x1024 : Shape := ⟨3, ![7, 112, 1024]⟩
abbrev S112x1024 : Shape := ⟨2, ![112, 1024]⟩

abbrev nBuf : Space → Nat
  | .hbm => 13
  | .vmem => 23
  | .smem => 1
  | _ => 0

abbrev bufTy : (tb : Table) → Fin (tcTables nBuf tb) → BufTy
  | .hbm, ⟨0, _⟩ => ⟨S8x224x1024, .f32⟩
  | .hbm, ⟨1, _⟩ => ⟨S8x224x1024, .f32⟩
  | .hbm, ⟨2, _⟩ => ⟨S7x224x1024, .bf16⟩
  | .hbm, ⟨3, _⟩ => ⟨S7x224x1024, .bf16⟩
  | .hbm, ⟨4, _⟩ => ⟨S2x224x1024, .f32⟩
  | .hbm, ⟨5, _⟩ => ⟨S2x224x1024, .f32⟩
  | .hbm, ⟨6, _⟩ => ⟨S2x224x1024, .f32⟩
  | .hbm, ⟨7, _⟩ => ⟨S_, .f32⟩
  | .hbm, ⟨8, _⟩ => ⟨S8x128, .f32⟩
  | .hbm, ⟨9, _⟩ => ⟨S2x224x1024, .f32⟩
  | .hbm, ⟨10, _⟩ => ⟨S2x224x1024, .f32⟩
  | .hbm, ⟨11, _⟩ => ⟨S2x224x1024, .f32⟩
  | .hbm, ⟨12, _⟩ => ⟨S2x224x1024, .f32⟩
  | .local _ .vmem, ⟨0, _⟩ => ⟨S1x112x1024, .f32⟩
  | .local _ .vmem, ⟨1, _⟩ => ⟨S1x112x1024, .f32⟩
  | .local _ .vmem, ⟨2, _⟩ => ⟨S7x112x1024, .bf16⟩
  | .local _ .vmem, ⟨3, _⟩ => ⟨S7x112x1024, .bf16⟩
  | .local _ .vmem, ⟨4, _⟩ => ⟨S1x112x1024, .f32⟩
  | .local _ .vmem, ⟨5, _⟩ => ⟨S1x112x1024, .f32⟩
  | .local _ .vmem, ⟨6, _⟩ => ⟨S7x112x1024, .bf16⟩
  | .local _ .vmem, ⟨7, _⟩ => ⟨S7x112x1024, .bf16⟩
  | .local _ .vmem, ⟨8, _⟩ => ⟨S1x112x1024, .f32⟩
  | .local _ .vmem, ⟨9, _⟩ => ⟨S1x112x1024, .f32⟩
  | .local _ .vmem, ⟨10, _⟩ => ⟨S1x112x1024, .f32⟩
  | .local _ .vmem, ⟨11, _⟩ => ⟨S1x112x1024, .f32⟩
  | .local _ .vmem, ⟨12, _⟩ => ⟨S1x112x1024, .f32⟩
  | .local _ .vmem, ⟨13, _⟩ => ⟨S1x112x1024, .f32⟩
  | .local _ .vmem, ⟨14, _⟩ => ⟨S8x128, .f32⟩
  | .local _ .vmem, ⟨15, _⟩ => ⟨S1x112x1024, .f32⟩
  | .local _ .vmem, ⟨16, _⟩ => ⟨S1x112x1024, .f32⟩
  | .local _ .vmem, ⟨17, _⟩ => ⟨S1x112x1024, .f32⟩
  | .local _ .vmem, ⟨18, _⟩ => ⟨S1x112x1024, .f32⟩
  | .local _ .vmem, ⟨19, _⟩ => ⟨S1x112x1024, .f32⟩
  | .local _ .vmem, ⟨20, _⟩ => ⟨S1x112x1024, .f32⟩
  | .local _ .vmem, ⟨21, _⟩ => ⟨S1x112x1024, .f32⟩
  | .local _ .vmem, ⟨22, _⟩ => ⟨S1x112x1024, .f32⟩
  | .local _ .smem, ⟨0, _⟩ => ⟨S1, .i32⟩
  | _, _ => ⟨S8x224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c1_i32 : BitVec 32 := 1#32
  let v2 : BitVec 32 := Scalar.select v1 arg1 c1_i32
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x112x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x112x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x112x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x112x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x112x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference16Ideal.lean ====
abbrev S1 : Shape := ⟨1, ![1]⟩
abbrev S8x224x1024 : Shape := ⟨3, ![8, 224, 1024]⟩
abbrev S7x224x1024 : Shape := ⟨3, ![7, 224, 1024]⟩
abbrev S2x224x1024 : Shape := ⟨3, ![2, 224, 1024]⟩
abbrev S8 : Shape := ⟨1, ![8]⟩
abbrev S_ : Shape := ⟨0, ![]⟩
abbrev S8x1x1 : Shape := ⟨3, ![8, 1, 1]⟩
abbrev S224x1024 : Shape := ⟨2, ![224, 1024]⟩
abbrev S1x224x1024 : Shape := ⟨3, ![1, 224, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x224x1024, .f32⟩
  | .hbm, ⟨2, _⟩ => ⟨S8x224x1024, .f32⟩
  | .hbm, ⟨3, _⟩ => ⟨S7x224x1024, .bf16⟩
  | .hbm, ⟨4, _⟩ => ⟨S7x224x1024, .bf16⟩
  | .hbm, ⟨5, _⟩ => ⟨S2x224x1024, .f32⟩
  | .hbm, ⟨6, _⟩ => ⟨S2x224x1024, .f32⟩
  | .hbm, ⟨7, _⟩ => ⟨S2x224x1024, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x224x1024, .i1⟩
  | .hbm, ⟨16, _⟩ => ⟨S8x224x1024, .f32⟩
  | .hbm, ⟨17, _⟩ => ⟨S8x224x1024, .f32⟩
  | .hbm, ⟨18, _⟩ => ⟨S_, .f32⟩
  | .hbm, ⟨19, _⟩ => ⟨S224x1024, .f32⟩
  | .hbm, ⟨20, _⟩ => ⟨S7x224x1024, .f32⟩
  | .hbm, ⟨21, _⟩ => ⟨S_, .f32⟩
  | .hbm, ⟨22, _⟩ => ⟨S224x1024, .f32⟩
  | .hbm, ⟨23, _⟩ => ⟨S224x1024, .f32⟩
  | .hbm, ⟨24, _⟩ => ⟨S_, .f32⟩
  | .hbm, ⟨25, _⟩ => ⟨S_, .f32⟩
  | .hbm, ⟨26, _⟩ => ⟨S8x224x1024, .i1⟩
  | .hbm, ⟨27, _⟩ => ⟨S8x224x1024, .f32⟩
  | .hbm, ⟨28, _⟩ => ⟨S8x224x1024, .f32⟩
  | .hbm, ⟨29, _⟩ => ⟨S_, .f32⟩
  | .hbm, ⟨30, _⟩ => ⟨S224x1024, .f32⟩
  | .hbm, ⟨31, _⟩ => ⟨S7x224x1024, .f32⟩
  | .hbm, ⟨32, _⟩ => ⟨S_, .f32⟩
  | .hbm, ⟨33, _⟩ => ⟨S224x1024, .f32⟩
  | .hbm, ⟨34, _⟩ => ⟨S224x1024, .f32⟩
  | .hbm, ⟨35, _⟩ => ⟨S1x224x1024, .f32⟩
  | .hbm, ⟨36, _⟩ => ⟨S1x224x1024, .f32⟩
  | .hbm, ⟨37, _⟩ => ⟨S2x224x1024, .f32⟩
  | .hbm, ⟨38, _⟩ => ⟨S_, .f32⟩
  | .hbm, ⟨39, _⟩ => ⟨S2x224x1024, .f32⟩
  | .hbm, ⟨40, _⟩ => ⟨S2x224x1024, .f32⟩
  | .hbm, ⟨41, _⟩ => ⟨S_, .f32⟩
  | .hbm, ⟨42, _⟩ => ⟨S2x224x1024, .f32⟩
  | .hbm, ⟨43, _⟩ => ⟨S2x224x1024, .f32⟩
  | .hbm, ⟨44, _⟩ => ⟨S2x224x1024, .f32⟩
  | .hbm, ⟨45, _⟩ => ⟨S_, .f32⟩
  | .hbm, ⟨46, _⟩ => ⟨S2x224x1024, .f32⟩
  | .hbm, ⟨47, _⟩ => ⟨S2x224x1024, .f32⟩
  | .hbm, ⟨48, _⟩ => ⟨S2x224x1024, .f32⟩
  | .hbm, ⟨49, _⟩ => ⟨S_, .f32⟩
  | .hbm, ⟨50, _⟩ => ⟨S2x224x1024, .f32⟩
  | .hbm, ⟨51, _⟩ => ⟨S2x224x1024, .f32⟩
  | .hbm, ⟨52, _⟩ => ⟨S2x224x1024, .f32⟩
  | .hbm, ⟨53, _⟩ => ⟨S_, .f32⟩
  | .hbm, ⟨54, _⟩ => ⟨S2x224x1024, .f32⟩
  | .hbm, ⟨55, _⟩ => ⟨S2x224x1024, .f32⟩
  | .hbm, ⟨56, _⟩ => ⟨S_, .f32⟩
  | .hbm, ⟨57, _⟩ => ⟨S2x224x1024, .f32⟩
  | .hbm, ⟨58, _⟩ => ⟨S2x224x1024, .f32⟩
  | .hbm, ⟨59, _⟩ => ⟨S2x224x1024, .f32⟩
  | .hbm, ⟨60, _⟩ => ⟨S_, .f32⟩
  | .hbm, ⟨61, _⟩ => ⟨S2x224x1024, .f32⟩
  | .hbm, ⟨62, _⟩ => ⟨S2x224x1024, .f32⟩
  | .hbm, ⟨63, _⟩ => ⟨S2x224x1024, .f32⟩
  | .hbm, ⟨64, _⟩ => ⟨S_, .f32⟩
  | .hbm, ⟨65, _⟩ => ⟨S2x224x1024, .f32⟩
  | .hbm, ⟨66, _⟩ => ⟨S2x224x1024, .f32⟩
  | .hbm, ⟨67, _⟩ => ⟨S2x224x1024, .f32⟩
  | .hbm, ⟨68, _⟩ => ⟨S_, .f32⟩
  | .hbm, ⟨69, _⟩ => ⟨S2x224x1024, .f32⟩
  | .hbm, ⟨70, _⟩ => ⟨S2x224x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel18.lean ====
abbrev S1 : Shape := ⟨1, ![1]⟩
abbrev S784x128 : Shape := ⟨2, ![784, 128]⟩
abbrev S7x784x128 : Shape := ⟨3, ![7, 784, 128]⟩
abbrev S1x784x128 : Shape := ⟨3, ![1, 784, 128]⟩

abbrev nBuf : Space → Nat
  | .hbm => 3
  | .vmem => 3
  | .smem => 1
  | _ => 0

abbrev bufTy : (tb : Table) → Fin (tcTables nBuf tb) → BufTy
  | .hbm, ⟨0, _⟩ => ⟨S784x128, .f32⟩
  | .hbm, ⟨1, _⟩ => ⟨S7x784x128, .f32⟩
  | .hbm, ⟨2, _⟩ => ⟨S784x128, .f32⟩
  | .local _ .vmem, ⟨0, _⟩ => ⟨S784x128, .f32⟩
  | .local _ .vmem, ⟨1, _⟩ => ⟨S7x784x128, .f32⟩
  | .local _ .vmem, ⟨2, _⟩ => ⟨S784x128, .f32⟩
  | .local _ .smem, ⟨0, _⟩ => ⟨S1, .i32⟩
  | _, _ => ⟨S784x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) (c0_i32 : BitVec 32) : Fin 3 → Nat :=
  let v1 : BitVec 32 := Scalar.xori v0 c0_i32
  let c1_i32 : BitVec 32 := 1#32
  let v4 : BitVec 32 := Scalar.subi v1 c1_i32
  let c0_i32_3 : BitVec 32 := 0#32
  let v5 : BitVec 32 := Scalar.maxsi v4 c0_i32_3
  let v6 : Index := Scalar.indexCast v5
  let c0_4 : Index := 0#32
  let c0_5 : Index := 0#32
  ![v6.toNat, 0, 0]

def k0_chk1 (v0 : BitVec 32) : Prop :=
  (∀ (r : Fin 8), ∀ a, (k0_off1 v0 (BitVec.ofNat 32 r.val)) a + S1x784x128.size a ≤ S7x784x128.size a)
theorem k0_off1_inb : ∀ (v0 : BitVec 32) (k0_hw1 : k0_chk1 v0), ∀ (r : Fin 8), ∀ a, (k0_off1 v0 (BitVec.ofNat 32 r.val)) a + S1x784x128.size a ≤ S7x784x128.size a := fun v0 k0_hw1 r => k0_hw1 r

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S784x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x784x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference18Ideal.lean ====
abbrev S1 : Shape := ⟨1, ![1]⟩
abbrev S784x128 : Shape := ⟨2, ![784, 128]⟩
abbrev S7x784x128 : Shape := ⟨3, ![7, 784, 128]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1, .i32⟩
  | .hbm, ⟨1, _⟩ => ⟨S784x128, .f32⟩
  | .hbm, ⟨2, _⟩ => ⟨S7x784x128, .f32⟩
  | .hbm, ⟨3, _⟩ => ⟨S_, .f32⟩
  | .hbm, ⟨4, _⟩ => ⟨S784x128, .f32⟩
  | .hbm, ⟨5, _⟩ => ⟨S784x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Proof.Rms.lean ====
/- The gradient of a root-mean-square norm over the extended reals: the fused form of one row against the form that
   differentiating the norm gives, for every value of the row and of its cotangent, infinities included. -/
module

public import Idealize.ShloMosaic.PureOps.Ideal

@[expose] public section

noncomputable section

namespace Cert.Rms

open Idealize.ShloMosaic

/-- A square is not negative. -/
theorem sq_nonneg (x : EReal) : 0 ≤ x * x := by
  induction x using EReal.rec with
  | bot => simp
  | top => simp
  | coe r => rw [← EReal.coe_mul]; exact_mod_cast mul_self_nonneg r

theorem coe_mul_add {r : ℝ} (hr : 0 ≤ r) (x y : EReal) : (r : EReal) * (x + y) = r * x + r * y :=
  EReal.left_distrib_of_nonneg_of_ne_top (by exact_mod_cast hr) (EReal.coe_ne_top r) x y

theorem add_self_eq (x : EReal) : x + x = ((2 : ℝ) : EReal) * x := by
  have h : ((2 : ℝ) : EReal) = 1 + 1 := by
    rw [← EReal.coe_one, ← EReal.coe_add]; norm_num
  rw [h, EReal.right_distrib_of_nonneg zero_le_one zero_le_one, one_mul]

theorem coe_mul_sum {ι : Type*} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, coe_mul_add hr, ih]

theorem div_coe (x : EReal) {c : ℝ} (hc : 0 < c) : Ideal.div x c = x * ((c⁻¹ : ℝ) : EReal) := by
  have h : ((c : ℝ) : EReal) ≠ 0 := by exact_mod_cast hc.ne'
  simp only [Ideal.div, h, if_false, EReal.coe_inv]

theorem div_top (x : EReal) : Ideal.div x ⊤ = 0 := by
  simp [Ideal.div]

theorem div_zero_left (x : EReal) (h : x ≠ 0) : Ideal.div 0 x = 0 := by
  simp [Ideal.div, h]

/-- A sum of terms none of which is negative is finite only if every term is. -/
theorem term_ne_top {n : ℕ} (f : Fin n → EReal) (hf : ∀ k, 0 ≤ f k) (h : (∑ k, f k) ≠ ⊤) (k : Fin n) : f k ≠ ⊤ := by
  intro hk
  exact h (top_le_iff.mp (hk ▸ Finset.single_le_sum (fun i _ => hf i) (Finset.mem_univ k)))

theorem finite_of_sq {x : EReal} (h : x * x ≠ ⊤) : ∃ y : ℝ, x = y := by
  induction x using EReal.rec with
  | bot => exact absurd (by simp) h
  | top => exact absurd (by simp) h
  | coe r => exact ⟨r, rfl⟩

/-- The scale of a row: one over the root of its mean square plus a positive constant. -/
def scale {n : ℕ} (cn ce : EReal) (x : Fin n → EReal) : EReal := Ideal.rsqrt (Ideal.div (∑ k, x k * x k) cn + ce)

/-- The row of the gradient as the fused form states it. -/
def fused {n : ℕ} (cn ce : EReal) (x t : Fin n → EReal) (j : Fin n) : EReal :=
  scale cn ce x * (t j - x j * scale cn ce x * Ideal.div (∑ k, t k * (x k * scale cn ce x)) cn)

/-- What differentiating the scale contributes. -/
def back {n : ℕ} (cn ce h : EReal) (x t : Fin n → EReal) : EReal :=
  Ideal.div ((∑ k, x k * t k) * (h * Ideal.div (scale cn ce x) (Ideal.div (∑ k, x k * x k) cn + ce))) cn

theorem real_id (c v h y r : ℝ) (hh : h = -1 / 2) (hr : r * r = v⁻¹) :
    2 * (y * (h * (r * v⁻¹) * c⁻¹)) = -(r * (y * r) * (r * c⁻¹)) := by
  rw [hh, ← hr]; ring

/-- The two forms of a row agree, whatever the row and its cotangent hold. -/
theorem fused_eq {n : ℕ} {cn ce h : EReal} (c e : ℝ) (hc : 0 < c) (he : 0 < e) (hcn : cn = c) (hce : ce = e)
    (hh : h = ((-1 / 2 : ℝ) : EReal)) (x t : Fin n → EReal) (j : Fin n) :
    fused cn ce x t j = t j * scale cn ce x + x j * back cn ce h x t + back cn ce h x t * x j := by
  subst hcn hce hh
  have hS : 0 ≤ ∑ k, x k * x k := Finset.sum_nonneg fun k _ => sq_nonneg (x k)
  unfold fused back
  by_cases hT : (∑ k, x k * x k) = ⊤
  · have hu : Ideal.div (∑ k, x k * x k) c + e = ⊤ := by
      rw [hT, div_coe _ hc, EReal.top_mul_coe_of_pos (inv_pos.mpr hc), EReal.top_add_coe]
    have hs : scale (c : EReal) e x = 0 := by unfold scale; rw [hu]; rfl
    rw [hs, hu, div_top]
    simp [div_zero_left _ (show ((c : ℝ) : EReal) ≠ 0 by exact_mod_cast hc.ne')]
  · have hy : ∀ k, ∃ y : ℝ, x k = y := fun k =>
      finite_of_sq (term_ne_top _ (fun i => sq_nonneg (x i)) hT k)
    choose y hy using hy
    obtain ⟨s, hs⟩ : ∃ s : ℝ, (∑ k, x k * x k) = s :=
      ⟨(∑ k, x k * x k).toReal, (EReal.coe_toReal hT (ne_of_gt (lt_of_lt_of_le (by simp) hS))).symm⟩
    have hs0 : 0 ≤ s := by rw [hs] at hS; exact_mod_cast hS
    have hv : Ideal.div (∑ k, x k * x k) c + e = ((s * c⁻¹ + e : ℝ) : EReal) := by
      rw [hs, div_coe _ hc, ← EReal.coe_mul, ← EReal.coe_add]
    have hv0 : 0 < s * c⁻¹ + e := by positivity
    generalize s * c⁻¹ + e = v at hv hv0
    have hr : scale (c : EReal) e x = (((Real.sqrt v)⁻¹ : ℝ) : EReal) := by
      unfold scale; rw [hv, Ideal.rsqrt_coe, if_neg (not_lt.mpr hv0.le), if_neg hv0.ne']
    have hr2 : (Real.sqrt v)⁻¹ * (Real.sqrt v)⁻¹ = v⁻¹ := by
      rw [← mul_inv, Real.mul_self_sqrt hv0.le]
    have hr0 : 0 ≤ (Real.sqrt v)⁻¹ := inv_nonneg.mpr (Real.sqrt_nonneg v)
    rw [hr, hv]
    generalize (Real.sqrt v)⁻¹ = r at hr hr2 hr0
    have e1 : (∑ k, t k * (x k * (r : EReal))) = r * ∑ k, x k * t k := by
      rw [coe_mul_sum _ r hr0]
      exact Finset.sum_congr rfl fun k _ => by rw [← mul_assoc, mul_comm, mul_comm (t k)]
    rw [e1]
    generalize (∑ k, x k * t k) = S
    rw [hy j, div_coe _ hc, div_coe _ hc, div_coe _ hv0, sub_eq_add_neg, coe_mul_add hr0,
      add_assoc, mul_comm (S * _ * _) ((y j : ℝ) : EReal), add_self_eq, mul_comm (t j)]
    congr 1
    have e2 := congrArg (fun q : ℝ => (q : EReal) * S) (real_id c v (-1 / 2) (y j) r rfl hr2)
    simp only [EReal.coe_neg, EReal.coe_mul] at e2
    rw [neg_mul] at e2
    rw [mul_neg]
    refine Eq.trans ?_ (e2.symm.trans ?_)
    · congr 1; ac_rfl
    · ac_rfl

/-! ### The constants the programs write -/

theorem bits_1024 : Ideal.ofBits .f32 0x44800000#32 = ((1024 : ℝ) : EReal) := by
  simp [Ideal.ofBits, Ideal.ieee, -EReal.coe_mul]; norm_num

theorem bits_512 : Ideal.ofBits .f32 0x44000000#32 = ((512 : ℝ) : EReal) := by
  simp [Ideal.ofBits, Ideal.ieee, -EReal.coe_mul]; norm_num

theorem bits_256 : Ideal.ofBits .f32 0x43800000#32 = ((256 : ℝ) : EReal) := by
  simp [Ideal.ofBits, Ideal.ieee, -EReal.coe_mul]; norm_num

theorem bits_half : Ideal.ofBits .f32 0xBF000000#32 = ((-1 / 2 : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp [Ideal.ofBits, Ideal.ieee, -EReal.coe_mul]; rfl⟩
  positivity

/-- `fused_eq` at a row of 1024, with the constants as the programs write them. -/
theorem fused_1024 (x t : Fin 1024 → EReal) (j : Fin 1024) :
    fused (Ideal.ofBits .f32 0x44800000#32) (Ideal.ofBits .f32 0x358637BD#32) x t j
      = t j * scale (Ideal.ofBits .f32 0x44800000#32) (Ideal.ofBits .f32 0x358637BD#32) x
        + x j * back (Ideal.ofBits .f32 0x44800000#32) (Ideal.ofBits .f32 0x358637BD#32) (Ideal.ofBits .f32 0xBF000000#32) x t
        + back (Ideal.ofBits .f32 0x44800000#32) (Ideal.ofBits .f32 0x358637BD#32) (Ideal.ofBits .f32 0xBF000000#32) x t * x j := by
  obtain ⟨e, he, hb⟩ := bits_eps
  exact fused_eq 1024 e (by norm_num) he bits_1024 hb bits_half x t j

/-- `fused_eq` at a row of 512. -/
theorem fused_512 (x t : Fin 512 → EReal) (j : Fin 512) :
    fused (Ideal.ofBits .f32 0x44000000#32) (Ideal.ofBits .f32 0x358637BD#32) x t j
      = t j * scale (Ideal.ofBits .f32 0x44000000#32) (Ideal.ofBits .f32 0x358637BD#32) x
        + x j * back (Ideal.ofBits .f32 0x44000000#32) (Ideal.ofBits .f32 0x358637BD#32) (Ideal.ofBits .f32 0xBF000000#32) x t
        + back (Ideal.ofBits .f32 0x44000000#32) (Ideal.ofBits .f32 0x358637BD#32) (Ideal.ofBits .f32 0xBF000000#32) x t * x j := by
  obtain ⟨e, he, hb⟩ := bits_eps
  exact fused_eq 512 e (by norm_num) he bits_512 hb bits_half x t j

/-- `fused_eq` at a row of 256. -/
theorem fused_256 (x t : Fin 256 → EReal) (j : Fin 256) :
    fused (Ideal.ofBits .f32 0x43800000#32) (Ideal.ofBits .f32 0x358637BD#32) x t j
      = t j * scale (Ideal.ofBits .f32 0x43800000#32) (Ideal.ofBits .f32 0x358637BD#32) x
        + x j * back (Ideal.ofBits .f32 0x43800000#32) (Ideal.ofBits .f32 0x358637BD#32) (Ideal.ofBits .f32 0xBF000000#32) x t
        + back (Ideal.ofBits .f32 0x43800000#32) (Ideal.ofBits .f32 0x358637BD#32) (Ideal.ofBits .f32 0xBF000000#32) x t * x j := by
  obtain ⟨e, he, hb⟩ := bits_eps
  exact fused_eq 256 e (by norm_num) he bits_256 hb bits_half x t j

/-! ### The squared positive part -/

theorem sqrt_sq (u : EReal) (hu : 0 ≤ u) : Ideal.sqrt (u * u) = u := by
  induction u using EReal.rec with
  | bot => simp at hu
  | top => simp
  | coe r =>
    have hr : 0 ≤ r := by exact_mod_cast hu
    rw [← EReal.coe_mul, Ideal.sqrt_coe, if_neg (not_lt.mpr (mul_self_nonneg r)), Real.sqrt_mul_self hr]

/-- The gradient of the squared positive part: read off its root, or off the sign of what it squares. -/
theorem relu_sq_grad (d c u : EReal) :
    d * (c * Ideal.sqrt (max u 0 * max u 0)) = if 0 < u then d * (c * max u 0) else 0 := by
  rw [sqrt_sq _ (le_max_right u 0)]
  split_ifs with h
  · rfl
  · rw [max_eq_right (not_lt.mp h), mul_zero, mul_zero]

end Cert.Rms

end
-- ==== Proof.FfnBlock.lean ====
module
public import proofs.«01_k».proof.Proof.Gen.Kernel2Ideal
public import proofs.«01_k».proof.Proof.Gen.Kernel2Ideal.Skeleton
public import proofs.«01_k».proof.Proof.Rms
public import Idealize.ShloMosaic.Lib.Pointwise
public import Idealize.ShloMosaic.Lib.Pipeline.ValueKit
@[expose] public section
set_option maxRecDepth 16384
noncomputable section
namespace Cert.Ffn
open Idealize.ShloMosaic Idealize.ShloMosaic.Pointwise Cert.Kernel2Ideal Cert.Kernel2Ideal.Gen

/-- One entry of the block of the gradient of the hidden layer. -/
def duAt (x0 : Vec Ideal S512x1024 .f32) (x1 : Vec Ideal S512x4096 .bf16) (x5 : Vec Ideal S8x512x1024 .bf16)
    (r : Fin 512) (j : Fin 4096) : EReal :=
  (∑ k : Fin 1024, x0 (ix2 r k) * x5 (ix3 ⟨j.val / 512, by omega⟩ ⟨j.val % 512, by omega⟩ k))
    * (Ideal.ofBits .f32 0x40000000#32 * Ideal.sqrt (x1 (ix2 r j)))

/-- The block of the gradient of the hidden layer. -/
def duBlk (x0 : Vec Ideal S512x1024 .f32) (x1 : Vec Ideal S512x4096 .bf16) (x5 : Vec Ideal S8x512x1024 .bf16) :
    Vec Ideal S512x4096 .bf16 := fun y => duAt x0 x1 x5 (y 0) (y 1)

section
variable (x0 : Vec Ideal S512x1024 .f32) (x1 : Vec Ideal S512x4096 .bf16) (x5 : Vec Ideal S8x512x1024 .bf16)

theorem duAt_piece (q : Fin 8) (r l : Fin 512) (b : Fin 4096) (h : b.val = 512 * q.val + l.val) :
    duAt x0 x1 x5 r b = (∑ k : Fin 1024, x0 (ix2 r k) * x5 (ix3 q l k))
      * (Ideal.ofBits .f32 0x40000000#32 * Ideal.sqrt (x1 (ix2 r b))) := by
  unfold duAt
  have e1 : (⟨b.val / 512, by omega⟩ : Fin 8) = q := Fin.ext (by show b.val / 512 = q.val; omega)
  have e2 : (⟨b.val % 512, by omega⟩ : Fin 512) = l := Fin.ext (by show b.val % 512 = l.val; omega)
  rw [e1, e2]

theorem du_canon :
    View.canon
      [⟨Rect.unit ![0, 3584] ![512, 512] inb_S512x4096_S512x512_0_3584,
          k0_pay16
            (k0_pay14 (k0_pay5 x0)
              (View.ld x5 (Rect.unit ![7, 0, 0] ![1, 512, 1024] inb_S8x512x1024_S1x512x1024_7_0_0)))
            (k0_pay15 (View.ld x1 (Rect.unit ![0, 3584] ![512, 512] inb_S512x4096_S512x512_0_3584)))⟩,
        ⟨Rect.unit ![0, 3072] ![512, 512] inb_S512x4096_S512x512_0_3072,
          k0_pay13 (k0_pay5 x0)
            (View.ld x5 (Rect.unit ![6, 0, 0] ![1, 512, 1024] inb_S8x512x1024_S1x512x1024_6_0_0))
            (View.ld x1 (Rect.unit ![0, 3072] ![512, 512] inb_S512x4096_S512x512_0_3072))⟩,
        ⟨Rect.unit ![0, 2560] ![512, 512] inb_S512x4096_S512x512_0_2560,
          k0_pay12 (k0_pay5 x0)
            (View.ld x5 (Rect.unit ![5, 0, 0] ![1, 512, 1024] inb_S8x512x1024_S1x512x1024_5_0_0))
            (View.ld x1 (Rect.unit ![0, 2560] ![512, 512] inb_S512x4096_S512x512_0_2560))⟩,
        ⟨Rect.unit ![0, 2048] ![512, 512] inb_S512x4096_S512x512_0_2048,
          k0_pay11
            (k0_pay10 (k0_pay5 x0)
              (View.ld x5 (Rect.unit ![4, 0, 0] ![1, 512, 1024] inb_S8x512x1024_S1x512x1024_4_0_0))
              (View.ld x1 (Rect.unit ![0, 2048] ![512, 512] inb_S512x4096_S512x512_0_2048)))⟩,
        ⟨Rect.unit ![0, 1536] ![512, 512] inb_S512x4096_S512x512_0_1536,
          k0_pay9 (k0_pay5 x0)
            (View.ld x5 (Rect.unit ![3, 0, 0] ![1, 512, 1024] inb_S8x512x1024_S1x512x1024_3_0_0))
            (View.ld x1 (Rect.unit ![0, 1536] ![512, 512] inb_S512x4096_S512x512_0_1536))⟩,
        ⟨Rect.unit ![0, 1024] ![512, 512] inb_S512x4096_S512x512_0_1024,
          k0_pay8 (k0_pay5 x0)
            (View.ld x5 (Rect.unit ![2, 0, 0] ![1, 512, 1024] inb_S8x512x1024_S1x512x1024_2_0_0))
            (View.ld x1 (Rect.unit ![0, 1024] ![512, 512] inb_S512x4096_S512x512_0_1024))⟩,
        ⟨Rect.unit ![0, 512] ![512, 512] inb_S512x4096_S512x512_0_512,
          k0_pay7 x0
            (View.ld x5 (Rect.unit ![1, 0, 0] ![1, 512, 1024] inb_S8x512x1024_S1x512x1024_1_0_0))
            (View.ld x1 (Rect.unit ![0, 512] ![512, 512] inb_S512x4096_S512x512_0_512))⟩,
        ⟨Rect.unit ![0, 0] ![512, 512] inb_S512x4096_S512x512_0_0,
          k0_pay6 x0
            (View.ld x5 (Rect.unit ![0, 0, 0] ![1, 512, 1024] inb_S8x512x1024_S1x512x1024_0_0_0))
            (View.ld x1 (Rect.unit ![0, 0] ![512, 512] inb_S512x4096_S512x512_0_0))⟩]
      = duBlk x0 x1 x5 := by
  funext y
  canon_tiles x h
  case piece0 =>
    open_payloads
    pointwise []
    show _ = duAt x0 x1 x5 (y 0) (y 1)
    have e0 : y 0 = x 0 := Fin.ext h0
    rw [e0, duAt_piece x0 x1 x5 7 (x 0) (x 1) (y 1) (h1.trans (by first | rfl | simp))]
    rw [show y 1 = ⟨3584 + (x 1).val, by omega⟩ from Fin.ext h1]
    rfl
  case piece1 =>
    open_payloads
    pointwise []
    show _ = duAt x0 x1 x5 (y 0) (y 1)
    have e0 : y 0 = x 0 := Fin.ext h0
    rw [e0, duAt_piece x0 x1 x5 6 (x 0) (x 1) (y 1) (h1.trans (by first | rfl | simp))]
    rw [show y 1 = ⟨3072 + (x 1).val, by omega⟩ from Fin.ext h1]
    rfl
  case piece2 =>
    open_payloads
    pointwise []
    show _ = duAt x0 x1 x5 (y 0) (y 1)
    have e0 : y 0 = x 0 := Fin.ext h0
    rw [e0, duAt_piece x0 x1 x5 5 (x 0) (x 1) (y 1) (h1.trans (by first | rfl | simp))]
    rw [show y 1 = ⟨2560 + (x 1).val, by omega⟩ from Fin.ext h1]
    rfl
  case piece3 =>
    open_payloads
    pointwise []
    show _ = duAt x0 x1 x5 (y 0) (y 1)
    have e0 : y 0 = x 0 := Fin.ext h0
    rw [e0, duAt_piece x0 x1 x5 4 (x 0) (x 1) (y 1) (h1.trans (by first | rfl | simp))]
    rw [show y 1 = ⟨2048 + (x 1).val, by omega⟩ from Fin.ext h1]
    rfl
  case piece4 =>
    open_payloads
    pointwise []
    show _ = duAt x0 x1 x5 (y 0) (y 1)
    have e0 : y 0 = x 0 := Fin.ext h0
    rw [e0, duAt_piece x0 x1 x5 3 (x 0) (x 1) (y 1) (h1.trans (by first | rfl | simp))]
    rw [show y 1 = ⟨1536 + (x 1).val, by omega⟩ from Fin.ext h1]
    rfl
  case piece5 =>
    open_payloads
    pointwise []
    show _ = duAt x0 x1 x5 (y 0) (y 1)
    have e0 : y 0 = x 0 := Fin.ext h0
    rw [e0, duAt_piece x0 x1 x5 2 (x 0) (x 1) (y 1) (h1.trans (by first | rfl | simp))]
    rw [show y 1 = ⟨1024 + (x 1).val, by omega⟩ from Fin.ext h1]
    rfl
  case piece6 =>
    open_payloads
    pointwise []
    show _ = duAt x0 x1 x5 (y 0) (y 1)
    have e0 : y 0 = x 0 := Fin.ext h0
    rw [e0, duAt_piece x0 x1 x5 1 (x 0) (x 1) (y 1) (h1.trans (by first | rfl | simp))]
    rw [show y 1 = ⟨512 + (x 1).val, by omega⟩ from Fin.ext h1]
    rfl
  case piece7 =>
    open_payloads
    pointwise []
    show _ = duAt x0 x1 x5 (y 0) (y 1)
    have e0 : y 0 = x 0 := Fin.ext h0
    rw [e0, duAt_piece x0 x1 x5 0 (x 0) (x 1) (y 1) (h1.trans (by first | rfl | simp))]
    rw [show y 1 = ⟨(x 1).val, by omega⟩ from Fin.ext h1]
    rfl

/-- Loading the stored block back gives it. -/
theorem du_read {sig : RefSig} {κ : Kind} {sp : Space} (v : View sig κ sp S512x4096 .bf16) :
    v.readCov
      [⟨Rect.unit ![0, 3584] ![512, 512] inb_S512x4096_S512x512_0_3584,
          k0_pay16
            (k0_pay14 (k0_pay5 x0)
              (View.ld x5 (Rect.unit ![7, 0, 0] ![1, 512, 1024] inb_S8x512x1024_S1x512x1024_7_0_0)))
            (k0_pay15 (View.ld x1 (Rect.unit ![0, 3584] ![512, 512] inb_S512x4096_S512x512_0_3584)))⟩,
        ⟨Rect.unit ![0, 3072] ![512, 512] inb_S512x4096_S512x512_0_3072,
          k0_pay13 (k0_pay5 x0)
            (View.ld x5 (Rect.unit ![6, 0, 0] ![1, 512, 1024] inb_S8x512x1024_S1x512x1024_6_0_0))
            (View.ld x1 (Rect.unit ![0, 3072] ![512, 512] inb_S512x4096_S512x512_0_3072))⟩,
        ⟨Rect.unit ![0, 2560] ![512, 512] inb_S512x4096_S512x512_0_2560,
          k0_pay12 (k0_pay5 x0)
            (View.ld x5 (Rect.unit ![5, 0, 0] ![1, 512, 1024] inb_S8x512x1024_S1x512x1024_5_0_0))
            (View.ld x1 (Rect.unit ![0, 2560] ![512, 512] inb_S512x4096_S512x512_0_2560))⟩,
        ⟨Rect.unit ![0, 2048] ![512, 512] inb_S512x4096_S512x512_0_2048,
          k0_pay11
            (k0_pay10 (k0_pay5 x0)
              (View.ld x5 (Rect.unit ![4, 0, 0] ![1, 512, 1024] inb_S8x512x1024_S1x512x1024_4_0_0))
              (View.ld x1 (Rect.unit ![0, 2048] ![512, 512] inb_S512x4096_S512x512_0_2048)))⟩,
        ⟨Rect.unit ![0, 1536] ![512, 512] inb_S512x4096_S512x512_0_1536,
          k0_pay9 (k0_pay5 x0)
            (View.ld x5 (Rect.unit ![3, 0, 0] ![1, 512, 1024] inb_S8x512x1024_S1x512x1024_3_0_0))
            (View.ld x1 (Rect.unit ![0, 1536] ![512, 512] inb_S512x4096_S512x512_0_1536))⟩,
        ⟨Rect.unit ![0, 1024] ![512, 512] inb_S512x4096_S512x512_0_1024,
          k0_pay8 (k0_pay5 x0)
            (View.ld x5 (Rect.unit ![2, 0, 0] ![1, 512, 1024] inb_S8x512x1024_S1x512x1024_2_0_0))
            (View.ld x1 (Rect.unit ![0, 1024] ![512, 512] inb_S512x4096_S512x512_0_1024))⟩,
        ⟨Rect.unit ![0, 512] ![512, 512] inb_S512x4096_S512x512_0_512,
          k0_pay7 x0
            (View.ld x5 (Rect.unit ![1, 0, 0] ![1, 512, 1024] inb_S8x512x1024_S1x512x1024_1_0_0))
            (View.ld x1 (Rect.unit ![0, 512] ![512, 512] inb_S512x4096_S512x512_0_512))⟩,
        ⟨Rect.unit ![0, 0] ![512, 512] inb_S512x4096_S512x512_0_0,
          k0_pay6 x0
            (View.ld x5 (Rect.unit ![0, 0, 0] ![1, 512, 1024] inb_S8x512x1024_S1x512x1024_0_0_0))
            (View.ld x1 (Rect.unit ![0, 0] ![512, 512] inb_S512x4096_S512x512_0_0))⟩]
      (Rect.unit ![0, 0] ![512, 4096] inb_S512x4096_S512x4096_0_0).toLoadRect = duBlk x0 x1 x5 := by
  rw [View.readCov_eq_canon', du_canon]
  funext y
  exact congrArg (duBlk x0 x1 x5) (funext fun a => Fin.ext (by
    show (![0, 0] : Fin 2 → ℕ) a + 1 * (y a).val = (y a).val
    fin_cases a <;> simp))
end
end Cert.Ffn
end
-- ==== Proof.FfnSpec.lean ====
module
public import proofs.«01_k».proof.Proof.Gen.Reference2Ideal.Read
public import proofs.«01_k».proof.Proof.Rms
public import Idealize.ShloMosaic.Lib.Pointwise
@[expose] public section
set_option maxRecDepth 16384
noncomputable section
namespace Cert.Ffn
open Idealize.ShloMosaic Idealize.ShloMosaic.Pointwise Cert.Reference2Ideal Cert.Reference2Ideal.Read

section
variable (a0 a1 : Vec Ideal S8192x1024 .f32) (a2 : Vec Ideal S1024 .f32) (a3 : Vec Ideal S1024x4096 .f32) (a4 : Vec Ideal S4096x1024 .f32)

/-- The scale of the normalisation of row `r`. -/
def scale (r : Fin 8192) : EReal :=
  Rms.scale (Ideal.ofBits .f32 0x44800000#32) (Ideal.ofBits .f32 0x358637BD#32) (fun k : Fin 1024 => a1 (ix2 r k))

/-- The hidden layer before the rectifier. -/
def hid (r : Fin 8192) (j : Fin 4096) : EReal := ∑ x : Fin 1024, a1 (ix2 r x) * scale a1 r * a2 (ix1 x) * a3 (ix2 x j)

/-- The rectified and squared hidden layer. -/
def act (r : Fin 8192) (j : Fin 4096) : EReal := max (hid a1 a2 a3 r j) 0 * max (hid a1 a2 a3 r j) 0

/-- The gradient of the hidden layer. -/
def du (r : Fin 8192) (j : Fin 4096) : EReal :=
  (∑ x : Fin 1024, a0 (ix2 r x) * a4 (ix2 j x)) * (Ideal.ofBits .f32 0x40000000#32 * Ideal.sqrt (act a1 a2 a3 r j))

/-- The gradient of the normalised rows. -/
def dhn (r : Fin 8192) (j : Fin 1024) : EReal := ∑ x : Fin 4096, du a0 a1 a2 a3 a4 r x * a3 (ix2 j x)

/-- The gradient of the rows. -/
def dh (r : Fin 8192) (j : Fin 1024) : EReal :=
  a0 (ix2 r j) + Rms.fused (Ideal.ofBits .f32 0x44800000#32) (Ideal.ofBits .f32 0x358637BD#32)
    (fun k : Fin 1024 => a1 (ix2 r k)) (fun k => dhn a0 a1 a2 a3 a4 r k * a2 (ix1 k)) j

/-- The part of row `r` in the gradient of the gain. -/
def dgAt (r : Fin 8192) (j : Fin 1024) : EReal := dhn a0 a1 a2 a3 a4 r j * (a1 (ix2 r j) * scale a1 r)

/-- The gradient of the gain. -/
def dg (j : Fin 1024) : EReal := ∑ r : Fin 8192, dgAt a0 a1 a2 a3 a4 r j

theorem v16_at (r : Fin 8192) (j : Fin 4096) : val_main_v16 (F := Ideal) a1 a2 a3 (ix2 r j) = hid a1 a2 a3 r j := by
  pointwise [val_main_v16, val_main_v15, val_main_v14, val_main_v13, val_main_v12, val_main_v11, val_main_v7, val_main_v6, val_main_v5, val_main_v4, val_main_v3, val_main_v2, val_main_v1, val_main_v0, val_main_cst, val_main_cst_0, val_main_cst_1]
  rfl

theorem v66_at (r : Fin 8192) (j : Fin 4096) : val_main_v66 (F := Ideal) a1 a2 a3 (ix2 r j) = hid a1 a2 a3 r j := by
  pointwise [val_main_v66, val_main_v65, val_main_v64, val_main_v63, val_main_v62, val_main_v61, val_main_v60, val_main_v59, val_main_v58, val_main_v57, val_main_v56, val_main_v55, val_main_v54, val_main_v53, val_main_cst_12, val_main_cst_13, val_main_cst_14]
  rfl

theorem two_eq (d u : EReal) : (if 0 < u then d * (Ideal.ofBits .f32 0x40000000#32 * max u 0) else 0)
    = d * (Ideal.ofBits .f32 0x40000000#32 * Ideal.sqrt (max u 0 * max u 0)) := (Rms.relu_sq_grad d _ u).symm

theorem v30_at (r : Fin 8192) (j : Fin 4096) : val_main_v30 (F := Ideal) a0 a1 a2 a3 a4 (ix2 r j) = du a0 a1 a2 a3 a4 r j := by
  pointwise [val_main_v30, val_main_v29, val_main_v28, val_main_v27, val_main_v26, val_main_v25, val_main_v24, val_main_v23, val_main_v22, val_main_v21, val_main_v20, val_main_v19, val_main_v18, val_main_v17, val_main_call0_v0, val_main_call0_cst, val_main_cst_3, val_main_cst_4, val_main_cst_5, val_main_cst_6]
  rw [v16_at]
  exact two_eq _ _

theorem v81_at (r : Fin 8192) (j : Fin 4096) : val_main_v81 (F := Ideal) a0 a1 a2 a3 a4 (ix2 r j) = du a0 a1 a2 a3 a4 r j := by
  pointwise [val_main_v81, val_main_v78, val_main_v77, val_main_v76, val_main_v75, val_main_v74, val_main_v73, val_main_v72, val_main_v71, val_main_v70, val_main_v69, val_main_v68, val_main_v67, val_main_call1_v0, val_main_call1_cst, val_main_cst_15, val_main_cst_16, val_main_cst_17, val_main_cst_18]
  rw [v66_at]
  exact two_eq _ _

theorem v31_at (r : Fin 8192) (j : Fin 1024) : val_main_v31 (F := Ideal) a0 a1 a2 a3 a4 (ix2 r j) = dhn a0 a1 a2 a3 a4 r j := by
  pointwise [val_main_v31]
  simp only [v30_at]
  rfl

theorem v36_at (r : Fin 8192) (j : Fin 1024) :
    val_main_v36 (F := Ideal) a0 a1 a2 a3 a4 (ix2 r j) = dhn a0 a1 a2 a3 a4 r j * a2 (ix1 j) := by
  pointwise [val_main_v36, val_main_v35, val_main_v13]
  rw [v31_at]

theorem v52_at (r : Fin 8192) (j : Fin 1024) : val_main_v52 (F := Ideal) a0 a1 a2 a3 a4 (ix2 r j) = dh a0 a1 a2 a3 a4 r j := by
  pointwise [val_main_v52, val_main_v51, val_main_v50, val_main_v49, val_main_v48, val_main_v47, val_main_v46, val_main_v45, val_main_v44, val_main_v43, val_main_v42, val_main_v41, val_main_v40, val_main_v39, val_main_v38, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_9, val_main_cst_10, val_main_cst_11]
  simp only [v36_at, Fin.sum_univ_one]
  unfold dh
  rw [Rms.fused_1024, ← add_assoc, ← add_assoc]
  rfl

theorem v79_at (r : Fin 8192) (j : Fin 1024) : val_main_v79 (F := Ideal) a0 a1 a2 a3 a4 (ix2 r j) = dh a0 a1 a2 a3 a4 r j := by
  pointwise [val_main_v79]
  exact v52_at a0 a1 a2 a3 a4 r j

theorem v80_at (r : Fin 8192) (j : Fin 1024) : val_main_v80 (F := Ideal) a0 (ix2 r j) = a0 (ix2 r j) := by
  pointwise [val_main_v80]

theorem v82_at (j : Fin 1024) : val_main_v82 (F := Ideal) a0 a1 a2 a3 a4 (ix2 0 j) = dg a0 a1 a2 a3 a4 j := by
  pointwise [val_main_v82, val_main_v37, val_main_v34, val_main_v33, val_main_v32, val_main_v12, val_main_v11, val_main_v7, val_main_v6, val_main_v5, val_main_v4, val_main_v3, val_main_v2, val_main_v1, val_main_v0, val_main_cst, val_main_cst_0, val_main_cst_1, val_main_cst_7, val_main_cst_8]
  simp only [v31_at, Fin.sum_univ_one]
  exact Finset.sum_congr rfl fun r _ => mul_comm _ _
end
end Cert.Ffn
end
-- ==== Proof.FfnArrays.lean ====
module
public import proofs.«01_k».proof.Proof.Gen.Kernel2Ideal.Value
public import proofs.«01_k».proof.Proof.FfnBlock
public import proofs.«01_k».proof.Proof.FfnSpec
@[expose] public section
set_option maxRecDepth 16384
noncomputable section
namespace Cert.Ffn
open Idealize.ShloMosaic Idealize.ShloMosaic.TcCoe Idealize.SL.Sem Idealize.ShloMosaic.Pointwise Cert.Kernel2Ideal Cert.Kernel2Ideal.Gen
open Idealize.ShloMosaic.Pipeline (Dat)

section
variable (x0 x2 : Vec Ideal S512x1024 .f32) (x1 : Vec Ideal S512x4096 .bf16) (x3 : Vec Ideal S1x1024 .f32)
  (x4 : Vec Ideal S4096x1024 .bf16) (x5 : Vec Ideal S8x512x1024 .bf16)
variable (a0 a1 : Vec Ideal S8192x1024 .f32) (a2 : Vec Ideal S1024 .f32) (a3 : Vec Ideal S1024x4096 .f32) (a4 : Vec Ideal S4096x1024 .f32)

/-- The blocks of a grid point are rows `R r` of the arrays. -/
structure Reads (R : Fin 512 → Fin 8192) : Prop where
  h0 : ∀ r k, x0 (ix2 r k) = a0 (ix2 (R r) k)
  h1 : ∀ r k, x1 (ix2 r k) = act a1 a2 a3 (R r) k
  h2 : ∀ r k, x2 (ix2 r k) = a1 (ix2 (R r) k)
  h3 : ∀ k, x3 (ix2 0 k) = a2 (ix1 k)
  h4 : ∀ k j, x4 (ix2 k j) = a3 (ix2 j k)
  h5 : ∀ (j : Fin 4096) k, x5 (ix3 ⟨j.val / 512, by omega⟩ ⟨j.val % 512, by omega⟩ k) = a4 (ix2 j k)

variable {x0 x1 x2 x3 x4 x5 a0 a1 a2 a3 a4} {R : Fin 512 → Fin 8192}

theorem Reads.du_at (h : Reads x0 x2 x1 x3 x4 x5 a0 a1 a2 a3 a4 R) (r : Fin 512) (j : Fin 4096) :
    duAt x0 x1 x5 r j = du a0 a1 a2 a3 a4 (R r) j := by
  unfold duAt du
  simp only [h.h0, h.h1, h.h5]

theorem Reads.dh_at (h : Reads x0 x2 x1 x3 x4 x5 a0 a1 a2 a3 a4 R) (r : Fin 512) (j : Fin 1024) :
    k0_pay2 x0 (k0_pay20 (duBlk x0 x1 x5) x4 x2 x3) (ix2 r j) = dh a0 a1 a2 a3 a4 (R r) j := by
  pointwise [k0_pay2, k0_pay20, k0_pay17, k0_pay18, k0_pay19, duBlk]
  simp only [h.du_at, h.h0, h.h2, h.h3, h.h4]
  rfl

theorem Reads.dg_at (h : Reads x0 x2 x1 x3 x4 x5 a0 a1 a2 a3 a4 R) (v : Vec Ideal S1x1024 .f32) (j : Fin 1024) :
    k0_pay1 (k0_pay21 (duBlk x0 x1 x5) x4 x2) v (ix2 0 j)
      = v (ix2 0 j) + ∑ r : Fin 512, dgAt a0 a1 a2 a3 a4 (R r) j := by
  pointwise [k0_pay1, k0_pay21, k0_pay17, k0_pay18, k0_pay19, duBlk]
  simp only [h.du_at, h.h0, h.h2, h.h3, h.h4]
  rfl
end

/-- every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0, 0]
    ∧ win0_6.index t = ![t.val, 0]
    ∧ win0_7.index t = ![t.val, 0]
    ∧ win0_8.index t = ![t.val, 0]
    ∧ win0_9.index t = ![t.val, 0]
    ∧ win0_10.index t = ![0, 0] :=
  (by decide +kernel : ∀ t : Fin grid0.N, _)

variable (m : (ℓ : Loc nD τ sig) → Buf (Elt Ideal) ℓ)

/-- Row `r` of the block of point `t`. -/
def row (t : Fin cfg0.N) (r : Fin 512) : Fin 8192 := ⟨t.val * 512 + r.val, by have := t.isLt; have : cfg0.N = 16 := rfl; omega⟩

theorem e16 (c : Dev nD) (r : Fin 8192) (k : Fin 4096) : V m c main_v16 (ix2 r k) = act (m ((c : Thread nD τ).loc main_arg1)) (m ((c : Thread nD τ).loc main_arg2)) (m ((c : Thread nD τ).loc main_arg3)) r k := by
  unfold V
  simp only [hostOps0, hostOps0_1, hostOps0_2, List.flatten_cons, List.flatten_nil, List.cons_append, List.nil_append, List.append_nil]
  entry_read
  simp only [StableHlo.TRef.ofBuf_toBuf]
  simp only [StableHlo.TRef.toBuf, StableHlo.TRef.ofBuf, StableHlo.TRef.of, cast_eq]
  pointwise
  rfl
theorem e21 (c : Dev nD) (j : Fin 4096) (k : Fin 1024) : V m c main_v21 (ix3 ⟨j.val / 512, by omega⟩ ⟨j.val % 512, by omega⟩ k)  = m ((c : Thread nD τ).loc main_arg4) (ix2 j k) := by
  unfold V
  simp only [hostOps0, hostOps0_1, hostOps0_2, List.flatten_cons, List.flatten_nil, List.cons_append, List.nil_append, List.append_nil]
  entry_read
  pointwise

theorem e18 (c : Dev nD) (k : Fin 4096) (j : Fin 1024) : V m c main_v18 (ix2 k j) = m ((c : Thread nD τ).loc main_arg3) (ix2 j k) := by
  unfold V
  simp only [hostOps0, hostOps0_1, hostOps0_2, List.flatten_cons, List.flatten_nil, List.cons_append, List.nil_append, List.append_nil]
  entry_read
  pointwise

theorem e19 (c : Dev nD) (k : Fin 1024) : V m c main_v19 (ix2 0 k) = m ((c : Thread nD τ).loc main_arg2) (ix1 k) := by
  unfold V
  simp only [hostOps0, hostOps0_1, hostOps0_2, List.flatten_cons, List.flatten_nil, List.cons_append, List.nil_append, List.append_nil]
  entry_read
  pointwise

theorem e_arg0 (c : Dev nD) : V m c main_arg0 = m ((c : Thread nD τ).loc main_arg0) := V_main_arg0 m c
theorem e_arg1 (c : Dev nD) : V m c main_arg1 = m ((c : Thread nD τ).loc main_arg1) := V_main_arg1 m c

/-- What the blocks of point `t` hold. -/
theorem reads (c : Dev nD) (t : Fin cfg0.N) :
    Reads (iblk m c 0 t) (iblk m c 2 t) (iblk m c 1 t) (iblk m c 3 t) (iblk m c 4 t) (iblk m c 5 t)
      (m ((c : Thread nD τ).loc main_arg0)) (m ((c : Thread nD τ).loc main_arg1)) (m ((c : Thread nD τ).loc main_arg2)) (m ((c : Thread nD τ).loc main_arg3)) (m ((c : Thread nD τ).loc main_arg4)) (row t) where
  h0 r k := by
    refine Eq.trans ?_ (congrFun (e_arg0 m c) _)
    blk_simp [iblk]
    blk_ext [idx t, row]
  h1 r k := by
    refine Eq.trans ?_ (e16 m c (row t r) k)
    blk_simp [iblk]
    blk_ext [idx t, row]
  h2 r k := by
    refine Eq.trans ?_ (congrFun (e_arg1 m c) _)
    blk_simp [iblk]
    blk_ext [idx t, row]
  h3 k := by
    refine Eq.trans ?_ (e19 m c k)
    blk_simp [iblk]
    blk_ext [idx t]
  h4 k j := by
    refine Eq.trans ?_ (e18 m c k j)
    blk_simp [iblk]
    blk_ext [idx t]
  h5 j k := by
    refine Eq.trans ?_ (e21 m c j k)
    blk_simp [iblk]
    blk_ext [idx t]

theorem emb6 (t : Fin cfg0.N) (r : Fin 512) (j : Fin 1024) : ((cfg0.win 6).blk t).view.emb (ix2 r j) = ix2 (row t r) j := by
  blk_ext [idx t, row]
theorem emb7 (t : Fin cfg0.N) (r : Fin 512) (j : Fin 1024) : ((cfg0.win 7).blk t).view.emb (ix2 r j) = ix2 (row t r) j := by
  blk_ext [idx t, row]
theorem emb8 (t : Fin cfg0.N) (r : Fin 512) (j : Fin 1024) : ((cfg0.win 8).blk t).view.emb (ix2 r j) = ix2 (row t r) j := by
  blk_ext [idx t, row]
theorem emb9 (t : Fin cfg0.N) (r : Fin 512) (j : Fin 4096) : ((cfg0.win 9).blk t).view.emb (ix2 r j) = ix2 (row t r) j := by
  blk_ext [idx t, row]

theorem final_6 (c : Dev nD) : (dats m 0 c).arrAt 6 cfg0.N = Cert.Reference2Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨r, j, rfl⟩ : ∃ (r : Fin 512) (j : Fin 1024), y = ix2 r j := ⟨y 0, y 1, eq_ix2 y⟩
  rw [emb6]
  blk_simp
  rw [after0_6]
  by_cases h : t.val % 16 = 0
  · rw [outsAt0_A m c t h]
    frame_out
    rw [du_read]; exact ((reads m c t).dh_at r j).trans (v52_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm
  · rw [outsAt0_B m c t h]
    frame_out
    rw [du_read]; exact ((reads m c t).dh_at r j).trans (v52_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm

theorem final_7 (c : Dev nD) : (dats m 0 c).arrAt 7 cfg0.N = Cert.Reference2Ideal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨r, j, rfl⟩ : ∃ (r : Fin 512) (j : Fin 1024), y = ix2 r j := ⟨y 0, y 1, eq_ix2 y⟩
  rw [emb7]
  blk_simp
  rw [after0_7]
  by_cases h : t.val % 16 = 0
  · rw [outsAt0_A m c t h]
    frame_out
    rw [du_read]; exact ((reads m c t).dh_at r j).trans (v79_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm
  · rw [outsAt0_B m c t h]
    frame_out
    rw [du_read]; exact ((reads m c t).dh_at r j).trans (v79_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm

theorem final_8 (c : Dev nD) : (dats m 0 c).arrAt 8 cfg0.N = Cert.Reference2Ideal.Read.val_main_v80 (F := Ideal) (m ((c : Thread nD τ).loc main_arg0)) := by
  refine (dats m 0 c).arrAt_eq_of_covers 8 _ (by decide +kernel) fun t hf y => ?_
  obtain ⟨r, j, rfl⟩ : ∃ (r : Fin 512) (j : Fin 1024), y = ix2 r j := ⟨y 0, y 1, eq_ix2 y⟩
  rw [emb8]
  blk_simp
  rw [after0_8]
  by_cases h : t.val % 16 = 0
  · rw [outsAt0_A m c t h]
    frame_out
    exact ((reads m c t).h0 r j).trans (v80_at (m ((c : Thread nD τ).loc main_arg0)) (row t r) j).symm
  · rw [outsAt0_B m c t h]
    frame_out
    exact ((reads m c t).h0 r j).trans (v80_at (m ((c : Thread nD τ).loc main_arg0)) (row t r) j).symm

theorem final_9 (c : Dev nD) : (dats m 0 c).arrAt 9 cfg0.N = Cert.Reference2Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  obtain ⟨r, j, rfl⟩ : ∃ (r : Fin 512) (j : Fin 4096), y = ix2 r j := ⟨y 0, y 1, eq_ix2 y⟩
  rw [emb9]
  blk_simp
  rw [after0_9]
  by_cases h : t.val % 16 = 0
  · rw [outsAt0_A m c t h]
    frame_out
    rw [du_canon]; exact ((reads m c t).du_at r j).trans (v81_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm
  · rw [outsAt0_B m c t h]
    frame_out
    rw [du_canon]; exact ((reads m c t).du_at r j).trans (v81_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm

theorem zero10 (j : Fin 1024) : k0_pay4 (F := Ideal) (ix2 0 j) = 0 := by
  pointwise! [k0_pay4]

/-- The sum over all rows is the sum over the grid points of the sums over their blocks. -/
theorem sum_rows (f : Fin 8192 → EReal) : ∑ t : Fin cfg0.N, ∑ r : Fin 512, f (row t r) = ∑ r : Fin 8192, f r := by
  have : cfg0.N = 16 := rfl
  rw [← Finset.sum_product']
  refine Finset.sum_nbij' (fun p => row p.1 p.2) (fun r => (⟨r.val / 512, by have := r.isLt; omega⟩, ⟨r.val % 512, Nat.mod_lt _ (by norm_num)⟩)) ?_ ?_ ?_ ?_ ?_
  · intros; exact Finset.mem_univ _
  · intros; exact Finset.mem_univ _
  · rintro ⟨t, r⟩ _
    refine Prod.ext (Fin.ext ?_) (Fin.ext ?_)
    · show (t.val * 512 + r.val) / 512 = t.val
      omega
    · show (t.val * 512 + r.val) % 512 = r.val
      omega
  · intro r _
    refine Fin.ext ?_
    show r.val / 512 * 512 + r.val % 512 = r.val
    omega
  · intros; rfl

theorem final_10 (c : Dev nD) : (dats m 0 c).arrAt 10 cfg0.N = Cert.Reference2Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 10 t0_15 (by decide +kernel) _ fun y => ?_
  obtain ⟨j, rfl⟩ : ∃ (j : Fin 1024), y = ix2 0 j := ⟨y 1, (eq_ix2 y).trans (congrArg (fun z => ix2 z (y 1)) (Subsingleton.elim (α := Fin 1) _ _))⟩
  blk_simp
  rw [after0_10, Pipeline.eq_sum_fin_of_reset_step_apply_last (fun n h => (outsAt0 m c n h).2.2.2.2) 16 (fun _ => 0)
    (fun t y => ∑ r : Fin 512, dgAt (m ((c : Thread nD τ).loc main_arg0)) (m ((c : Thread nD τ).loc main_arg1)) (m ((c : Thread nD τ).loc main_arg2)) (m ((c : Thread nD τ).loc main_arg3)) (m ((c : Thread nD τ).loc main_arg4)) (row t r) (y 1))
    (fun t h y => by
      obtain ⟨j, rfl⟩ : ∃ (j : Fin 1024), y = ix2 0 j := ⟨y 1, (eq_ix2 y).trans (congrArg (fun z => ix2 z (y 1)) (Subsingleton.elim (α := Fin 1) _ _))⟩
      rw [outsAt0_A m c t h]; frame_out; rw [du_read]
      refine ((reads m c t).dg_at _ j).trans ?_
      rw [zero10]; rfl)
    (fun t h y => by
      obtain ⟨j, rfl⟩ : ∃ (j : Fin 1024), y = ix2 0 j := ⟨y 1, (eq_ix2 y).trans (congrArg (fun z => ix2 z (y 1)) (Subsingleton.elim (α := Fin 1) _ _))⟩
      rw [outsAt0_B m c t h]; frame_out; rw [du_read]
      exact (reads m c t).dg_at _ j)
    (le_of_eq N_0) t0_15 rfl _, zero_add]
  refine Eq.trans ?_ (v82_at (m ((c : Thread nD τ).loc main_arg0)) (m ((c : Thread nD τ).loc main_arg1)) (m ((c : Thread nD τ).loc main_arg2)) (m ((c : Thread nD τ).loc main_arg3)) (m ((c : Thread nD τ).loc main_arg4)) j).symm
  exact sum_rows fun r => dgAt (m ((c : Thread nD τ).loc main_arg0)) (m ((c : Thread nD τ).loc main_arg1)) (m ((c : Thread nD τ).loc main_arg2)) (m ((c : Thread nD τ).loc main_arg3)) (m ((c : Thread nD τ).loc main_arg4)) r j
end Cert.Ffn
end
-- ==== Proof.FfnClaim.lean ====
module
public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnArrays
@[expose] public section
set_option maxRecDepth 16384
noncomputable section
namespace Cert.Ffn
open Idealize.ShloMosaic Idealize.ShloMosaic.TcCoe Idealize.SL.Sem

/-- The two programs leave the same arrays. -/
theorem algebraic [Cert.Kernel2Ideal.Facts] [Cert.Reference2Ideal.Facts] : Cert.algebraic_Kernel2Ideal_Reference2Ideal := by
  intro m g m' g' _ hag
  refine ⟨fun c => Cert.Reference2Ideal.Read.val_main_v52 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
      fun c => Cert.Reference2Ideal.Read.val_main_v79 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
      fun c => Cert.Reference2Ideal.Read.val_main_v80 (F := Ideal) (m ((c.tc : Thread Cert.Kernel2Ideal.nD Cert.Kernel2Ideal.τ).loc Cert.Kernel2Ideal.main_arg0)),
      fun c => Cert.Reference2Ideal.Read.val_main_v81 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
      fun c => Cert.Reference2Ideal.Read.val_main_v82 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · refine (θ_run _ _ _).mono (fun r h c => ?_) (Cert.Kernel2Ideal.Value.run_blocks (F := Ideal) m g)
    obtain ⟨h0, h1, h2, h3, h4, a0, a1, a2, a3, a4⟩ := h c
    exact ⟨h0.trans (final_6 m c), h1.trans (final_7 m c), h2.trans (final_8 m c), h3.trans (final_9 m c), h4.trans (final_10 m c), a0, a1, a2, a3, a4⟩
  · refine (θ_run _ _ _).mono (fun r h c => ?_) (Cert.Reference2Ideal.Value.run (F := Ideal) m' g')
    obtain ⟨h0, h1, h2, h3, h4, a0, a1, a2, a3, a4⟩ := h c
    obtain ⟨e0, e1, e2, e3, e4⟩ := hag c
    have r0 := h0.trans (Cert.Reference2Ideal.Read.val_main_v52_eq m' c)
    rw [e0, e1, e2, e3, e4] at r0
    have r1 := h1.trans (Cert.Reference2Ideal.Read.val_main_v79_eq m' c)
    rw [e0, e1, e2, e3, e4] at r1
    have r2 := h2.trans (Cert.Reference2Ideal.Read.val_main_v80_eq (F := Ideal) (m' ((c.tc : Thread Cert.Reference2Ideal.nD Cert.Reference2Ideal.τ).loc Cert.Reference2Ideal.main_arg0)))
    rw [e0] at r2
    have r3 := h3.trans (Cert.Reference2Ideal.Read.val_main_v81_eq (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)))
    rw [e0, e1, e2, e3, e4] at r3
    have r4 := h4.trans (Cert.Reference2Ideal.Read.val_main_v82_eq (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)))
    rw [e0, e1, e2, e3, e4] at r4
    exact ⟨r0, r1, r2, r3, r4, a0, a1, a2, a3, a4⟩
end Cert.Ffn
end
-- ==== Proof.DownSpec.lean ====
module
public import proofs.«01_k».proof.Proof.Gen.Reference3Ideal.Read
public import Idealize.ShloMosaic.Lib.Pointwise
@[expose] public section
set_option maxRecDepth 16384
noncomputable section
namespace Cert.Down
open Idealize.ShloMosaic Idealize.ShloMosaic.Pointwise Cert.Reference3Ideal Cert.Reference3Ideal.Read
variable (a0 a1 : Vec Ideal S8192x1024 .f32) (a2 : Vec Ideal S1024 .f32) (a3 : Vec Ideal S1024x4096 .f32)

/-- The normalised rows. -/
def norm (r : Fin 8192) (x : Fin 1024) : EReal :=
  a1 (ix2 r x) * Ideal.rsqrt (Ideal.div (∑ k : Fin 1024, a1 (ix2 r k) * a1 (ix2 r k)) (Ideal.ofBits .f32 0x44800000#32)
    + Ideal.ofBits .f32 0x358637BD#32) * a2 (ix1 x)

/-- The squared positive part of the rows after the first projection. -/
def act (r : Fin 8192) (k : Fin 4096) : EReal :=
  max (∑ x : Fin 1024, norm a1 a2 r x * a3 (ix2 x k)) 0 * max (∑ x : Fin 1024, norm a1 a2 r x * a3 (ix2 x k)) 0

/-- The part of row `r` in the gradient of the second projection's weights. -/
def dwAt (r : Fin 8192) (k : Fin 4096) (j : Fin 1024) : EReal := act a1 a2 a3 r k * a0 (ix2 r j)

theorem v21_at (d : Fin 8) (k : Fin 512) (j : Fin 1024) :
    val_main_v21 (F := Ideal) a0 a1 a2 a3 (ix3 d k j) = ∑ r : Fin 8192, dwAt a0 a1 a2 a3 r ⟨d.val * 512 + k.val, by omega⟩ j := by
  pointwise [val_main_v21, val_main_v20, val_main_v19, val_main_v16, val_main_v15, val_main_call0_v0, val_main_v14, val_main_call0_cst, val_main_v13, val_main_v10, val_main_v12, val_main_v9, val_main_v11, val_main_v8, val_main_v7, val_main_v5, val_main_v6, val_main_v3, val_main_v4, val_main_cst_2, val_main_v2, val_main_cst_1, val_main_cst_0, val_main_v1]
  exact Finset.sum_congr rfl fun r _ => mul_comm _ _

theorem v22_at (d : Fin 8) (k : Fin 512) (j : Fin 1024) :
    val_main_v22 (F := Ideal) a0 a1 a2 a3 (ix3 d k j) = ∑ r : Fin 8192, dwAt a0 a1 a2 a3 r ⟨d.val * 512 + k.val, by omega⟩ j := by
  pointwise [val_main_v22]
  exact v21_at a0 a1 a2 a3 d k j
end Cert.Down
end
-- ==== Proof.DownArrays.lean ====
module
public import proofs.«01_k».proof.Proof.Gen.Kernel3Ideal.Value
public import proofs.«01_k».proof.Proof.DownSpec
public import Idealize.ShloMosaic.Lib.Pointwise
public import Idealize.ShloMosaic.Lib.Pipeline.ValueKit
public import Idealize.ShloMosaic.Lib.Pipeline.ReadBack
@[expose] public section
set_option maxRecDepth 16384
noncomputable section
namespace Cert.Down
open Idealize.ShloMosaic Idealize.ShloMosaic.TcCoe Idealize.SL.Sem Idealize.ShloMosaic.Pointwise Cert.Kernel3Ideal Cert.Kernel3Ideal.Gen
open Idealize.ShloMosaic.Pipeline (Dat)

/-- every window's block index at every grid point. -/
theorem idx : ∀ t : Fin cfg0.N, win0_0.index t = ![t.val % 8, t.val / 8]
    ∧ win0_1.index t = ![t.val % 8, 0]
    ∧ win0_2.index t = ![t.val / 8, 0, 0]
    ∧ win0_3.index t = ![t.val / 8, 0, 0] :=
  (by decide +kernel : ∀ t : Fin grid0.N, _)

variable (m : (ℓ : Loc nD τ sig) → Buf (Elt Ideal) ℓ)

/-- The row and the column of the arrays at row `r` and column `k` of the blocks of point `t`. -/
def row (t : Fin cfg0.N) (r : Fin 1024) : Fin 8192 := ⟨t.val % 8 * 1024 + r.val, by omega⟩
def col (t : Fin cfg0.N) (k : Fin 2048) : Fin 4096 := ⟨t.val / 8 * 2048 + k.val, by have := t.isLt; have : cfg0.N = 16 := rfl; omega⟩

theorem e16 (c : Dev nD) (r : Fin 8192) (k : Fin 4096) : V m c main_v16 (ix2 r k) = act (m ((c : Thread nD τ).loc main_arg1)) (m ((c : Thread nD τ).loc main_arg2)) (m ((c : Thread nD τ).loc main_arg3)) r k := by
  unfold V
  simp only [hostOps0, hostOps0_1, hostOps0_2, List.flatten_cons, List.flatten_nil, List.cons_append, List.nil_append, List.append_nil]
  entry_read
  simp only [StableHlo.TRef.ofBuf_toBuf]
  simp only [StableHlo.TRef.toBuf, StableHlo.TRef.ofBuf, StableHlo.TRef.of, cast_eq]
  pointwise
  rfl
theorem e17 (c : Dev nD) (r : Fin 8192) (j : Fin 1024) : V m c main_v17 (ix2 r j) = (m ((c : Thread nD τ).loc main_arg0)) (ix2 r j) := by
  unfold V
  simp only [hostOps0, hostOps0_1, hostOps0_2, List.flatten_cons, List.flatten_nil, List.cons_append, List.nil_append, List.append_nil]
  entry_read
  pointwise

theorem reads_0 (c : Dev nD) (t : Fin cfg0.N) (r : Fin 1024) (k : Fin 2048) :
    iblk m c 0 t (ix2 r k) = act (m ((c : Thread nD τ).loc main_arg1)) (m ((c : Thread nD τ).loc main_arg2)) (m ((c : Thread nD τ).loc main_arg3)) (row t r) (col t k) := by
  refine Eq.trans ?_ (e16 m c (row t r) (col t k))
  blk_simp [iblk]
  blk_ext [idx t, row, col]
theorem reads_1 (c : Dev nD) (t : Fin cfg0.N) (r : Fin 1024) (j : Fin 1024) :
    iblk m c 1 t (ix2 r j) = (m ((c : Thread nD τ).loc main_arg0)) (ix2 (row t r) j) := by
  refine Eq.trans ?_ (e17 m c (row t r) j)
  blk_simp [iblk]
  blk_ext [idx t, row]

/-- The part of the rows of point `t`'s blocks in the gradient. -/
def part (c : Dev nD) (t : Fin cfg0.N) (k : Fin 2048) (j : Fin 1024) : EReal :=
  ∑ r : Fin 1024, dwAt (m ((c : Thread nD τ).loc main_arg0)) (m ((c : Thread nD τ).loc main_arg1)) (m ((c : Thread nD τ).loc main_arg2)) (m ((c : Thread nD τ).loc main_arg3)) (row t r) (col t k) j

theorem pay_at (c : Dev nD) (t : Fin cfg0.N) (v : Vec Ideal S2048x1024 .f32) (k : Fin 2048) (j : Fin 1024) :
    k0_pay2 v (iblk m c 0 t) (iblk m c 1 t) (ix2 k j) = v (ix2 k j) + part m c t k j := by
  have h0 := reads_0 m c t
  have h1 := reads_1 m c t
  generalize iblk m c 0 t = x0 at h0 ⊢
  generalize iblk m c 1 t = x1 at h1 ⊢
  pointwise [k0_pay2]
  simp only [h0, h1]
  rfl

theorem zero_at (k : Fin 2048) (j : Fin 1024) : k0_pay1 (F := Ideal) (ix2 k j) = 0 := by
  pointwise! [k0_pay1]

theorem acc_A (c : Dev nD) (t : Fin cfg0.N) (h : t.val % 8 = 0) (k : Fin 2048) (j : Fin 1024) :
    (outsAt0 m c t.val t.isLt).2.2 (ix2 k j) = 0 + part m c t k j := by
  rw [outsAt0_A m c t h (by omega)]; frame_out
  refine (pay_at m c t _ k j).trans ?_
  rw [zero_at]

theorem acc_B (c : Dev nD) (t : Fin cfg0.N) (h : ¬t.val % 8 = 0) (k : Fin 2048) (j : Fin 1024) :
    (outsAt0 m c t.val t.isLt).2.2 (ix2 k j) = (outsAt0 m c (t.val - 1) (Nat.lt_of_le_of_lt (Nat.sub_le _ _) t.isLt)).2.2 (ix2 k j)
      + part m c t k j := by
  by_cases h' : t.val % 8 = 7
  · rw [outsAt0_C m c t h h']; frame_out; rw [read_unread_whole]
    exact pay_at m c t _ k j
  · rw [outsAt0_B m c t h h']; frame_out; rw [read_unread_whole]
    exact pay_at m c t _ k j

/-- The sum over all rows is the sum over the eight blocks of the sums over their rows. -/
theorem sum_rows (f : Fin 8192 → EReal) : ∑ s : Fin 8, ∑ r : Fin 1024, f ⟨s.val * 1024 + r.val, by omega⟩ = ∑ r : Fin 8192, f r := by
  rw [← Finset.sum_product']
  refine Finset.sum_nbij' (fun p => ⟨p.1.val * 1024 + p.2.val, by omega⟩) (fun r => (⟨r.val / 1024, by omega⟩, ⟨r.val % 1024, by omega⟩)) ?_ ?_ ?_ ?_ ?_
  · intros; exact Finset.mem_univ _
  · intros; exact Finset.mem_univ _
  · rintro ⟨t, r⟩ _
    refine Prod.ext (Fin.ext ?_) (Fin.ext ?_)
    · show (t.val * 1024 + r.val) / 1024 = t.val
      omega
    · show (t.val * 1024 + r.val) % 1024 = r.val
      omega
  · intro r _
    refine Fin.ext ?_
    show r.val / 1024 * 1024 + r.val % 1024 = r.val
    omega
  · intros; rfl

/-- What the accumulator holds after the last of the eight blocks of rows. -/
theorem acc_last (c : Dev nD) (t : Fin cfg0.N) (h : t.val % 8 = 7) (k : Fin 2048) (j : Fin 1024) :
    (outsAt0 m c t.val t.isLt).2.2 (ix2 k j) = ∑ r : Fin 8192, dwAt (m ((c : Thread nD τ).loc main_arg0)) (m ((c : Thread nD τ).loc main_arg1)) (m ((c : Thread nD τ).loc main_arg2)) (m ((c : Thread nD τ).loc main_arg3)) r (col t k) j := by
  rw [Pipeline.eq_sum_fin_of_reset_step_of_flush (fun n h => (outsAt0 m c n h).2.2 (ix2 k j)) 8 0 (fun t => part m c t k j)
    (fun t h => acc_A m c t h k j) (fun t h => acc_B m c t h k j) t h, zero_add,
    ← sum_rows fun r => dwAt (m ((c : Thread nD τ).loc main_arg0)) (m ((c : Thread nD τ).loc main_arg1)) (m ((c : Thread nD τ).loc main_arg2)) (m ((c : Thread nD τ).loc main_arg3)) r (col t k) j]
  refine Finset.sum_congr rfl fun s _ => Finset.sum_congr rfl fun r _ => ?_
  have e0 : row ⟨8 * (t.val / 8) + s.val, Pipeline.run_point_lt_of_flush t h s⟩ r = ⟨s.val * 1024 + r.val, by omega⟩ := by
    refine Fin.ext ?_
    show (8 * (t.val / 8) + s.val) % 8 * 1024 + r.val = _
    rw [Nat.mul_add_mod, Nat.mod_eq_of_lt s.isLt]
  have e1 : col ⟨8 * (t.val / 8) + s.val, Pipeline.run_point_lt_of_flush t h s⟩ k = col t k := by
    refine Fin.ext ?_
    show (8 * (t.val / 8) + s.val) / 8 * 2048 + k.val = t.val / 8 * 2048 + k.val
    rw [Nat.mul_add_div (by norm_num), Nat.div_eq_of_lt s.isLt, Nat.add_zero]
  rw [e0, e1]

/-- A load from the accumulator after it has been written whole. -/
theorem acc_read (A : Vec Ideal S2048x1024 .f32) (r : Rect S2048x1024) :
    (View.whole cc0_scratch0).readCov [⟨Rect.unit ![0, 0] ![2048, 1024] inb_S2048x1024_S2048x1024_0_0, A⟩] r.toLoadRect = View.ld A r := by
  rw [View.readCov_eq_canon']
  funext i
  exact congrFun (View.canon_cons_unit_lit' (Val := Elt Ideal) inb_S2048x1024_S2048x1024_0_0 A [] (by decide)) _

/-- A row of the accumulator, counted through the four slabs. -/
def slabRow (d : Fin 4) (k : Fin 512) : Fin 2048 := ⟨d.val * 512 + k.val, by omega⟩

theorem slabs (A : Vec Ideal S2048x1024 .f32) (d : Fin 4) (k : Fin 512) (j : Fin 1024) :
    View.canon
      [⟨Rect.unit ![3, 0, 0] ![1, 512, 1024] inb_S4x512x1024_S1x512x1024_3_0_0,
          k0_pay3 (View.ld A (Rect.unit ![1536, 0] ![512, 1024] inb_S2048x1024_S512x1024_1536_0))⟩,
        ⟨Rect.unit ![2, 0, 0] ![1, 512, 1024] inb_S4x512x1024_S1x512x1024_2_0_0,
          k0_pay9 (View.ld A (Rect.unit ![1024, 0] ![512, 1024] inb_S2048x1024_S512x1024_1024_0))⟩,
        ⟨Rect.unit ![1, 0, 0] ![1, 512, 1024] inb_S4x512x1024_S1x512x1024_1_0_0,
          k0_pay7 (View.ld A (Rect.unit ![512, 0] ![512, 1024] inb_S2048x1024_S512x1024_512_0))⟩,
        ⟨Rect.unit ![0, 0, 0] ![1, 512, 1024] inb_S4x512x1024_S1x512x1024_0_0_0,
          k0_pay5 (View.ld A (Rect.unit ![0, 0] ![512, 1024] inb_S2048x1024_S512x1024_0_0))⟩]
      (ix3 d k j) = A (ix2 (slabRow d k) j) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · dsimp only [slabRow]
      omega
    · exact h2'.symm

theorem slabs16 (A : Vec Ideal S2048x1024 .f32) (d : Fin 4) (k : Fin 512) (j : Fin 1024) :
    View.canon
      [⟨Rect.unit ![3, 0, 0] ![1, 512, 1024] inb_S4x512x1024_S1x512x1024_3_0_0,
          k0_pay4 (View.ld A (Rect.unit ![1536, 0] ![512, 1024] inb_S2048x1024_S512x1024_1536_0))⟩,
        ⟨Rect.unit ![2, 0, 0] ![1, 512, 1024] inb_S4x512x1024_S1x512x1024_2_0_0,
          k0_pay10 (View.ld A (Rect.unit ![1024, 0] ![512, 1024] inb_S2048x1024_S512x1024_1024_0))⟩,
        ⟨Rect.unit ![1, 0, 0] ![1, 512, 1024] inb_S4x512x1024_S1x512x1024_1_0_0,
          k0_pay8 (View.ld A (Rect.unit ![512, 0] ![512, 1024] inb_S2048x1024_S512x1024_512_0))⟩,
        ⟨Rect.unit ![0, 0, 0] ![1, 512, 1024] inb_S4x512x1024_S1x512x1024_0_0_0,
          k0_pay6 (View.ld A (Rect.unit ![0, 0] ![512, 1024] inb_S2048x1024_S512x1024_0_0))⟩]
      (ix3 d k j) = A (ix2 (slabRow d k) j) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · dsimp only [slabRow]
      omega
    · exact h2'.symm

theorem emb2 (t : Fin cfg0.N) (d : Fin 4) (k : Fin 512) (j : Fin 1024) : ((cfg0.win 2).blk t).view.emb (ix3 d k j)
    = ix3 ⟨t.val / 8 * 4 + d.val, by have := t.isLt; have : cfg0.N = 16 := rfl; omega⟩ k j := by
  blk_ext [idx t]
theorem emb3 (t : Fin cfg0.N) (d : Fin 4) (k : Fin 512) (j : Fin 1024) : ((cfg0.win 3).blk t).view.emb (ix3 d k j)
    = ix3 ⟨t.val / 8 * 4 + d.val, by have := t.isLt; have : cfg0.N = 16 := rfl; omega⟩ k j := by
  blk_ext [idx t]

theorem final_2 (c : Dev nD) : (dats m 0 c).arrAt 2 cfg0.N = Cert.Reference3Ideal.Read.val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  obtain ⟨d, k, j, rfl⟩ : ∃ (d : Fin 4) (k : Fin 512) (j : Fin 1024), y = ix3 d k j := ⟨y 0, y 1, y 2, eq_ix3 y⟩
  have h7 : t.val % 8 = 7 := (flush0_2 t).mp hf
  have h0 : ¬t.val % 8 = 0 := by omega
  rw [emb2]
  blk_simp
  refine Eq.trans ?_ (v21_at (m ((c : Thread nD τ).loc main_arg0)) (m ((c : Thread nD τ).loc main_arg1)) (m ((c : Thread nD τ).loc main_arg2)) (m ((c : Thread nD τ).loc main_arg3)) _ k j).symm
  rw [after0_2, outsAt0_C m c t h0 h7]
  have e : col t (slabRow d k) = ⟨(t.val / 8 * 4 + d.val) * 512 + k.val, by have := t.isLt; have : cfg0.N = 16 := rfl; have : cfg0.grid.N = 16 := rfl; omega⟩ := by
    refine Fin.ext ?_
    show t.val / 8 * 2048 + (d.val * 512 + k.val) = (t.val / 8 * 4 + d.val) * 512 + k.val
    omega
  rw [← e]
  refine Eq.trans ?_ (acc_last m c t h7 (slabRow d k) j)
  rw [outsAt0_C m c t h0 h7]
  frame_out
  rw [read_unread_whole]
  generalize k0_pay2 (F := Ideal) _ _ _ = A
  simp only [acc_read A]
  exact slabs A d k j
theorem final_3 (c : Dev nD) : (dats m 0 c).arrAt 3 cfg0.N = Cert.Reference3Ideal.Read.val_main_v22 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  obtain ⟨d, k, j, rfl⟩ : ∃ (d : Fin 4) (k : Fin 512) (j : Fin 1024), y = ix3 d k j := ⟨y 0, y 1, y 2, eq_ix3 y⟩
  have h7 : t.val % 8 = 7 := (flush0_3 t).mp hf
  have h0 : ¬t.val % 8 = 0 := by omega
  rw [emb3]
  blk_simp
  refine Eq.trans ?_ (v22_at (m ((c : Thread nD τ).loc main_arg0)) (m ((c : Thread nD τ).loc main_arg1)) (m ((c : Thread nD τ).loc main_arg2)) (m ((c : Thread nD τ).loc main_arg3)) _ k j).symm
  rw [after0_3, outsAt0_C m c t h0 h7]
  have e : col t (slabRow d k) = ⟨(t.val / 8 * 4 + d.val) * 512 + k.val, by have := t.isLt; have : cfg0.N = 16 := rfl; have : cfg0.grid.N = 16 := rfl; omega⟩ := by
    refine Fin.ext ?_
    show t.val / 8 * 2048 + (d.val * 512 + k.val) = (t.val / 8 * 4 + d.val) * 512 + k.val
    omega
  rw [← e]
  refine Eq.trans ?_ (acc_last m c t h7 (slabRow d k) j)
  rw [outsAt0_C m c t h0 h7]
  frame_out
  rw [read_unread_whole]
  generalize k0_pay2 (F := Ideal) _ _ _ = A
  simp only [acc_read A]
  exact slabs16 A d k j
end Cert.Down
end
-- ==== Proof.DownClaim.lean ====
module
public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.DownArrays
@[expose] public section
set_option maxRecDepth 16384
noncomputable section
namespace Cert.Down
open Idealize.ShloMosaic Idealize.ShloMosaic.TcCoe Idealize.SL.Sem

/-- The two programs leave the same arrays. -/
theorem algebraic [Cert.Kernel3Ideal.Facts] [Cert.Reference3Ideal.Facts] : Cert.algebraic_Kernel3Ideal_Reference3Ideal := by
  intro m g m' g' _ hag
  refine ⟨fun c => Cert.Reference3Ideal.Read.val_main_v21 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
      fun c => Cert.Reference3Ideal.Read.val_main_v22 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · refine (θ_run _ _ _).mono (fun r h c => ?_) (Cert.Kernel3Ideal.Value.run_blocks (F := Ideal) m g)
    obtain ⟨h0, h1, a0, a1, a2, a3⟩ := h c
    exact ⟨h0.trans (final_2 m c), h1.trans (final_3 m c), a0, a1, a2, a3⟩
  · refine (θ_run _ _ _).mono (fun r h c => ?_) (Cert.Reference3Ideal.Value.run (F := Ideal) m' g')
    obtain ⟨h0, h1, a0, a1, a2, a3⟩ := h c
    obtain ⟨e0, e1, e2, e3⟩ := hag c
    have r0 := h0.trans (Cert.Reference3Ideal.Read.val_main_v21_eq (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))
    rw [e0, e1, e2, e3] at r0
    have r1 := h1.trans (Cert.Reference3Ideal.Read.val_main_v22_eq (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))
    rw [e0, e1, e2, e3] at r1
    exact ⟨r0, r1, a0, a1, a2, a3⟩
end Cert.Down
end
-- ==== Proof.UpSpec.lean ====
module
public import proofs.«01_k».proof.Proof.Gen.Reference4Ideal.Read
public import Idealize.ShloMosaic.Lib.Pointwise
@[expose] public section
set_option maxRecDepth 16384
noncomputable section
namespace Cert.Up
open Idealize.ShloMosaic Idealize.ShloMosaic.Pointwise Cert.Reference4Ideal Cert.Reference4Ideal.Read
variable (a0 a1 : Vec Ideal S8192x1024 .f32) (a2 : Vec Ideal S1024 .f32) (a3 : Vec Ideal S1024x4096 .f32)
  (a4 : Vec Ideal S4096x1024 .f32)

/-- The normalised rows. -/
def norm (r : Fin 8192) (x : Fin 1024) : EReal :=
  a1 (ix2 r x) * Ideal.rsqrt (Ideal.div (∑ k : Fin 1024, a1 (ix2 r k) * a1 (ix2 r k)) (Ideal.ofBits .f32 0x44800000#32)
    + Ideal.ofBits .f32 0x358637BD#32) * a2 (ix1 x)

/-- The rows after the first projection. -/
def up (r : Fin 8192) (k : Fin 4096) : EReal := ∑ x : Fin 1024, norm a1 a2 r x * a3 (ix2 x k)

/-- The gradient of the rows after the first projection. -/
def du (r : Fin 8192) (k : Fin 4096) : EReal :=
  if 0 < up a1 a2 a3 r k then
    (∑ x : Fin 1024, a0 (ix2 r x) * a4 (ix2 k x)) * (Ideal.ofBits .f32 0x40000000#32 * max (up a1 a2 a3 r k) 0)
  else 0

/-- The part of row `r` in the gradient of the first projection's weights. -/
def dwAt (r : Fin 8192) (k : Fin 1024) (j : Fin 4096) : EReal := norm a1 a2 r k * du a0 a1 a2 a3 a4 r j

theorem v30_at (d : Fin 8) (k : Fin 1024) (j : Fin 512) :
    val_main_v30 (F := Ideal) a0 a1 a2 a3 a4 (ix3 d k j)
      = ∑ r : Fin 8192, dwAt a0 a1 a2 a3 a4 r k ⟨d.val * 512 + j.val, by omega⟩ := by
  pointwise [val_main_v30, val_main_v29, val_main_v28, val_main_v27, val_main_v12, val_main_v26, val_main_v11, val_main_v9, val_main_v16, val_main_v24, val_main_v25, val_main_v10, val_main_v8, val_main_v13, val_main_v15, val_main_v20, val_main_v23, val_main_cst_5, val_main_v7, val_main_cst_2, val_main_v14, val_main_v19, val_main_v6, val_main_call0_v0, val_main_cst_4, val_main_v4, val_main_v5, val_main_call0_cst, val_main_v2, val_main_v3, val_main_cst_1, val_main_v1, val_main_cst_0, val_main_cst, val_main_v0]
  exact Finset.sum_congr rfl fun r _ => mul_comm _ _

theorem v31_at (d : Fin 8) (k : Fin 1024) (j : Fin 512) :
    val_main_v31 (F := Ideal) a0 a1 a2 a3 a4 (ix3 d k j)
      = ∑ r : Fin 8192, dwAt a0 a1 a2 a3 a4 r k ⟨d.val * 512 + j.val, by omega⟩ := by
  pointwise [val_main_v31]
  exact v30_at a0 a1 a2 a3 a4 d k j
end Cert.Up
end
-- ==== Proof.UpArrays.lean ====
module
public import proofs.«01_k».proof.Proof.Gen.Kernel4Ideal.Value
public import proofs.«01_k».proof.Proof.UpSpec
public import Idealize.ShloMosaic.Lib.Pointwise
public import Idealize.ShloMosaic.Lib.Pipeline.ValueKit
public import Idealize.ShloMosaic.Lib.Pipeline.ReadBack
@[expose] public section
set_option maxRecDepth 16384
noncomputable section
namespace Cert.Up
open Idealize.ShloMosaic Idealize.ShloMosaic.TcCoe Idealize.SL.Sem Idealize.ShloMosaic.Pointwise Cert.Kernel4Ideal Cert.Kernel4Ideal.Gen
open Idealize.ShloMosaic.Pipeline (Dat)

/-- every window's block index at every grid point. -/
theorem idx : ∀ t : Fin cfg0.N, win0_0.index t = ![t.val % 8, 0]
    ∧ win0_1.index t = ![t.val % 8, t.val / 8]
    ∧ win0_2.index t = ![t.val / 8, 0, 0]
    ∧ win0_3.index t = ![t.val / 8, 0, 0] :=
  (by decide +kernel : ∀ t : Fin grid0.N, _)

variable (m : (ℓ : Loc nD τ sig) → Buf (Elt Ideal) ℓ)

/-- The row and the column of the arrays at row `r` and column `j` of the blocks of point `t`. -/
def row (t : Fin cfg0.N) (r : Fin 1024) : Fin 8192 := ⟨t.val % 8 * 1024 + r.val, by omega⟩
def col (t : Fin cfg0.N) (j : Fin 2048) : Fin 4096 := ⟨t.val / 8 * 2048 + j.val, by have := t.isLt; have : cfg0.N = 16 := rfl; omega⟩

theorem e13 (c : Dev nD) (r : Fin 8192) (k : Fin 1024) : V m c main_v13 (ix2 r k) = norm (m ((c : Thread nD τ).loc main_arg1)) (m ((c : Thread nD τ).loc main_arg2)) r k := by
  unfold V
  simp only [hostOps0, hostOps0_1, hostOps0_2, List.flatten_cons, List.flatten_nil, List.cons_append, List.nil_append, List.append_nil]
  entry_read
  pointwise
  rfl
theorem e40 (c : Dev nD) (r : Fin 8192) (j : Fin 4096) : V m c main_v40 (ix2 r j) = du (m ((c : Thread nD τ).loc main_arg0)) (m ((c : Thread nD τ).loc main_arg1)) (m ((c : Thread nD τ).loc main_arg2)) (m ((c : Thread nD τ).loc main_arg3)) (m ((c : Thread nD τ).loc main_arg4)) r j := by
  unfold V
  simp only [hostOps0, hostOps0_1, hostOps0_2, List.flatten_cons, List.flatten_nil, List.cons_append, List.nil_append, List.append_nil]
  entry_read
  simp only [StableHlo.TRef.ofBuf_toBuf]
  simp only [StableHlo.TRef.toBuf, StableHlo.TRef.ofBuf, StableHlo.TRef.of, cast_eq]
  pointwise
  rfl

theorem reads_0 (c : Dev nD) (t : Fin cfg0.N) (r : Fin 1024) (k : Fin 1024) :
    iblk m c 0 t (ix2 r k) = norm (m ((c : Thread nD τ).loc main_arg1)) (m ((c : Thread nD τ).loc main_arg2)) (row t r) k := by
  refine Eq.trans ?_ (e13 m c (row t r) k)
  blk_simp [iblk]
  blk_ext [idx t, row]
theorem reads_1 (c : Dev nD) (t : Fin cfg0.N) (r : Fin 1024) (j : Fin 2048) :
    iblk m c 1 t (ix2 r j) = du (m ((c : Thread nD τ).loc main_arg0)) (m ((c : Thread nD τ).loc main_arg1)) (m ((c : Thread nD τ).loc main_arg2)) (m ((c : Thread nD τ).loc main_arg3)) (m ((c : Thread nD τ).loc main_arg4)) (row t r) (col t j) := by
  refine Eq.trans ?_ (e40 m c (row t r) (col t j))
  blk_simp [iblk]
  blk_ext [idx t, row, col]

/-- The part of the rows of point `t`'s blocks in the gradient. -/
def part (c : Dev nD) (t : Fin cfg0.N) (k : Fin 1024) (j : Fin 2048) : EReal :=
  ∑ r : Fin 1024, dwAt (m ((c : Thread nD τ).loc main_arg0)) (m ((c : Thread nD τ).loc main_arg1)) (m ((c : Thread nD τ).loc main_arg2)) (m ((c : Thread nD τ).loc main_arg3)) (m ((c : Thread nD τ).loc main_arg4)) (row t r) k (col t j)

theorem pay_at (c : Dev nD) (t : Fin cfg0.N) (v : Vec Ideal S1024x2048 .f32) (k : Fin 1024) (j : Fin 2048) :
    k0_pay2 v (iblk m c 0 t) (iblk m c 1 t) (ix2 k j) = v (ix2 k j) + part m c t k j := by
  have h0 := reads_0 m c t
  have h1 := reads_1 m c t
  generalize iblk m c 0 t = x0 at h0 ⊢
  generalize iblk m c 1 t = x1 at h1 ⊢
  pointwise [k0_pay2]
  simp only [h0, h1]
  rfl

theorem zero_at (k : Fin 1024) (j : Fin 2048) : k0_pay1 (F := Ideal) (ix2 k j) = 0 := by
  pointwise! [k0_pay1]

theorem acc_A (c : Dev nD) (t : Fin cfg0.N) (h : t.val % 8 = 0) (k : Fin 1024) (j : Fin 2048) :
    (outsAt0 m c t.val t.isLt).2.2 (ix2 k j) = 0 + part m c t k j := by
  rw [outsAt0_A m c t h (by omega)]; frame_out
  refine (pay_at m c t _ k j).trans ?_
  rw [zero_at]

theorem acc_B (c : Dev nD) (t : Fin cfg0.N) (h : ¬t.val % 8 = 0) (k : Fin 1024) (j : Fin 2048) :
    (outsAt0 m c t.val t.isLt).2.2 (ix2 k j) = (outsAt0 m c (t.val - 1) (Nat.lt_of_le_of_lt (Nat.sub_le _ _) t.isLt)).2.2 (ix2 k j)
      + part m c t k j := by
  by_cases h' : t.val % 8 = 7
  · rw [outsAt0_C m c t h h']; frame_out; rw [read_unread_whole]
    exact pay_at m c t _ k j
  · rw [outsAt0_B m c t h h']; frame_out; rw [read_unread_whole]
    exact pay_at m c t _ k j

/-- The sum over all rows is the sum over the eight blocks of the sums over their rows. -/
theorem sum_rows (f : Fin 8192 → EReal) : ∑ s : Fin 8, ∑ r : Fin 1024, f ⟨s.val * 1024 + r.val, by omega⟩ = ∑ r : Fin 8192, f r := by
  rw [← Finset.sum_product']
  refine Finset.sum_nbij' (fun p => ⟨p.1.val * 1024 + p.2.val, by omega⟩) (fun r => (⟨r.val / 1024, by omega⟩, ⟨r.val % 1024, by omega⟩)) ?_ ?_ ?_ ?_ ?_
  · intros; exact Finset.mem_univ _
  · intros; exact Finset.mem_univ _
  · rintro ⟨t, r⟩ _
    refine Prod.ext (Fin.ext ?_) (Fin.ext ?_)
    · show (t.val * 1024 + r.val) / 1024 = t.val
      omega
    · show (t.val * 1024 + r.val) % 1024 = r.val
      omega
  · intro r _
    refine Fin.ext ?_
    show r.val / 1024 * 1024 + r.val % 1024 = r.val
    omega
  · intros; rfl

/-- What the accumulator holds after the last of the eight blocks of rows. -/
theorem acc_last (c : Dev nD) (t : Fin cfg0.N) (h : t.val % 8 = 7) (k : Fin 1024) (j : Fin 2048) :
    (outsAt0 m c t.val t.isLt).2.2 (ix2 k j) = ∑ r : Fin 8192, dwAt (m ((c : Thread nD τ).loc main_arg0)) (m ((c : Thread nD τ).loc main_arg1)) (m ((c : Thread nD τ).loc main_arg2)) (m ((c : Thread nD τ).loc main_arg3)) (m ((c : Thread nD τ).loc main_arg4)) r k (col t j) := by
  rw [Pipeline.eq_sum_fin_of_reset_step_of_flush (fun n h => (outsAt0 m c n h).2.2 (ix2 k j)) 8 0 (fun t => part m c t k j)
    (fun t h => acc_A m c t h k j) (fun t h => acc_B m c t h k j) t h, zero_add,
    ← sum_rows fun r => dwAt (m ((c : Thread nD τ).loc main_arg0)) (m ((c : Thread nD τ).loc main_arg1)) (m ((c : Thread nD τ).loc main_arg2)) (m ((c : Thread nD τ).loc main_arg3)) (m ((c : Thread nD τ).loc main_arg4)) r k (col t j)]
  refine Finset.sum_congr rfl fun s _ => Finset.sum_congr rfl fun r _ => ?_
  have e0 : row ⟨8 * (t.val / 8) + s.val, Pipeline.run_point_lt_of_flush t h s⟩ r = ⟨s.val * 1024 + r.val, by omega⟩ := by
    refine Fin.ext ?_
    show (8 * (t.val / 8) + s.val) % 8 * 1024 + r.val = _
    rw [Nat.mul_add_mod, Nat.mod_eq_of_lt s.isLt]
  have e1 : col ⟨8 * (t.val / 8) + s.val, Pipeline.run_point_lt_of_flush t h s⟩ j = col t j := by
    refine Fin.ext ?_
    show (8 * (t.val / 8) + s.val) / 8 * 2048 + j.val = t.val / 8 * 2048 + j.val
    rw [Nat.mul_add_div (by norm_num), Nat.div_eq_of_lt s.isLt, Nat.add_zero]
  rw [e0, e1]

/-- A load from the accumulator after it has been written whole. -/
theorem acc_read (A : Vec Ideal S1024x2048 .f32) (r : Rect S1024x2048) :
    (View.whole cc0_scratch0).readCov [⟨Rect.unit ![0, 0] ![1024, 2048] inb_S1024x2048_S1024x2048_0_0, A⟩] r.toLoadRect = View.ld A r := by
  rw [View.readCov_eq_canon']
  funext i
  exact congrFun (View.canon_cons_unit_lit' (Val := Elt Ideal) inb_S1024x2048_S1024x2048_0_0 A [] (by decide)) _

/-- A column of the accumulator, counted through the four slabs. -/
def slabCol (d : Fin 4) (j : Fin 512) : Fin 2048 := ⟨d.val * 512 + j.val, by omega⟩

theorem slabs (A : Vec Ideal S1024x2048 .f32) (d : Fin 4) (k : Fin 1024) (j : Fin 512) :
    View.canon
      [⟨Rect.unit ![3, 0, 0] ![1, 1024, 512] inb_S4x1024x512_S1x1024x512_3_0_0,
          k0_pay3 (View.ld A (Rect.unit ![0, 1536] ![1024, 512] inb_S1024x2048_S1024x512_0_1536))⟩,
        ⟨Rect.unit ![2, 0, 0] ![1, 1024, 512] inb_S4x1024x512_S1x1024x512_2_0_0,
          k0_pay9 (View.ld A (Rect.unit ![0, 1024] ![1024, 512] inb_S1024x2048_S1024x512_0_1024))⟩,
        ⟨Rect.unit ![1, 0, 0] ![1, 1024, 512] inb_S4x1024x512_S1x1024x512_1_0_0,
          k0_pay7 (View.ld A (Rect.unit ![0, 512] ![1024, 512] inb_S1024x2048_S1024x512_0_512))⟩,
        ⟨Rect.unit ![0, 0, 0] ![1, 1024, 512] inb_S4x1024x512_S1x1024x512_0_0_0,
          k0_pay5 (View.ld A (Rect.unit ![0, 0] ![1024, 512] inb_S1024x2048_S1024x512_0_0))⟩]
      (ix3 d k j) = A (ix2 k (slabCol d j)) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · exact h1'.symm
    · dsimp only [slabCol]
      omega

theorem slabs16 (A : Vec Ideal S1024x2048 .f32) (d : Fin 4) (k : Fin 1024) (j : Fin 512) :
    View.canon
      [⟨Rect.unit ![3, 0, 0] ![1, 1024, 512] inb_S4x1024x512_S1x1024x512_3_0_0,
          k0_pay4 (View.ld A (Rect.unit ![0, 1536] ![1024, 512] inb_S1024x2048_S1024x512_0_1536))⟩,
        ⟨Rect.unit ![2, 0, 0] ![1, 1024, 512] inb_S4x1024x512_S1x1024x512_2_0_0,
          k0_pay10 (View.ld A (Rect.unit ![0, 1024] ![1024, 512] inb_S1024x2048_S1024x512_0_1024))⟩,
        ⟨Rect.unit ![1, 0, 0] ![1, 1024, 512] inb_S4x1024x512_S1x1024x512_1_0_0,
          k0_pay8 (View.ld A (Rect.unit ![0, 512] ![1024, 512] inb_S1024x2048_S1024x512_0_512))⟩,
        ⟨Rect.unit ![0, 0, 0] ![1, 1024, 512] inb_S4x1024x512_S1x1024x512_0_0_0,
          k0_pay6 (View.ld A (Rect.unit ![0, 0] ![1024, 512] inb_S1024x2048_S1024x512_0_0))⟩]
      (ix3 d k j) = A (ix2 k (slabCol d j)) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · exact h1'.symm
    · dsimp only [slabCol]
      omega

theorem emb2 (t : Fin cfg0.N) (d : Fin 4) (k : Fin 1024) (j : Fin 512) : ((cfg0.win 2).blk t).view.emb (ix3 d k j)
    = ix3 ⟨t.val / 8 * 4 + d.val, by have := t.isLt; have : cfg0.N = 16 := rfl; omega⟩ k j := by
  blk_ext [idx t]
theorem emb3 (t : Fin cfg0.N) (d : Fin 4) (k : Fin 1024) (j : Fin 512) : ((cfg0.win 3).blk t).view.emb (ix3 d k j)
    = ix3 ⟨t.val / 8 * 4 + d.val, by have := t.isLt; have : cfg0.N = 16 := rfl; omega⟩ k j := by
  blk_ext [idx t]

theorem final_2 (c : Dev nD) : (dats m 0 c).arrAt 2 cfg0.N = Cert.Reference4Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 2 _ (by decide +kernel) fun t hf y => ?_
  obtain ⟨d, k, j, rfl⟩ : ∃ (d : Fin 4) (k : Fin 1024) (j : Fin 512), y = ix3 d k j := ⟨y 0, y 1, y 2, eq_ix3 y⟩
  have h7 : t.val % 8 = 7 := (flush0_2 t).mp hf
  have h0 : ¬t.val % 8 = 0 := by omega
  rw [emb2]
  blk_simp
  refine Eq.trans ?_ (v30_at (m ((c : Thread nD τ).loc main_arg0)) (m ((c : Thread nD τ).loc main_arg1)) (m ((c : Thread nD τ).loc main_arg2)) (m ((c : Thread nD τ).loc main_arg3)) (m ((c : Thread nD τ).loc main_arg4)) _ k j).symm
  rw [after0_2, outsAt0_C m c t h0 h7]
  have e : col t (slabCol d j) = ⟨(t.val / 8 * 4 + d.val) * 512 + j.val, by have := t.isLt; have : cfg0.N = 16 := rfl; have : cfg0.grid.N = 16 := rfl; omega⟩ := by
    refine Fin.ext ?_
    show t.val / 8 * 2048 + (d.val * 512 + j.val) = (t.val / 8 * 4 + d.val) * 512 + j.val
    omega
  rw [← e]
  refine Eq.trans ?_ (acc_last m c t h7 k (slabCol d j))
  rw [outsAt0_C m c t h0 h7]
  frame_out
  rw [read_unread_whole]
  generalize k0_pay2 (F := Ideal) _ _ _ = A
  simp only [acc_read A]
  exact slabs A d k j
theorem final_3 (c : Dev nD) : (dats m 0 c).arrAt 3 cfg0.N = Cert.Reference4Ideal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t hf y => ?_
  obtain ⟨d, k, j, rfl⟩ : ∃ (d : Fin 4) (k : Fin 1024) (j : Fin 512), y = ix3 d k j := ⟨y 0, y 1, y 2, eq_ix3 y⟩
  have h7 : t.val % 8 = 7 := (flush0_3 t).mp hf
  have h0 : ¬t.val % 8 = 0 := by omega
  rw [emb3]
  blk_simp
  refine Eq.trans ?_ (v31_at (m ((c : Thread nD τ).loc main_arg0)) (m ((c : Thread nD τ).loc main_arg1)) (m ((c : Thread nD τ).loc main_arg2)) (m ((c : Thread nD τ).loc main_arg3)) (m ((c : Thread nD τ).loc main_arg4)) _ k j).symm
  rw [after0_3, outsAt0_C m c t h0 h7]
  have e : col t (slabCol d j) = ⟨(t.val / 8 * 4 + d.val) * 512 + j.val, by have := t.isLt; have : cfg0.N = 16 := rfl; have : cfg0.grid.N = 16 := rfl; omega⟩ := by
    refine Fin.ext ?_
    show t.val / 8 * 2048 + (d.val * 512 + j.val) = (t.val / 8 * 4 + d.val) * 512 + j.val
    omega
  rw [← e]
  refine Eq.trans ?_ (acc_last m c t h7 k (slabCol d j))
  rw [outsAt0_C m c t h0 h7]
  frame_out
  rw [read_unread_whole]
  generalize k0_pay2 (F := Ideal) _ _ _ = A
  simp only [acc_read A]
  exact slabs16 A d k j
end Cert.Up
end
-- ==== Proof.UpClaim.lean ====
module
public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.UpArrays
@[expose] public section
set_option maxRecDepth 16384
noncomputable section
namespace Cert.Up
open Idealize.ShloMosaic Idealize.ShloMosaic.TcCoe Idealize.SL.Sem

/-- The two programs leave the same arrays. -/
theorem algebraic [Cert.Kernel4Ideal.Facts] [Cert.Reference4Ideal.Facts] : Cert.algebraic_Kernel4Ideal_Reference4Ideal := by
  intro m g m' g' _ hag
  refine ⟨fun c => Cert.Reference4Ideal.Read.val_main_v30 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
      fun c => Cert.Reference4Ideal.Read.val_main_v31 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)), ?_, ?_⟩
  · refine (θ_run _ _ _).mono (fun r h c => ?_) (Cert.Kernel4Ideal.Value.run_blocks (F := Ideal) m g)
    obtain ⟨h0, h1, a0, a1, a2, a3, a4⟩ := h c
    exact ⟨h0.trans (final_2 m c), h1.trans (final_3 m c), a0, a1, a2, a3, a4⟩
  · refine (θ_run _ _ _).mono (fun r h c => ?_) (Cert.Reference4Ideal.Value.run (F := Ideal) m' g')
    obtain ⟨h0, h1, a0, a1, a2, a3, a4⟩ := h c
    obtain ⟨e0, e1, e2, e3, e4⟩ := hag c
    have r0 := h0.trans (Cert.Reference4Ideal.Read.val_main_v30_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)))
    rw [e0, e1, e2, e3, e4] at r0
    have r1 := h1.trans (Cert.Reference4Ideal.Read.val_main_v31_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)))
    rw [e0, e1, e2, e3, e4] at r1
    exact ⟨r0, r1, a0, a1, a2, a3, a4⟩
end Cert.Up
end
-- ==== Proof.MixSpec.lean ====
module
public import proofs.«01_k».proof.Proof.Gen.Reference5Ideal.Read
public import proofs.«01_k».proof.Proof.Rms
public import Idealize.ShloMosaic.Lib.Pointwise
@[expose] public section
set_option maxRecDepth 16384
noncomputable section
namespace Cert.Mix
open Idealize.ShloMosaic Idealize.ShloMosaic.Pointwise Cert.Reference5Ideal Cert.Reference5Ideal.Read

/-- A column lies in the first, the second or the third group. -/
theorem cols {P : Fin 1024 → Prop} (h0 : ∀ x : Fin 512, P ⟨x.val, by omega⟩) (h1 : ∀ x : Fin 256, P ⟨512 + x.val, by omega⟩)
    (h2 : ∀ x : Fin 256, P ⟨768 + x.val, by omega⟩) (j : Fin 1024) : P j := by
  by_cases a : j.val < 512
  · exact h0 ⟨j.val, a⟩
  · by_cases b : j.val < 768
    · have := h1 ⟨j.val - 512, by omega⟩
      rwa [show (⟨512 + (j.val - 512), by omega⟩ : Fin 1024) = j from Fin.ext (by show 512 + (j.val - 512) = j.val; omega)] at this
    · have := h2 ⟨j.val - 768, by omega⟩
      rwa [show (⟨768 + (j.val - 768), by omega⟩ : Fin 1024) = j from Fin.ext (by show 768 + (j.val - 768) = j.val; omega)] at this

variable (a0 a1 : Vec Ideal S8192x1024 .f32) (a2 : Vec Ideal S1024 .f32) (a3 : Vec Ideal S1024x1024 .f32)

/-- The gradient of the normalised mixed rows. -/
def dym (r : Fin 8192) (j : Fin 1024) : EReal := ∑ x : Fin 1024, a0 (ix2 r x) * a3 (ix2 j x)

/-- The scale of each of the three groups of columns of row `r`. -/
def sc0 (r : Fin 8192) : EReal :=
  Rms.scale (Ideal.ofBits .f32 0x44000000#32) (Ideal.ofBits .f32 0x358637BD#32) (fun k : Fin 512 => a1 (ix2 r ⟨k.val, by omega⟩))
def sc1 (r : Fin 8192) : EReal :=
  Rms.scale (Ideal.ofBits .f32 0x43800000#32) (Ideal.ofBits .f32 0x358637BD#32) (fun k : Fin 256 => a1 (ix2 r ⟨512 + k.val, by omega⟩))
def sc2 (r : Fin 8192) : EReal :=
  Rms.scale (Ideal.ofBits .f32 0x43800000#32) (Ideal.ofBits .f32 0x358637BD#32) (fun k : Fin 256 => a1 (ix2 r ⟨768 + k.val, by omega⟩))

/-- The scale at a column. -/
def sc (r : Fin 8192) (j : Fin 1024) : EReal := if j.val < 512 then sc0 a1 r else if j.val < 768 then sc1 a1 r else sc2 a1 r

theorem sc_at0 (r : Fin 8192) (x : Fin 512) : sc a1 r ⟨x.val, by omega⟩ = sc0 a1 r := if_pos x.isLt
theorem sc_at1 (r : Fin 8192) (x : Fin 256) : sc a1 r ⟨512 + x.val, by omega⟩ = sc1 a1 r :=
  (if_neg (by dsimp only; omega)).trans (if_pos (by dsimp only; omega))
theorem sc_at2 (r : Fin 8192) (x : Fin 256) : sc a1 r ⟨768 + x.val, by omega⟩ = sc2 a1 r :=
  (if_neg (by dsimp only; omega)).trans (if_neg (by dsimp only; omega))

/-- The gradient of the mixed rows, in each group of columns. -/
def dy0 (r : Fin 8192) (j : Fin 512) : EReal :=
  Rms.fused (Ideal.ofBits .f32 0x44000000#32) (Ideal.ofBits .f32 0x358637BD#32) (fun k : Fin 512 => a1 (ix2 r ⟨k.val, by omega⟩))
    (fun k => dym a0 a3 r ⟨k.val, by omega⟩ * a2 (ix1 ⟨k.val, by omega⟩)) j
def dy1 (r : Fin 8192) (j : Fin 256) : EReal :=
  Rms.fused (Ideal.ofBits .f32 0x43800000#32) (Ideal.ofBits .f32 0x358637BD#32) (fun k : Fin 256 => a1 (ix2 r ⟨512 + k.val, by omega⟩))
    (fun k => dym a0 a3 r ⟨512 + k.val, by omega⟩ * a2 (ix1 ⟨512 + k.val, by omega⟩)) j
def dy2 (r : Fin 8192) (j : Fin 256) : EReal :=
  Rms.fused (Ideal.ofBits .f32 0x43800000#32) (Ideal.ofBits .f32 0x358637BD#32) (fun k : Fin 256 => a1 (ix2 r ⟨768 + k.val, by omega⟩))
    (fun k => dym a0 a3 r ⟨768 + k.val, by omega⟩ * a2 (ix1 ⟨768 + k.val, by omega⟩)) j

/-- The part of row `r` in the gradient of the gain. -/
def dgAt (r : Fin 8192) (j : Fin 1024) : EReal := dym a0 a3 r j * (a1 (ix2 r j) * sc a1 r j)

theorem dgAt_at0 (r : Fin 8192) (x : Fin 512) : dgAt a0 a1 a3 r ⟨x.val, by omega⟩
    = dym a0 a3 r ⟨x.val, by omega⟩ * (a1 (ix2 r ⟨x.val, by omega⟩) * sc0 a1 r) := by
  unfold dgAt
  rw [sc_at0]
theorem dgAt_at1 (r : Fin 8192) (x : Fin 256) : dgAt a0 a1 a3 r ⟨512 + x.val, by omega⟩
    = dym a0 a3 r ⟨512 + x.val, by omega⟩ * (a1 (ix2 r ⟨512 + x.val, by omega⟩) * sc1 a1 r) := by
  unfold dgAt
  rw [sc_at1]
theorem dgAt_at2 (r : Fin 8192) (x : Fin 256) : dgAt a0 a1 a3 r ⟨768 + x.val, by omega⟩
    = dym a0 a3 r ⟨768 + x.val, by omega⟩ * (a1 (ix2 r ⟨768 + x.val, by omega⟩) * sc2 a1 r) := by
  unfold dgAt
  rw [sc_at2]

/-- The normalised mixed rows. -/
def ym (r : Fin 8192) (j : Fin 1024) : EReal := a1 (ix2 r j) * sc a1 r j * a2 (ix1 j)

/-- The part of row `r` in the gradient of the output projection's weights. -/
def dwAt (r : Fin 8192) (k j : Fin 1024) : EReal := ym a1 a2 r k * a0 (ix2 r j)

theorem v81_at (r : Fin 8192) (j : Fin 256) : val_main_v81 (F := Ideal) a0 a1 a2 a3 (ix2 r j) = dy2 a0 a1 a2 a3 r j := by
  pointwise [val_main_v81, val_main_v79, val_main_v80, val_main_v72, val_main_v78, val_main_v36, val_main_v77, val_main_v66, val_main_v71, val_main_v76, val_main_v61, val_main_v65, val_main_v45, val_main_cst_15, val_main_v75, val_main_v58, val_main_v51, val_main_v44, val_main_v73, val_main_v74, val_main_v37, val_main_v42, val_main_v43, val_main_v48, val_main_v70, val_main_cst_14, val_main_v40, val_main_v41, val_main_cst_9, val_main_v46, val_main_v47, val_main_v69, val_main_v39, val_main_cst_8, val_main_cst_10, val_main_cst_13, val_main_v68, val_main_cst_7, val_main_v38]
  simp only [Fin.sum_univ_one]
  unfold dy2
  rw [Rms.fused_256]
  rfl
theorem v103_at (r : Fin 8192) (j : Fin 256) : val_main_v103 (F := Ideal) a0 a1 a2 a3 (ix2 r j) = dy1 a0 a1 a2 a3 r j := by
  pointwise [val_main_v103, val_main_v101, val_main_v102, val_main_v100, val_main_v94, val_main_v18, val_main_v99, val_main_v88, val_main_v93, val_main_v98, val_main_v60, val_main_v87, val_main_v27, val_main_cst_22, val_main_v97, val_main_v58, val_main_v33, val_main_v26, val_main_v95, val_main_v96, val_main_v19, val_main_v24, val_main_v25, val_main_v30, val_main_v92, val_main_cst_21, val_main_v22, val_main_v23, val_main_cst_5, val_main_v28, val_main_v29, val_main_v91, val_main_v21, val_main_cst_4, val_main_cst_6, val_main_cst_20, val_main_v90, val_main_cst_3, val_main_v20]
  simp only [Fin.sum_univ_one]
  unfold dy1
  rw [Rms.fused_256]
  rfl
theorem v127_at (r : Fin 8192) (j : Fin 512) : val_main_v127 (F := Ideal) a0 a1 a2 a3 (ix2 r j) = dy0 a0 a1 a2 a3 r j := by
  pointwise [val_main_v127, val_main_v125, val_main_v126, val_main_v118, val_main_v124, val_main_v0, val_main_v123, val_main_v112, val_main_v117, val_main_v122, val_main_v111, val_main_v59, val_main_v9, val_main_cst_29, val_main_v121, val_main_v15, val_main_v58, val_main_v8, val_main_v119, val_main_v120, val_main_v1, val_main_v6, val_main_v7, val_main_v116, val_main_v12, val_main_cst_28, val_main_v4, val_main_v5, val_main_cst_1, val_main_v115, val_main_v10, val_main_v11, val_main_v3, val_main_cst_0, val_main_cst_27, val_main_v114, val_main_cst_2, val_main_cst, val_main_v2]
  simp only [Fin.sum_univ_one]
  unfold dy0
  rw [Rms.fused_512]
  rfl

theorem v131_at0 (r : Fin 8192) (x : Fin 512) : val_main_v131 (F := Ideal) a0 a1 a2 a3 (ix2 r ⟨x.val, by omega⟩) = dy0 a0 a1 a2 a3 r x := by
  pointwise [val_main_v131, val_main_v107, val_main_v130, val_main_v106, val_main_v83, val_main_cst_31, val_main_cst_24, val_main_cst_17]
  simp (config := { failIfUnchanged := false }) (disch := omega) only [dif_pos, dif_neg, false_and, dite_false, not_false_eq_true]
  simp (config := { failIfUnchanged := false }) only [zero_add, add_zero]
  exact v127_at a0 a1 a2 a3 r x
theorem v131_at1 (r : Fin 8192) (x : Fin 256) : val_main_v131 (F := Ideal) a0 a1 a2 a3 (ix2 r ⟨512 + x.val, by omega⟩) = dy1 a0 a1 a2 a3 r x := by
  pointwise [val_main_v131, val_main_v107, val_main_v130, val_main_v106, val_main_v83, val_main_cst_31, val_main_cst_24, val_main_cst_17]
  simp (config := { failIfUnchanged := false }) (disch := omega) only [dif_pos, dif_neg, false_and, dite_false, not_false_eq_true]
  simp (config := { failIfUnchanged := false }) only [zero_add, add_zero, Nat.add_sub_cancel_left]
  exact v103_at a0 a1 a2 a3 r x
theorem v131_at2 (r : Fin 8192) (x : Fin 256) : val_main_v131 (F := Ideal) a0 a1 a2 a3 (ix2 r ⟨768 + x.val, by omega⟩) = dy2 a0 a1 a2 a3 r x := by
  pointwise [val_main_v131, val_main_v107, val_main_v130, val_main_v106, val_main_v83, val_main_cst_31, val_main_cst_24, val_main_cst_17]
  simp (config := { failIfUnchanged := false }) (disch := omega) only [dif_pos, dif_neg, false_and, dite_false, not_false_eq_true]
  simp (config := { failIfUnchanged := false }) only [add_zero, Nat.add_sub_cancel_left]
  exact v81_at a0 a1 a2 a3 r x

theorem v133_at (j : Fin 1024) : val_main_v133 (F := Ideal) a0 a1 a3 (ix2 0 j) = ∑ r : Fin 8192, dgAt a0 a1 a3 r j := by
  revert j
  refine cols (fun x => ?_) (fun x => ?_) fun x => ?_
  · pointwise [val_main_v133, val_main_v129, val_main_v105, val_main_v128, val_main_v104, val_main_v82, val_main_cst_30, val_main_v113, val_main_cst_23, val_main_v89, val_main_cst_16, val_main_v67, val_main_cst_26, val_main_v110, val_main_cst_19, val_main_v86, val_main_cst_12, val_main_v64, val_main_v109, val_main_v85, val_main_v63, val_main_cst_25, val_main_v108, val_main_cst_18, val_main_v84, val_main_cst_11, val_main_v62, val_main_v14, val_main_v59, val_main_v32, val_main_v60, val_main_v50, val_main_v61, val_main_v0, val_main_v13, val_main_v58, val_main_v18, val_main_v31, val_main_v36, val_main_v49, val_main_v9, val_main_v27, val_main_v45, val_main_v8, val_main_v26, val_main_v44, val_main_v6, val_main_v7, val_main_v24, val_main_v25, val_main_v42, val_main_v43, val_main_v4, val_main_v5, val_main_cst_1, val_main_v22, val_main_v23, val_main_cst_5, val_main_v40, val_main_v41, val_main_cst_9, val_main_v3, val_main_cst_0, val_main_v21, val_main_cst_4, val_main_v39, val_main_cst_8, val_main_cst, val_main_v2, val_main_cst_3, val_main_v20, val_main_cst_7, val_main_v38]
    simp (config := { failIfUnchanged := false }) (disch := omega) only [dif_pos, dif_neg, false_and, dite_false, not_false_eq_true]
    simp (config := { failIfUnchanged := false }) only [zero_add, add_zero, Fin.sum_univ_one]
    refine Finset.sum_congr rfl fun r _ => ?_
    unfold dgAt
    rw [sc_at0, mul_comm]
    rfl
  · pointwise [val_main_v133, val_main_v129, val_main_v105, val_main_v128, val_main_v104, val_main_v82, val_main_cst_30, val_main_v113, val_main_cst_23, val_main_v89, val_main_cst_16, val_main_v67, val_main_cst_26, val_main_v110, val_main_cst_19, val_main_v86, val_main_cst_12, val_main_v64, val_main_v109, val_main_v85, val_main_v63, val_main_cst_25, val_main_v108, val_main_cst_18, val_main_v84, val_main_cst_11, val_main_v62, val_main_v14, val_main_v59, val_main_v32, val_main_v60, val_main_v50, val_main_v61, val_main_v0, val_main_v13, val_main_v58, val_main_v18, val_main_v31, val_main_v36, val_main_v49, val_main_v9, val_main_v27, val_main_v45, val_main_v8, val_main_v26, val_main_v44, val_main_v6, val_main_v7, val_main_v24, val_main_v25, val_main_v42, val_main_v43, val_main_v4, val_main_v5, val_main_cst_1, val_main_v22, val_main_v23, val_main_cst_5, val_main_v40, val_main_v41, val_main_cst_9, val_main_v3, val_main_cst_0, val_main_v21, val_main_cst_4, val_main_v39, val_main_cst_8, val_main_cst, val_main_v2, val_main_cst_3, val_main_v20, val_main_cst_7, val_main_v38]
    simp (config := { failIfUnchanged := false }) (disch := omega) only [dif_pos, dif_neg, false_and, dite_false, not_false_eq_true]
    simp (config := { failIfUnchanged := false }) only [zero_add, add_zero, Nat.add_sub_cancel_left, Fin.sum_univ_one]
    refine Finset.sum_congr rfl fun r _ => ?_
    unfold dgAt
    rw [sc_at1, mul_comm]
    rfl
  · pointwise [val_main_v133, val_main_v129, val_main_v105, val_main_v128, val_main_v104, val_main_v82, val_main_cst_30, val_main_v113, val_main_cst_23, val_main_v89, val_main_cst_16, val_main_v67, val_main_cst_26, val_main_v110, val_main_cst_19, val_main_v86, val_main_cst_12, val_main_v64, val_main_v109, val_main_v85, val_main_v63, val_main_cst_25, val_main_v108, val_main_cst_18, val_main_v84, val_main_cst_11, val_main_v62, val_main_v14, val_main_v59, val_main_v32, val_main_v60, val_main_v50, val_main_v61, val_main_v0, val_main_v13, val_main_v58, val_main_v18, val_main_v31, val_main_v36, val_main_v49, val_main_v9, val_main_v27, val_main_v45, val_main_v8, val_main_v26, val_main_v44, val_main_v6, val_main_v7, val_main_v24, val_main_v25, val_main_v42, val_main_v43, val_main_v4, val_main_v5, val_main_cst_1, val_main_v22, val_main_v23, val_main_cst_5, val_main_v40, val_main_v41, val_main_cst_9, val_main_v3, val_main_cst_0, val_main_v21, val_main_cst_4, val_main_v39, val_main_cst_8, val_main_cst, val_main_v2, val_main_cst_3, val_main_v20, val_main_cst_7, val_main_v38]
    simp (config := { failIfUnchanged := false }) (disch := omega) only [dif_pos, dif_neg, false_and, dite_false, not_false_eq_true]
    simp (config := { failIfUnchanged := false }) only [zero_add, add_zero, Nat.add_sub_cancel_left, Fin.sum_univ_one]
    refine Finset.sum_congr rfl fun r _ => ?_
    unfold dgAt
    rw [sc_at2, mul_comm]
    rfl

theorem v54_at (r : Fin 8192) (j : Fin 1024) : val_main_v54 (F := Ideal) a1 a2 (ix2 r j) = ym a1 a2 r j := by
  revert j
  refine cols (fun x => ?_) (fun x => ?_) fun x => ?_
  · pointwise [val_main_v54, val_main_v17, val_main_v35, val_main_v53, val_main_v14, val_main_v16, val_main_v32, val_main_v34, val_main_v50, val_main_v52, val_main_v0, val_main_v13, val_main_v15, val_main_v18, val_main_v31, val_main_v33, val_main_v36, val_main_v49, val_main_v51, val_main_v9, val_main_v1, val_main_v27, val_main_v19, val_main_v45, val_main_v37, val_main_v8, val_main_v26, val_main_v44, val_main_v6, val_main_v7, val_main_v24, val_main_v25, val_main_v42, val_main_v43, val_main_v4, val_main_v5, val_main_cst_1, val_main_v22, val_main_v23, val_main_cst_5, val_main_v40, val_main_v41, val_main_cst_9, val_main_v3, val_main_cst_0, val_main_v21, val_main_cst_4, val_main_v39, val_main_cst_8, val_main_cst, val_main_v2, val_main_cst_3, val_main_v20, val_main_cst_7, val_main_v38]
    simp (config := { failIfUnchanged := false }) (disch := omega) only [dif_pos, dif_neg, false_and, dite_false, not_false_eq_true]
    unfold ym
    rw [sc_at0]
    rfl
  · pointwise [val_main_v54, val_main_v17, val_main_v35, val_main_v53, val_main_v14, val_main_v16, val_main_v32, val_main_v34, val_main_v50, val_main_v52, val_main_v0, val_main_v13, val_main_v15, val_main_v18, val_main_v31, val_main_v33, val_main_v36, val_main_v49, val_main_v51, val_main_v9, val_main_v1, val_main_v27, val_main_v19, val_main_v45, val_main_v37, val_main_v8, val_main_v26, val_main_v44, val_main_v6, val_main_v7, val_main_v24, val_main_v25, val_main_v42, val_main_v43, val_main_v4, val_main_v5, val_main_cst_1, val_main_v22, val_main_v23, val_main_cst_5, val_main_v40, val_main_v41, val_main_cst_9, val_main_v3, val_main_cst_0, val_main_v21, val_main_cst_4, val_main_v39, val_main_cst_8, val_main_cst, val_main_v2, val_main_cst_3, val_main_v20, val_main_cst_7, val_main_v38]
    simp (config := { failIfUnchanged := false }) (disch := omega) only [dif_pos, dif_neg, false_and, dite_false, not_false_eq_true]
    simp (config := { failIfUnchanged := false }) only [Nat.add_sub_cancel_left]
    unfold ym
    rw [sc_at1]
    rfl
  · pointwise [val_main_v54, val_main_v17, val_main_v35, val_main_v53, val_main_v14, val_main_v16, val_main_v32, val_main_v34, val_main_v50, val_main_v52, val_main_v0, val_main_v13, val_main_v15, val_main_v18, val_main_v31, val_main_v33, val_main_v36, val_main_v49, val_main_v51, val_main_v9, val_main_v1, val_main_v27, val_main_v19, val_main_v45, val_main_v37, val_main_v8, val_main_v26, val_main_v44, val_main_v6, val_main_v7, val_main_v24, val_main_v25, val_main_v42, val_main_v43, val_main_v4, val_main_v5, val_main_cst_1, val_main_v22, val_main_v23, val_main_cst_5, val_main_v40, val_main_v41, val_main_cst_9, val_main_v3, val_main_cst_0, val_main_v21, val_main_cst_4, val_main_v39, val_main_cst_8, val_main_cst, val_main_v2, val_main_cst_3, val_main_v20, val_main_cst_7, val_main_v38]
    simp (config := { failIfUnchanged := false }) (disch := omega) only [dif_pos, dif_neg, false_and, dite_false, not_false_eq_true]
    simp (config := { failIfUnchanged := false }) only [Nat.sub_sub, Nat.reduceAdd, Nat.add_sub_cancel_left]
    unfold ym
    rw [sc_at2]
    rfl

theorem v132_at (d : Fin 8) (k : Fin 128) (j : Fin 1024) :
    val_main_v132 (F := Ideal) a0 a1 a2 (ix3 d k j) = ∑ r : Fin 8192, dwAt a0 a1 a2 r ⟨d.val * 128 + k.val, by omega⟩ j := by
  pointwise [val_main_v132, val_main_v57, val_main_v56]
  simp only [v54_at]
  exact Finset.sum_congr rfl fun r _ => mul_comm _ _

theorem v134_at (d : Fin 8) (k : Fin 128) (j : Fin 1024) :
    val_main_v134 (F := Ideal) a0 a1 a2 (ix3 d k j) = ∑ r : Fin 8192, dwAt a0 a1 a2 r ⟨d.val * 128 + k.val, by omega⟩ j := by
  pointwise [val_main_v134]
  exact v132_at a0 a1 a2 d k j
end Cert.Mix
end
-- ==== Proof.MixArrays.lean ====
module
public import proofs.«01_k».proof.Proof.Gen.Kernel5Ideal.Value
public import proofs.«01_k».proof.Proof.MixSpec
public import Idealize.ShloMosaic.Lib.Pointwise
public import Idealize.ShloMosaic.Lib.Pipeline.ValueKit
public import Idealize.ShloMosaic.Lib.Pipeline.ReadBack
@[expose] public section
set_option maxRecDepth 16384
noncomputable section
namespace Cert.Mix
open Idealize.ShloMosaic Idealize.ShloMosaic.TcCoe Idealize.SL.Sem Idealize.ShloMosaic.Pointwise Cert.Kernel5Ideal Cert.Kernel5Ideal.Gen
open Idealize.ShloMosaic.Pipeline (Dat)

section
variable (x0 : Vec Ideal S512x1024 .bf16) (x1 : Vec Ideal S512x1024 .f32) (x2 : Vec Ideal S512x1024 .bf16) (x3 : Vec Ideal S1x1024 .f32)
  (x4 : Vec Ideal S1024x1024 .bf16)
variable (a0 a1 : Vec Ideal S8192x1024 .f32) (a2 : Vec Ideal S1024 .f32) (a3 : Vec Ideal S1024x1024 .f32)

/-- The blocks of a grid point are rows `R r` of the arrays. -/
structure Reads (R : Fin 512 → Fin 8192) : Prop where
  h0 : ∀ r k, x0 (ix2 r k) = a0 (ix2 (R r) k)
  h1 : ∀ r k, x1 (ix2 r k) = a1 (ix2 (R r) k)
  h2 : ∀ r k, x2 (ix2 r k) = ym a1 a2 (R r) k
  h3 : ∀ k, x3 (ix2 0 k) = a2 (ix1 k)
  h4 : ∀ k j, x4 (ix2 k j) = a3 (ix2 k j)

variable {x0 x1 x2 x3 x4 a0 a1 a2 a3} {R : Fin 512 → Fin 8192}

/-- The block of the gradient of the mixed rows, as the call's body forms it. -/
def dyB (x0 : Vec Ideal S512x1024 .bf16) (x1 : Vec Ideal S512x1024 .f32) (x3 : Vec Ideal S1x1024 .f32)
    (x4 : Vec Ideal S1024x1024 .bf16) : Vec Ideal S512x1024 .f32 :=
  k0_pay3 (k0_pay26 x0 x4) (k0_pay27 x3) (k0_pay35 x1) (k0_pay36 x1 (k0_pay30 x1) (k0_pay31 x1) (k0_pay32 x1) (Scalar.ofBits .f32 0x43800000#32)) (k0_pay39 (k0_pay26 x0 x4) (k0_pay27 x3) x1 (k0_pay29 x1) (k0_pay30 x1) (k0_pay31 x1) (k0_pay32 x1) (Scalar.ofBits .f32 0x43800000#32)) (k0_pay43 (k0_pay26 x0 x4) (k0_pay27 x3) x1 (k0_pay30 x1) (k0_pay31 x1) (k0_pay32 x1) (Scalar.ofBits .f32 0x43800000#32)) (k0_pay44 (k0_pay32 x1) (Scalar.ofBits .f32 0x43800000#32))

/-- The gradient of the gain after a block, as the call's body forms it. -/
def dgB (x0 : Vec Ideal S512x1024 .bf16) (x1 : Vec Ideal S512x1024 .f32) (x4 : Vec Ideal S1024x1024 .bf16)
    (v : Vec Ideal S1x1024 .f32) : Vec Ideal S1x1024 .f32 :=
  k0_pay4 (k0_pay26 x0 x4) (k0_pay36 x1 (k0_pay30 x1) (k0_pay31 x1) (k0_pay32 x1) (Scalar.ofBits .f32 0x43800000#32)) (k0_pay40 (k0_pay26 x0 x4) x1 (k0_pay30 x1) (k0_pay31 x1) (k0_pay32 x1) (Scalar.ofBits .f32 0x43800000#32)) (k0_pay41 (k0_pay26 x0 x4)) (k0_pay42 x1 (k0_pay30 x1) (k0_pay31 x1) (k0_pay32 x1) (Scalar.ofBits .f32 0x43800000#32)) v

theorem Reads.dy_at0 (h : Reads x0 x1 x2 x3 x4 a0 a1 a2 a3 R) (r : Fin 512) (x : Fin 512) :
    dyB x0 x1 x3 x4 (ix2 r ⟨x.val, by omega⟩) = dy0 a0 a1 a2 a3 (R r) x := by
  unfold dyB
  pointwise [k0_pay3, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay1, k0_pay2]
  simp (config := { failIfUnchanged := false }) (disch := omega) only [dif_pos, dif_neg, false_and, dite_false, not_false_eq_true, Nat.add_sub_cancel_left, Nat.sub_sub, Nat.reduceAdd]
  simp only [h.h0, h.h1, h.h3, h.h4]
  rfl

theorem Reads.dy_at1 (h : Reads x0 x1 x2 x3 x4 a0 a1 a2 a3 R) (r : Fin 512) (x : Fin 256) :
    dyB x0 x1 x3 x4 (ix2 r ⟨512 + x.val, by omega⟩) = dy1 a0 a1 a2 a3 (R r) x := by
  unfold dyB
  pointwise [k0_pay3, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay1, k0_pay2]
  simp (config := { failIfUnchanged := false }) (disch := omega) only [dif_pos, dif_neg, false_and, dite_false, not_false_eq_true, Nat.add_sub_cancel_left, Nat.sub_sub, Nat.reduceAdd]
  simp only [h.h0, h.h1, h.h3, h.h4]
  rfl

theorem Reads.dy_at2 (h : Reads x0 x1 x2 x3 x4 a0 a1 a2 a3 R) (r : Fin 512) (x : Fin 256) :
    dyB x0 x1 x3 x4 (ix2 r ⟨768 + x.val, by omega⟩) = dy2 a0 a1 a2 a3 (R r) x := by
  unfold dyB
  pointwise [k0_pay3, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay1, k0_pay2]
  simp (config := { failIfUnchanged := false }) (disch := omega) only [dif_pos, dif_neg, false_and, dite_false, not_false_eq_true, Nat.add_sub_cancel_left, Nat.sub_sub, Nat.reduceAdd]
  simp only [h.h0, h.h1, h.h3, h.h4]
  rfl

theorem Reads.dg_at (h : Reads x0 x1 x2 x3 x4 a0 a1 a2 a3 R) (v : Vec Ideal S1x1024 .f32) (j : Fin 1024) :
    dgB x0 x1 x4 v (ix2 0 j) = v (ix2 0 j) + ∑ r : Fin 512, dgAt a0 a1 a3 (R r) j := by
  revert j
  unfold dgB
  refine cols (fun x => ?_) (fun x => ?_) fun x => ?_
  · pointwise [k0_pay4, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay1, k0_pay2]
    simp (config := { failIfUnchanged := false }) (disch := omega) only [dif_pos, dif_neg, false_and, dite_false, not_false_eq_true, Nat.add_sub_cancel_left, Nat.sub_sub, Nat.reduceAdd]
    simp only [h.h0, h.h1, h.h4]
    refine congrArg _ (Finset.sum_congr rfl fun r _ => ?_)
    exact (dgAt_at0 a0 a1 a3 (R r) x).symm
  · pointwise [k0_pay4, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay1, k0_pay2]
    simp (config := { failIfUnchanged := false }) (disch := omega) only [dif_pos, dif_neg, false_and, dite_false, not_false_eq_true, Nat.add_sub_cancel_left, Nat.sub_sub, Nat.reduceAdd]
    simp only [h.h0, h.h1, h.h4]
    refine congrArg _ (Finset.sum_congr rfl fun r _ => ?_)
    exact (dgAt_at1 a0 a1 a3 (R r) x).symm
  · pointwise [k0_pay4, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay1, k0_pay2]
    simp (config := { failIfUnchanged := false }) (disch := omega) only [dif_pos, dif_neg, false_and, dite_false, not_false_eq_true, Nat.add_sub_cancel_left, Nat.sub_sub, Nat.reduceAdd]
    simp only [h.h0, h.h1, h.h4]
    refine congrArg _ (Finset.sum_congr rfl fun r _ => ?_)
    exact (dgAt_at2 a0 a1 a3 (R r) x).symm

theorem Reads.dw_at (h : Reads x0 x1 x2 x3 x4 a0 a1 a2 a3 R) (v : Vec Ideal S1024x1024 .f32) (k j : Fin 1024) :
    k0_pay25 x0 v x2 (ix2 k j) = v (ix2 k j) + ∑ r : Fin 512, dwAt a0 a1 a2 (R r) k j := by
  pointwise [k0_pay25, k0_pay24]
  simp only [h.h0, h.h2]
  rfl
end

/-- every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![0, 0, 0]
    ∧ win0_8.index t = ![0, 0, 0] :=
  (by decide +kernel : ∀ t : Fin grid0.N, _)

variable (m : (ℓ : Loc nD τ sig) → Buf (Elt Ideal) ℓ)

/-- Row `r` of the block of point `t`. -/
def row (t : Fin cfg0.N) (r : Fin 512) : Fin 8192 := ⟨t.val * 512 + r.val, by have := t.isLt; have : cfg0.N = 16 := rfl; omega⟩

theorem e47 (c : Dev nD) (r : Fin 8192) (k : Fin 1024) : V m c main_v47 (ix2 r k) = (m ((c : Thread nD τ).loc main_arg0)) (ix2 r k) := by
  unfold V
  simp only [hostOps0, List.flatten_cons, List.flatten_nil, List.cons_append, List.nil_append, List.append_nil]
  entry_read
  pointwise
/-- The host's arrays once the three groups of columns are scaled. -/
abbrev groups (c : Dev nD) := StableHlo.after (List.take 54 hostOps0) (fun b => m (c, b))

theorem e_cut (c : Dev nD) : V m c main_v46 = StableHlo.after (List.drop 54 hostOps0) (groups m c) (Proc.devRef .tc main_v46) := by
  rw [groups, ← StableHlo.after_append, List.take_append_drop]
theorem e14 (c : Dev nD) (r : Fin 8192) (x : Fin 512) : (groups m c (Proc.devRef .tc main_v14) : Vec Ideal S8192x512 .f32) (ix2 r x)
    = ym (m ((c : Thread nD τ).loc main_arg1)) (m ((c : Thread nD τ).loc main_arg2)) r ⟨x.val, by omega⟩ := by
  unfold ym
  rw [sc_at0]
  simp only [groups, hostOps0, List.take_succ_cons, List.take_zero]
  entry_read
  pointwise
  rfl
theorem e29 (c : Dev nD) (r : Fin 8192) (x : Fin 256) : (groups m c (Proc.devRef .tc main_v29) : Vec Ideal S8192x256 .f32) (ix2 r x)
    = ym (m ((c : Thread nD τ).loc main_arg1)) (m ((c : Thread nD τ).loc main_arg2)) r ⟨512 + x.val, by omega⟩ := by
  unfold ym
  rw [sc_at1]
  simp only [groups, hostOps0, List.take_succ_cons, List.take_zero]
  entry_read
  pointwise
  rfl
theorem e44 (c : Dev nD) (r : Fin 8192) (x : Fin 256) : (groups m c (Proc.devRef .tc main_v44) : Vec Ideal S8192x256 .f32) (ix2 r x)
    = ym (m ((c : Thread nD τ).loc main_arg1)) (m ((c : Thread nD τ).loc main_arg2)) r ⟨768 + x.val, by omega⟩ := by
  unfold ym
  rw [sc_at2]
  simp only [groups, hostOps0, List.take_succ_cons, List.take_zero]
  entry_read
  pointwise
  rfl
theorem e45 (σ : (b : DevRef τ sig) → b.ty.Contents (Elt Ideal)) : (StableHlo.after (List.drop 54 hostOps0) σ (Proc.devRef .tc main_v46) : Vec Ideal S8192x1024 .bf16)
    = truncf (F := Ideal) (φ := .f32) .bf16 (concatenate S8192x1024 1 [⟨S8192x512, (σ (Proc.devRef .tc main_v14) : Vec Ideal S8192x512 .f32)⟩,
        ⟨S8192x256, (σ (Proc.devRef .tc main_v29) : Vec Ideal S8192x256 .f32)⟩,
        ⟨S8192x256, (σ (Proc.devRef .tc main_v44) : Vec Ideal S8192x256 .f32)⟩] concatenates_S8192x512_S8192x256_S8192x256_S8192x1024_d1) bitsLt_bf16_f32 := by
  simp only [hostOps0, List.drop_succ_cons, List.drop_zero]
  after_results
  rfl
theorem e46 (c : Dev nD) (r : Fin 8192) (k : Fin 1024) : V m c main_v46 (ix2 r k) = ym (m ((c : Thread nD τ).loc main_arg1)) (m ((c : Thread nD τ).loc main_arg2)) r k := by
  rw [e_cut, e45]
  have h0 := e14 m c r
  have h1 := e29 m c r
  have h2 := e44 m c r
  generalize (groups m c (Proc.devRef .tc main_v14) : Vec Ideal S8192x512 .f32) = A at h0 ⊢
  generalize (groups m c (Proc.devRef .tc main_v29) : Vec Ideal S8192x256 .f32) = B at h1 ⊢
  generalize (groups m c (Proc.devRef .tc main_v44) : Vec Ideal S8192x256 .f32) = C at h2 ⊢
  revert k
  refine cols (fun x => ?_) (fun x => ?_) fun x => ?_
  · pointwise
    exact h0 x
  · pointwise
    simp (config := { failIfUnchanged := false }) (disch := omega) only [dif_pos, dif_neg, Nat.add_sub_cancel_left, Nat.sub_sub, Nat.reduceAdd]
    exact h1 x
  · pointwise
    simp (config := { failIfUnchanged := false }) (disch := omega) only [dif_pos, dif_neg, Nat.add_sub_cancel_left, Nat.sub_sub, Nat.reduceAdd]
    exact h2 x
theorem e48 (c : Dev nD) (k : Fin 1024) : V m c main_v48 (ix2 0 k) = (m ((c : Thread nD τ).loc main_arg2)) (ix1 k) := by
  unfold V
  simp only [hostOps0, List.flatten_cons, List.flatten_nil, List.cons_append, List.nil_append, List.append_nil]
  entry_read
  pointwise
theorem e49 (c : Dev nD) (k : Fin 1024) (j : Fin 1024) : V m c main_v49 (ix2 k j) = (m ((c : Thread nD τ).loc main_arg3)) (ix2 k j) := by
  unfold V
  simp only [hostOps0, List.flatten_cons, List.flatten_nil, List.cons_append, List.nil_append, List.append_nil]
  entry_read
  pointwise
theorem e_arg1 (c : Dev nD) : V m c main_arg1 = (m ((c : Thread nD τ).loc main_arg1)) := V_main_arg1 m c

theorem reads_h0 (c : Dev nD) (t : Fin cfg0.N) (r : Fin 512) (k : Fin 1024) : iblk m c 0 t (ix2 r k) = (m ((c : Thread nD τ).loc main_arg0)) (ix2 (row t r) k) := by
  refine Eq.trans ?_ (e47 m c (row t r) k)
  blk_simp [iblk]
  blk_ext [idx t, row]
theorem reads_h1 (c : Dev nD) (t : Fin cfg0.N) (r : Fin 512) (k : Fin 1024) : iblk m c 1 t (ix2 r k) = (m ((c : Thread nD τ).loc main_arg1)) (ix2 (row t r) k) := by
  refine Eq.trans ?_ (congrFun (e_arg1 m c) _)
  blk_simp [iblk]
  blk_ext [idx t, row]
theorem reads_h2 (c : Dev nD) (t : Fin cfg0.N) (r : Fin 512) (k : Fin 1024) : iblk m c 2 t (ix2 r k) = ym (m ((c : Thread nD τ).loc main_arg1)) (m ((c : Thread nD τ).loc main_arg2)) (row t r) k := by
  refine Eq.trans ?_ (e46 m c (row t r) k)
  blk_simp [iblk]
  blk_ext [idx t, row]
theorem reads_h3 (c : Dev nD) (t : Fin cfg0.N) (k : Fin 1024) : iblk m c 3 t (ix2 0 k) = (m ((c : Thread nD τ).loc main_arg2)) (ix1 k) := by
  refine Eq.trans ?_ (e48 m c k)
  blk_simp [iblk]
  blk_ext [idx t]
theorem reads_h4 (c : Dev nD) (t : Fin cfg0.N) (k j : Fin 1024) : iblk m c 4 t (ix2 k j) = (m ((c : Thread nD τ).loc main_arg3)) (ix2 k j) := by
  refine Eq.trans ?_ (e49 m c k j)
  blk_simp [iblk]
  blk_ext [idx t]

/-- What the blocks of point `t` hold. -/
theorem reads (c : Dev nD) (t : Fin cfg0.N) :
    Reads (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (row t) where
  h0 := reads_h0 m c t
  h1 := reads_h1 m c t
  h2 := reads_h2 m c t
  h3 := reads_h3 m c t
  h4 := reads_h4 m c t

theorem emb5 (t : Fin cfg0.N) (r : Fin 512) (j : Fin 1024) : ((cfg0.win 5).blk t).view.emb (ix2 r j) = ix2 (row t r) j := by
  blk_ext [idx t, row]

/-- The block written at a point is the block the call's body forms from the blocks it reads. -/
theorem out_dy (c : Dev nD) (t : Fin cfg0.N) :
    (outsAt0 m c t.val t.isLt).1 = dyB (iblk m c 0 t) (iblk m c 1 t) (iblk m c 3 t) (iblk m c 4 t) := by
  funext y
  by_cases h : t.val % 16 = 0
  · rw [outsAt0_A m c t h (by omega)]
    frame_out
    rfl
  · by_cases h' : t.val % 16 = 15
    · rw [outsAt0_C m c t h h']
      frame_out
      rfl
    · rw [outsAt0_B m c t h h']
      frame_out
      rfl

theorem final_5 (c : Dev nD) : (dats m 0 c).arrAt 5 cfg0.N = Cert.Reference5Ideal.Read.val_main_v131 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  rw [emb5]
  blk_simp
  rw [after0_5, out_dy]
  revert j
  refine cols (fun x => ?_) (fun x => ?_) fun x => ?_
  · exact ((reads m c t).dy_at0 r x).trans (v131_at0 (m ((c : Thread nD τ).loc main_arg0)) (m ((c : Thread nD τ).loc main_arg1)) (m ((c : Thread nD τ).loc main_arg2)) (m ((c : Thread nD τ).loc main_arg3)) (row t r) x).symm
  · exact ((reads m c t).dy_at1 r x).trans (v131_at1 (m ((c : Thread nD τ).loc main_arg0)) (m ((c : Thread nD τ).loc main_arg1)) (m ((c : Thread nD τ).loc main_arg2)) (m ((c : Thread nD τ).loc main_arg3)) (row t r) x).symm
  · exact ((reads m c t).dy_at2 r x).trans (v131_at2 (m ((c : Thread nD τ).loc main_arg0)) (m ((c : Thread nD τ).loc main_arg1)) (m ((c : Thread nD τ).loc main_arg2)) (m ((c : Thread nD τ).loc main_arg3)) (row t r) x).symm

theorem zero6 (j : Fin 1024) : k0_pay22 (F := Ideal) (ix2 0 j) = 0 := by
  pointwise! [k0_pay22]
theorem zero10 (k : Fin 1024) (j : Fin 1024) : k0_pay23 (F := Ideal) (ix2 k j) = 0 := by
  pointwise! [k0_pay23]

/-- The sum over all rows is the sum over the grid points of the sums over their blocks. -/
theorem sum_rows (f : Fin 8192 → EReal) : ∑ t : Fin cfg0.N, ∑ r : Fin 512, f (row t r) = ∑ r : Fin 8192, f r := by
  have : cfg0.N = 16 := rfl
  rw [← Finset.sum_product']
  refine Finset.sum_nbij' (fun p => row p.1 p.2) (fun r => (⟨r.val / 512, by have := r.isLt; omega⟩, ⟨r.val % 512, Nat.mod_lt _ (by norm_num)⟩)) ?_ ?_ ?_ ?_ ?_
  · intros; exact Finset.mem_univ _
  · intros; exact Finset.mem_univ _
  · rintro ⟨t, r⟩ _
    refine Prod.ext (Fin.ext ?_) (Fin.ext ?_)
    · show (t.val * 512 + r.val) / 512 = t.val
      omega
    · show (t.val * 512 + r.val) % 512 = r.val
      omega
  · intro r _
    refine Fin.ext ?_
    show r.val / 512 * 512 + r.val % 512 = r.val
    omega
  · intros; rfl

theorem dg_A (c : Dev nD) (t : Fin cfg0.N) (h : t.val % 16 = 0) (j : Fin 1024) :
    (outsAt0 m c t.val t.isLt).2.1 (ix2 0 j) = 0 + ∑ r : Fin 512, dgAt (m ((c : Thread nD τ).loc main_arg0)) (m ((c : Thread nD τ).loc main_arg1)) (m ((c : Thread nD τ).loc main_arg3)) (row t r) j := by
  rw [outsAt0_A m c t h (by omega)]; frame_out
  refine ((reads m c t).dg_at _ j).trans ?_
  rw [zero6]

theorem dg_B (c : Dev nD) (t : Fin cfg0.N) (h : ¬t.val % 16 = 0) (j : Fin 1024) :
    (outsAt0 m c t.val t.isLt).2.1 (ix2 0 j) = (outsAt0 m c (t.val - 1) (Nat.lt_of_le_of_lt (Nat.sub_le _ _) t.isLt)).2.1 (ix2 0 j)
      + ∑ r : Fin 512, dgAt (m ((c : Thread nD τ).loc main_arg0)) (m ((c : Thread nD τ).loc main_arg1)) (m ((c : Thread nD τ).loc main_arg3)) (row t r) j := by
  by_cases h' : t.val % 16 = 15
  · rw [outsAt0_C m c t h h']; frame_out
    exact (reads m c t).dg_at _ j
  · rw [outsAt0_B m c t h h']; frame_out
    exact (reads m c t).dg_at _ j

theorem dw_A (c : Dev nD) (t : Fin cfg0.N) (h : t.val % 16 = 0) (k : Fin 1024) (j : Fin 1024) :
    (outsAt0 m c t.val t.isLt).2.2.2.2 (ix2 k j) = 0 + ∑ r : Fin 512, dwAt (m ((c : Thread nD τ).loc main_arg0)) (m ((c : Thread nD τ).loc main_arg1)) (m ((c : Thread nD τ).loc main_arg2)) (row t r) k j := by
  rw [outsAt0_A m c t h (by omega)]; frame_out
  refine ((reads m c t).dw_at _ k j).trans ?_
  rw [zero10]

theorem dw_B (c : Dev nD) (t : Fin cfg0.N) (h : ¬t.val % 16 = 0) (k : Fin 1024) (j : Fin 1024) :
    (outsAt0 m c t.val t.isLt).2.2.2.2 (ix2 k j) = (outsAt0 m c (t.val - 1) (Nat.lt_of_le_of_lt (Nat.sub_le _ _) t.isLt)).2.2.2.2 (ix2 k j)
      + ∑ r : Fin 512, dwAt (m ((c : Thread nD τ).loc main_arg0)) (m ((c : Thread nD τ).loc main_arg1)) (m ((c : Thread nD τ).loc main_arg2)) (row t r) k j := by
  by_cases h' : t.val % 16 = 15
  · rw [outsAt0_C m c t h h']; frame_out; rw [read_unread_whole]
    exact (reads m c t).dw_at _ k j
  · rw [outsAt0_B m c t h h']; frame_out; rw [read_unread_whole]
    exact (reads m c t).dw_at _ k j

theorem final_6 (c : Dev nD) : (dats m 0 c).arrAt 6 cfg0.N = Cert.Reference5Ideal.Read.val_main_v133 (F := Ideal) (m ((c : Thread nD τ).loc main_arg0)) (m ((c : Thread nD τ).loc main_arg1)) (m ((c : Thread nD τ).loc main_arg3)) := by
  refine (dats m 0 c).arrAt_eq_of_after_last 6 t0_15 (by decide +kernel) _ fun y => ?_
  obtain ⟨j, rfl⟩ : ∃ (j : Fin 1024), y = ix2 0 j := ⟨y 1, (eq_ix2 y).trans (congrArg (fun z => ix2 z (y 1)) (Subsingleton.elim (α := Fin 1) _ _))⟩
  blk_simp
  rw [after0_6, Pipeline.eq_sum_fin_of_reset_step_apply_last (fun n h => (outsAt0 m c n h).2.1) 16 (fun _ => 0)
    (fun t y => ∑ r : Fin 512, dgAt (m ((c : Thread nD τ).loc main_arg0)) (m ((c : Thread nD τ).loc main_arg1)) (m ((c : Thread nD τ).loc main_arg3)) (row t r) (y 1))
    (fun t h y => by
      obtain ⟨j, rfl⟩ : ∃ (j : Fin 1024), y = ix2 0 j := ⟨y 1, (eq_ix2 y).trans (congrArg (fun z => ix2 z (y 1)) (Subsingleton.elim (α := Fin 1) _ _))⟩
      exact dg_A m c t h j)
    (fun t h y => by
      obtain ⟨j, rfl⟩ : ∃ (j : Fin 1024), y = ix2 0 j := ⟨y 1, (eq_ix2 y).trans (congrArg (fun z => ix2 z (y 1)) (Subsingleton.elim (α := Fin 1) _ _))⟩
      exact dg_B m c t h j)
    (le_of_eq N_0) t0_15 rfl _, zero_add]
  refine Eq.trans ?_ (v133_at (m ((c : Thread nD τ).loc main_arg0)) (m ((c : Thread nD τ).loc main_arg1)) (m ((c : Thread nD τ).loc main_arg3)) j).symm
  exact sum_rows fun r => dgAt (m ((c : Thread nD τ).loc main_arg0)) (m ((c : Thread nD τ).loc main_arg1)) (m ((c : Thread nD τ).loc main_arg3)) r j

/-- What the accumulator holds after the last point. -/
theorem acc_last (c : Dev nD) (k : Fin 1024) (j : Fin 1024) :
    (outsAt0 m c t0_15.val t0_15.isLt).2.2.2.2 (ix2 k j) = ∑ r : Fin 8192, dwAt (m ((c : Thread nD τ).loc main_arg0)) (m ((c : Thread nD τ).loc main_arg1)) (m ((c : Thread nD τ).loc main_arg2)) r k j := by
  rw [Pipeline.eq_sum_fin_of_reset_step_apply_last (fun n h => (outsAt0 m c n h).2.2.2.2) 16 (fun _ => 0)
    (fun t y => ∑ r : Fin 512, dwAt (m ((c : Thread nD τ).loc main_arg0)) (m ((c : Thread nD τ).loc main_arg1)) (m ((c : Thread nD τ).loc main_arg2)) (row t r) (y 0) (y 1))
    (fun t h y => by
      obtain ⟨k, j, rfl⟩ : ∃ (k : Fin 1024) (j : Fin 1024), y = ix2 k j := ⟨y 0, y 1, eq_ix2 y⟩
      exact dw_A m c t h k j)
    (fun t h y => by
      obtain ⟨k, j, rfl⟩ : ∃ (k : Fin 1024) (j : Fin 1024), y = ix2 k j := ⟨y 0, y 1, eq_ix2 y⟩
      exact dw_B m c t h k j)
    (le_of_eq N_0) t0_15 rfl _, zero_add]
  exact sum_rows fun r => dwAt (m ((c : Thread nD τ).loc main_arg0)) (m ((c : Thread nD τ).loc main_arg1)) (m ((c : Thread nD τ).loc main_arg2)) r k j

/-- A row of the accumulator, counted through the eight slabs. -/
def slabRow (d : Fin 8) (k : Fin 128) : Fin 1024 := ⟨d.val * 128 + k.val, by omega⟩

/-- A load from the accumulator after it has been written whole. -/
theorem acc_read (A : Vec Ideal S1024x1024 .f32) (r : Rect S1024x1024) :
    (View.whole cc0_scratch0).readCov [⟨Rect.unit ![0, 0] ![1024, 1024] inb_S1024x1024_S1024x1024_0_0, A⟩] r.toLoadRect = View.ld A r := by
  rw [View.readCov_eq_canon']
  funext i
  exact congrFun (View.canon_cons_unit_lit' (Val := Elt Ideal) inb_S1024x1024_S1024x1024_0_0 A [] (by decide)) _

theorem slabs (A : Vec Ideal S1024x1024 .f32) (d : Fin 8) (k : Fin 128) (j : Fin 1024) :
    View.canon
      [⟨Rect.unit ![7, 0, 0] ![1, 128, 1024] inb_S8x128x1024_S1x128x1024_7_0_0,
          k0_pay6 (View.ld A (Rect.unit ![896, 0] ![128, 1024] inb_S1024x1024_S128x1024_896_0))⟩,
        ⟨Rect.unit ![6, 0, 0] ![1, 128, 1024] inb_S8x128x1024_S1x128x1024_6_0_0,
          k0_pay20 (View.ld A (Rect.unit ![768, 0] ![128, 1024] inb_S1024x1024_S128x1024_768_0))⟩,
        ⟨Rect.unit ![5, 0, 0] ![1, 128, 1024] inb_S8x128x1024_S1x128x1024_5_0_0,
          k0_pay18 (View.ld A (Rect.unit ![640, 0] ![128, 1024] inb_S1024x1024_S128x1024_640_0))⟩,
        ⟨Rect.unit ![4, 0, 0] ![1, 128, 1024] inb_S8x128x1024_S1x128x1024_4_0_0,
          k0_pay16 (View.ld A (Rect.unit ![512, 0] ![128, 1024] inb_S1024x1024_S128x1024_512_0))⟩,
        ⟨Rect.unit ![3, 0, 0] ![1, 128, 1024] inb_S8x128x1024_S1x128x1024_3_0_0,
          k0_pay14 (View.ld A (Rect.unit ![384, 0] ![128, 1024] inb_S1024x1024_S128x1024_384_0))⟩,
        ⟨Rect.unit ![2, 0, 0] ![1, 128, 1024] inb_S8x128x1024_S1x128x1024_2_0_0,
          k0_pay12 (View.ld A (Rect.unit ![256, 0] ![128, 1024] inb_S1024x1024_S128x1024_256_0))⟩,
        ⟨Rect.unit ![1, 0, 0] ![1, 128, 1024] inb_S8x128x1024_S1x128x1024_1_0_0,
          k0_pay10 (View.ld A (Rect.unit ![128, 0] ![128, 1024] inb_S1024x1024_S128x1024_128_0))⟩,
        ⟨Rect.unit ![0, 0, 0] ![1, 128, 1024] inb_S8x128x1024_S1x128x1024_0_0_0,
          k0_pay8 (View.ld A (Rect.unit ![0, 0] ![128, 1024] inb_S1024x1024_S128x1024_0_0))⟩]
      (ix3 d k j) = A (ix2 (slabRow d k) j) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · dsimp only [slabRow]
      omega
    · exact h2'.symm

theorem final_7 (c : Dev nD) : (dats m 0 c).arrAt 7 cfg0.N = Cert.Reference5Ideal.Read.val_main_v132 (F := Ideal) (m ((c : Thread nD τ).loc main_arg0)) (m ((c : Thread nD τ).loc main_arg1)) (m ((c : Thread nD τ).loc main_arg2)) := by
  refine (dats m 0 c).arrAt_eq_of_after_last 7 t0_15 (by decide +kernel) _ fun y => ?_
  obtain ⟨d, k, j, rfl⟩ : ∃ (d : Fin 8) (k : Fin 128) (j : Fin 1024), y = ix3 d k j := ⟨y 0, y 1, y 2, eq_ix3 y⟩
  blk_simp
  refine Eq.trans ?_ (v132_at (m ((c : Thread nD τ).loc main_arg0)) (m ((c : Thread nD τ).loc main_arg1)) (m ((c : Thread nD τ).loc main_arg2)) d k j).symm
  rw [after0_7, outsAt0_C m c t0_15 (by decide) (by decide)]
  refine Eq.trans ?_ (acc_last m c ⟨d.val * 128 + k.val, by omega⟩ j)
  rw [outsAt0_C m c t0_15 (by decide) (by decide)]
  frame_out
  rw [read_unread_whole]
  generalize k0_pay25 (F := Ideal) _ _ _ = A
  simp only [acc_read A]
  exact slabs A d k j
theorem slabs16 (A : Vec Ideal S1024x1024 .f32) (d : Fin 8) (k : Fin 128) (j : Fin 1024) :
    View.canon
      [⟨Rect.unit ![7, 0, 0] ![1, 128, 1024] inb_S8x128x1024_S1x128x1024_7_0_0,
          k0_pay7 (View.ld A (Rect.unit ![896, 0] ![128, 1024] inb_S1024x1024_S128x1024_896_0))⟩,
        ⟨Rect.unit ![6, 0, 0] ![1, 128, 1024] inb_S8x128x1024_S1x128x1024_6_0_0,
          k0_pay5 (k0_pay21 (View.ld A (Rect.unit ![768, 0] ![128, 1024] inb_S1024x1024_S128x1024_768_0)))⟩,
        ⟨Rect.unit ![5, 0, 0] ![1, 128, 1024] inb_S8x128x1024_S1x128x1024_5_0_0,
          k0_pay19 (View.ld A (Rect.unit ![640, 0] ![128, 1024] inb_S1024x1024_S128x1024_640_0))⟩,
        ⟨Rect.unit ![4, 0, 0] ![1, 128, 1024] inb_S8x128x1024_S1x128x1024_4_0_0,
          k0_pay17 (View.ld A (Rect.unit ![512, 0] ![128, 1024] inb_S1024x1024_S128x1024_512_0))⟩,
        ⟨Rect.unit ![3, 0, 0] ![1, 128, 1024] inb_S8x128x1024_S1x128x1024_3_0_0,
          k0_pay15 (View.ld A (Rect.unit ![384, 0] ![128, 1024] inb_S1024x1024_S128x1024_384_0))⟩,
        ⟨Rect.unit ![2, 0, 0] ![1, 128, 1024] inb_S8x128x1024_S1x128x1024_2_0_0,
          k0_pay13 (View.ld A (Rect.unit ![256, 0] ![128, 1024] inb_S1024x1024_S128x1024_256_0))⟩,
        ⟨Rect.unit ![1, 0, 0] ![1, 128, 1024] inb_S8x128x1024_S1x128x1024_1_0_0,
          k0_pay11 (View.ld A (Rect.unit ![128, 0] ![128, 1024] inb_S1024x1024_S128x1024_128_0))⟩,
        ⟨Rect.unit ![0, 0, 0] ![1, 128, 1024] inb_S8x128x1024_S1x128x1024_0_0_0,
          k0_pay9 (View.ld A (Rect.unit ![0, 0] ![128, 1024] inb_S1024x1024_S128x1024_0_0))⟩]
      (ix3 d k j) = A (ix2 (slabRow d k) j) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · dsimp only [slabRow]
      omega
    · exact h2'.symm

theorem final_8 (c : Dev nD) : (dats m 0 c).arrAt 8 cfg0.N = Cert.Reference5Ideal.Read.val_main_v134 (F := Ideal) (m ((c : Thread nD τ).loc main_arg0)) (m ((c : Thread nD τ).loc main_arg1)) (m ((c : Thread nD τ).loc main_arg2)) := by
  refine (dats m 0 c).arrAt_eq_of_after_last 8 t0_15 (by decide +kernel) _ fun y => ?_
  obtain ⟨d, k, j, rfl⟩ : ∃ (d : Fin 8) (k : Fin 128) (j : Fin 1024), y = ix3 d k j := ⟨y 0, y 1, y 2, eq_ix3 y⟩
  blk_simp
  refine Eq.trans ?_ (v134_at (m ((c : Thread nD τ).loc main_arg0)) (m ((c : Thread nD τ).loc main_arg1)) (m ((c : Thread nD τ).loc main_arg2)) d k j).symm
  rw [after0_8, outsAt0_C m c t0_15 (by decide) (by decide)]
  refine Eq.trans ?_ (acc_last m c ⟨d.val * 128 + k.val, by omega⟩ j)
  rw [outsAt0_C m c t0_15 (by decide) (by decide)]
  frame_out
  rw [read_unread_whole]
  generalize k0_pay25 (F := Ideal) _ _ _ = A
  simp only [acc_read A]
  exact slabs16 A d k j

end Cert.Mix
end
-- ==== Proof.MixClaim.lean ====
module
public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.MixArrays
@[expose] public section
set_option maxRecDepth 16384
noncomputable section
namespace Cert.Mix
open Idealize.ShloMosaic Idealize.ShloMosaic.TcCoe Idealize.SL.Sem

/-- The two programs leave the same arrays. -/
theorem algebraic [Cert.Kernel5Ideal.Facts] [Cert.Reference5Ideal.Facts] : Cert.algebraic_Kernel5Ideal_Reference5Ideal := by
  intro m g m' g' _ hag
  refine ⟨fun c => Cert.Reference5Ideal.Read.val_main_v131 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)),
      fun c => Cert.Reference5Ideal.Read.val_main_v133 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)),
      fun c => Cert.Reference5Ideal.Read.val_main_v132 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
      fun c => Cert.Reference5Ideal.Read.val_main_v134 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · refine (θ_run _ _ _).mono (fun r h c => ?_) (Cert.Kernel5Ideal.Value.run_blocks (F := Ideal) m g)
    obtain ⟨h0, h1, h2, h3, a0, a1, a2, a3⟩ := h c
    exact ⟨h0.trans (final_5 m c), h1.trans (final_6 m c), h2.trans (final_7 m c), h3.trans (final_8 m c), a0, a1, a2, a3⟩
  · refine (θ_run _ _ _).mono (fun r h c => ?_) (Cert.Reference5Ideal.Value.run (F := Ideal) m' g')
    obtain ⟨h0, h1, h2, h3, a0, a1, a2, a3⟩ := h c
    obtain ⟨e0, e1, e2, e3⟩ := hag c
    have r0 := h0.trans (Cert.Reference5Ideal.Read.val_main_v131_eq m' c)
    rw [e0, e1, e2, e3] at r0
    have r1 := h1.trans (Cert.Reference5Ideal.Read.val_main_v133_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)))
    rw [e0, e1, e3] at r1
    have r2 := h2.trans (Cert.Reference5Ideal.Read.val_main_v132_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)))
    rw [e0, e1, e2] at r2
    have r3 := h3.trans (Cert.Reference5Ideal.Read.val_main_v134_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)))
    rw [e0, e1, e2] at r3
    exact ⟨r0, r1, r2, r3, a0, a1, a2, a3⟩
end Cert.Mix
end
-- ==== Proof.ProjSpec.lean ====
module
public import proofs.«01_k».proof.Proof.Gen.Reference6Ideal.Read
public import proofs.«01_k».proof.Proof.Rms
public import Idealize.ShloMosaic.Lib.Pointwise
@[expose] public section
set_option maxRecDepth 16384
noncomputable section
namespace Cert.Proj
open Idealize.ShloMosaic Idealize.ShloMosaic.Pointwise Cert.Reference6Ideal Cert.Reference6Ideal.Read

variable (a0 : Vec Ideal S8192x1792 .f32) (a1 a2 : Vec Ideal S8192x1024 .f32) (a3 : Vec Ideal S1024 .f32) (a4 : Vec Ideal S1024x1792 .f32)

/-- The scale of the normalisation of row `r`. -/
def scale (r : Fin 8192) : EReal :=
  Rms.scale (Ideal.ofBits .f32 0x44800000#32) (Ideal.ofBits .f32 0x358637BD#32) (fun k : Fin 1024 => a1 (ix2 r k))

/-- The gradient of the normalised rows. -/
def dhn (r : Fin 8192) (j : Fin 1024) : EReal := ∑ x : Fin 1792, a0 (ix2 r x) * a4 (ix2 j x)

/-- The gradient of the rows. -/
def dh (r : Fin 8192) (j : Fin 1024) : EReal :=
  a2 (ix2 r j) + Rms.fused (Ideal.ofBits .f32 0x44800000#32) (Ideal.ofBits .f32 0x358637BD#32)
    (fun k : Fin 1024 => a1 (ix2 r k)) (fun k => dhn a0 a4 r k * a3 (ix1 k)) j

/-- The part of row `r` in the gradient of the gain. -/
def dgAt (r : Fin 8192) (j : Fin 1024) : EReal := dhn a0 a4 r j * (a1 (ix2 r j) * scale a1 r)

/-- The part of row `r` in the gradient of the projection's weights. -/
def dwAt (r : Fin 8192) (k : Fin 1792) (j : Fin 1024) : EReal := a0 (ix2 r k) * (a1 (ix2 r j) * scale a1 r * a3 (ix1 j))

theorem v24_at (r : Fin 8192) (j : Fin 1024) : val_main_v24 (F := Ideal) a0 a3 a4 (ix2 r j) = dhn a0 a4 r j * a3 (ix1 j) := by
  pointwise [val_main_v24, val_main_v19, val_main_v23, val_main_v13]
  rfl

theorem v40_at (r : Fin 8192) (j : Fin 1024) : val_main_v40 (F := Ideal) a0 a1 a2 a3 a4 (ix2 r j) = dh a0 a1 a2 a3 a4 r j := by
  pointwise [val_main_v40, val_main_v38, val_main_v39, val_main_v31, val_main_v37, val_main_v36, val_main_v30, val_main_v35, val_main_v29, val_main_cst_7, val_main_v34, val_main_v7, val_main_v32, val_main_v33, val_main_v6, val_main_v10, val_main_v28, val_main_cst_6, val_main_v4, val_main_v5, val_main_v8, val_main_v9, val_main_v27, val_main_v2, val_main_v3, val_main_cst_1, val_main_cst_2, val_main_cst_5, val_main_v26, val_main_v1, val_main_cst_0, val_main_cst, val_main_v0]
  simp only [v24_at, Fin.sum_univ_one]
  unfold dh
  rw [Rms.fused_1024, ← add_assoc, ← add_assoc]
  rfl

theorem v43_at (j : Fin 1024) : val_main_v43 (F := Ideal) a0 a1 a4 (ix2 0 j) = ∑ r : Fin 8192, dgAt a0 a1 a4 r j := by
  pointwise [val_main_v43, val_main_v25, val_main_cst_4, val_main_v22, val_main_v21, val_main_cst_3, val_main_v20, val_main_v12, val_main_v19, val_main_v11, val_main_v7, val_main_v6, val_main_v4, val_main_v5, val_main_v2, val_main_v3, val_main_cst_1, val_main_v1, val_main_cst_0, val_main_cst, val_main_v0]
  simp only [Fin.sum_univ_one]
  exact Finset.sum_congr rfl fun r _ => mul_comm _ _

theorem v42_at (d : Fin 8) (k : Fin 224) (j : Fin 1024) :
    val_main_v42 (F := Ideal) a0 a1 a3 (ix3 d k j) = ∑ r : Fin 8192, dwAt a0 a1 a3 r ⟨d.val * 224 + k.val, by omega⟩ j := by
  pointwise [val_main_v42, val_main_v41, val_main_v18, val_main_v17, val_main_v15, val_main_v12, val_main_v14, val_main_v11, val_main_v13, val_main_v7, val_main_v6, val_main_v4, val_main_v5, val_main_v2, val_main_v3, val_main_cst_1, val_main_v1, val_main_cst_0, val_main_cst, val_main_v0]
  rfl

theorem v44_at (d : Fin 8) (k : Fin 224) (j : Fin 1024) :
    val_main_v44 (F := Ideal) a0 a1 a3 (ix3 d k j) = ∑ r : Fin 8192, dwAt a0 a1 a3 r ⟨d.val * 224 + k.val, by omega⟩ j := by
  pointwise [val_main_v44]
  exact v42_at a0 a1 a3 d k j
end Cert.Proj
end
-- ==== Proof.ProjArrays.lean ====
module
public import proofs.«01_k».proof.Proof.Gen.Kernel6Ideal.Value
public import proofs.«01_k».proof.Proof.ProjSpec
public import Idealize.ShloMosaic.Lib.Pointwise
public import Idealize.ShloMosaic.Lib.Pipeline.ValueKit
public import Idealize.ShloMosaic.Lib.Pipeline.ReadBack
@[expose] public section
set_option maxRecDepth 16384
noncomputable section
namespace Cert.Proj
open Idealize.ShloMosaic Idealize.ShloMosaic.TcCoe Idealize.SL.Sem Idealize.ShloMosaic.Pointwise Cert.Kernel6Ideal Cert.Kernel6Ideal.Gen
open Idealize.ShloMosaic.Pipeline (Dat)

section
variable (x0 : Vec Ideal S512x1792 .bf16) (x1 x2 : Vec Ideal S512x1024 .f32) (x3 : Vec Ideal S1x1024 .f32)
  (x4 : Vec Ideal S1792x1024 .bf16)
variable (a0 : Vec Ideal S8192x1792 .f32) (a1 a2 : Vec Ideal S8192x1024 .f32) (a3 : Vec Ideal S1024 .f32) (a4 : Vec Ideal S1024x1792 .f32)

/-- The blocks of a grid point are rows `R r` of the arrays. -/
structure Reads (R : Fin 512 → Fin 8192) : Prop where
  h0 : ∀ r k, x0 (ix2 r k) = a0 (ix2 (R r) k)
  h1 : ∀ r k, x1 (ix2 r k) = a1 (ix2 (R r) k)
  h2 : ∀ r k, x2 (ix2 r k) = a2 (ix2 (R r) k)
  h3 : ∀ k, x3 (ix2 0 k) = a3 (ix1 k)
  h4 : ∀ k j, x4 (ix2 k j) = a4 (ix2 j k)

variable {x0 x1 x2 x3 x4 a0 a1 a2 a3 a4} {R : Fin 512 → Fin 8192}

theorem Reads.dh_at (h : Reads x0 x1 x2 x3 x4 a0 a1 a2 a3 a4 R) (r : Fin 512) (j : Fin 1024) :
    k0_pay2 (k0_pay23 x1) (k0_pay24 x1) (k0_pay27 x0 x4 x3) (k0_pay28 x0 x1 x4 x3) x2 (ix2 r j) = dh a0 a1 a2 a3 a4 (R r) j := by
  pointwise [k0_pay2, k0_pay23, k0_pay24, k0_pay27, k0_pay28, k0_pay26, k0_pay22]
  simp only [h.h0, h.h1, h.h2, h.h3, h.h4]
  rfl

theorem Reads.dg_at (h : Reads x0 x1 x2 x3 x4 a0 a1 a2 a3 a4 R) (v : Vec Ideal S1x1024 .f32) (j : Fin 1024) :
    k0_pay1 (k0_pay24 x1) (k0_pay26 x0 x4) v (ix2 0 j) = v (ix2 0 j) + ∑ r : Fin 512, dgAt a0 a1 a4 (R r) j := by
  pointwise [k0_pay1, k0_pay24, k0_pay23, k0_pay26, k0_pay22]
  simp only [h.h0, h.h1, h.h4]
  rfl

theorem Reads.dw_at (h : Reads x0 x1 x2 x3 x4 a0 a1 a2 a3 a4 R) (v : Vec Ideal S1792x1024 .f32) (k : Fin 1792) (j : Fin 1024) :
    k0_pay25 x0 x1 x3 v (ix2 k j) = v (ix2 k j) + ∑ r : Fin 512, dwAt a0 a1 a3 (R r) k j := by
  pointwise [k0_pay25, k0_pay24, k0_pay23, k0_pay22]
  simp only [h.h0, h.h1, h.h3]
  rfl
end

/-- every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![0, 0, 0]
    ∧ win0_8.index t = ![0, 0, 0] :=
  (by decide +kernel : ∀ t : Fin grid0.N, _)

variable (m : (ℓ : Loc nD τ sig) → Buf (Elt Ideal) ℓ)

/-- Row `r` of the block of point `t`. -/
def row (t : Fin cfg0.N) (r : Fin 512) : Fin 8192 := ⟨t.val * 512 + r.val, by have := t.isLt; have : cfg0.N = 16 := rfl; omega⟩

theorem e2 (c : Dev nD) (r : Fin 8192) (k : Fin 1792) : V m c main_v2 (ix2 r k) = (m ((c : Thread nD τ).loc main_arg0)) (ix2 r k) := by
  unfold V
  simp only [hostOps0, List.flatten_cons, List.flatten_nil, List.cons_append, List.nil_append, List.append_nil]
  entry_read
  pointwise
theorem e3 (c : Dev nD) (k : Fin 1024) : V m c main_v3 (ix2 0 k) = (m ((c : Thread nD τ).loc main_arg3)) (ix1 k) := by
  unfold V
  simp only [hostOps0, List.flatten_cons, List.flatten_nil, List.cons_append, List.nil_append, List.append_nil]
  entry_read
  pointwise
theorem e1 (c : Dev nD) (k : Fin 1792) (j : Fin 1024) : V m c main_v1 (ix2 k j) = (m ((c : Thread nD τ).loc main_arg4)) (ix2 j k) := by
  unfold V
  simp only [hostOps0, List.flatten_cons, List.flatten_nil, List.cons_append, List.nil_append, List.append_nil]
  entry_read
  pointwise
theorem e_arg1 (c : Dev nD) : V m c main_arg1 = (m ((c : Thread nD τ).loc main_arg1)) := V_main_arg1 m c
theorem e_arg2 (c : Dev nD) : V m c main_arg2 = (m ((c : Thread nD τ).loc main_arg2)) := V_main_arg2 m c

/-- What the blocks of point `t` hold. -/
theorem reads (c : Dev nD) (t : Fin cfg0.N) :
    Reads (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (m ((c : Thread nD τ).loc main_arg4)) (row t) where
  h0 r k := by
    refine Eq.trans ?_ (e2 m c (row t r) k)
    blk_simp [iblk]
    blk_ext [idx t, row]
  h1 r k := by
    refine Eq.trans ?_ (congrFun (e_arg1 m c) _)
    blk_simp [iblk]
    blk_ext [idx t, row]
  h2 r k := by
    refine Eq.trans ?_ (congrFun (e_arg2 m c) _)
    blk_simp [iblk]
    blk_ext [idx t, row]
  h3 k := by
    refine Eq.trans ?_ (e3 m c k)
    blk_simp [iblk]
    blk_ext [idx t]
  h4 k j := by
    refine Eq.trans ?_ (e1 m c k j)
    blk_simp [iblk]
    blk_ext [idx t]

theorem emb5 (t : Fin cfg0.N) (r : Fin 512) (j : Fin 1024) : ((cfg0.win 5).blk t).view.emb (ix2 r j) = ix2 (row t r) j := by
  blk_ext [idx t, row]

theorem final_5 (c : Dev nD) : (dats m 0 c).arrAt 5 cfg0.N = Cert.Reference6Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  rw [emb5]
  blk_simp
  rw [after0_5]
  refine Eq.trans ?_ (v40_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm
  by_cases h : t.val % 16 = 0
  · rw [outsAt0_A m c t h (by omega)]
    frame_out
    exact (reads m c t).dh_at r j
  · by_cases h' : t.val % 16 = 15
    · rw [outsAt0_C m c t h h']
      frame_out
      exact (reads m c t).dh_at r j
    · rw [outsAt0_B m c t h h']
      frame_out
      exact (reads m c t).dh_at r j

theorem zero6 (j : Fin 1024) : k0_pay20 (F := Ideal) (ix2 0 j) = 0 := by
  pointwise! [k0_pay20]
theorem zero10 (k : Fin 1792) (j : Fin 1024) : k0_pay21 (F := Ideal) (ix2 k j) = 0 := by
  pointwise! [k0_pay21]

/-- The sum over all rows is the sum over the grid points of the sums over their blocks. -/
theorem sum_rows (f : Fin 8192 → EReal) : ∑ t : Fin cfg0.N, ∑ r : Fin 512, f (row t r) = ∑ r : Fin 8192, f r := by
  have : cfg0.N = 16 := rfl
  rw [← Finset.sum_product']
  refine Finset.sum_nbij' (fun p => row p.1 p.2) (fun r => (⟨r.val / 512, by have := r.isLt; omega⟩, ⟨r.val % 512, Nat.mod_lt _ (by norm_num)⟩)) ?_ ?_ ?_ ?_ ?_
  · intros; exact Finset.mem_univ _
  · intros; exact Finset.mem_univ _
  · rintro ⟨t, r⟩ _
    refine Prod.ext (Fin.ext ?_) (Fin.ext ?_)
    · show (t.val * 512 + r.val) / 512 = t.val
      omega
    · show (t.val * 512 + r.val) % 512 = r.val
      omega
  · intro r _
    refine Fin.ext ?_
    show r.val / 512 * 512 + r.val % 512 = r.val
    omega
  · intros; rfl

theorem dg_A (c : Dev nD) (t : Fin cfg0.N) (h : t.val % 16 = 0) (j : Fin 1024) :
    (outsAt0 m c t.val t.isLt).2.1 (ix2 0 j) = 0 + ∑ r : Fin 512, dgAt (m ((c : Thread nD τ).loc main_arg0)) (m ((c : Thread nD τ).loc main_arg1)) (m ((c : Thread nD τ).loc main_arg4)) (row t r) j := by
  rw [outsAt0_A m c t h (by omega)]; frame_out
  refine ((reads m c t).dg_at _ j).trans ?_
  rw [zero6]

theorem dg_B (c : Dev nD) (t : Fin cfg0.N) (h : ¬t.val % 16 = 0) (j : Fin 1024) :
    (outsAt0 m c t.val t.isLt).2.1 (ix2 0 j) = (outsAt0 m c (t.val - 1) (Nat.lt_of_le_of_lt (Nat.sub_le _ _) t.isLt)).2.1 (ix2 0 j)
      + ∑ r : Fin 512, dgAt (m ((c : Thread nD τ).loc main_arg0)) (m ((c : Thread nD τ).loc main_arg1)) (m ((c : Thread nD τ).loc main_arg4)) (row t r) j := by
  by_cases h' : t.val % 16 = 15
  · rw [outsAt0_C m c t h h']; frame_out
    exact (reads m c t).dg_at _ j
  · rw [outsAt0_B m c t h h']; frame_out
    exact (reads m c t).dg_at _ j

theorem dw_A (c : Dev nD) (t : Fin cfg0.N) (h : t.val % 16 = 0) (k : Fin 1792) (j : Fin 1024) :
    (outsAt0 m c t.val t.isLt).2.2.2.2 (ix2 k j) = 0 + ∑ r : Fin 512, dwAt (m ((c : Thread nD τ).loc main_arg0)) (m ((c : Thread nD τ).loc main_arg1)) (m ((c : Thread nD τ).loc main_arg3)) (row t r) k j := by
  rw [outsAt0_A m c t h (by omega)]; frame_out
  refine ((reads m c t).dw_at _ k j).trans ?_
  rw [zero10]

theorem dw_B (c : Dev nD) (t : Fin cfg0.N) (h : ¬t.val % 16 = 0) (k : Fin 1792) (j : Fin 1024) :
    (outsAt0 m c t.val t.isLt).2.2.2.2 (ix2 k j) = (outsAt0 m c (t.val - 1) (Nat.lt_of_le_of_lt (Nat.sub_le _ _) t.isLt)).2.2.2.2 (ix2 k j)
      + ∑ r : Fin 512, dwAt (m ((c : Thread nD τ).loc main_arg0)) (m ((c : Thread nD τ).loc main_arg1)) (m ((c : Thread nD τ).loc main_arg3)) (row t r) k j := by
  by_cases h' : t.val % 16 = 15
  · rw [outsAt0_C m c t h h']; frame_out; rw [read_unread_whole]
    exact (reads m c t).dw_at _ k j
  · rw [outsAt0_B m c t h h']; frame_out; rw [read_unread_whole]
    exact (reads m c t).dw_at _ k j

theorem final_6 (c : Dev nD) : (dats m 0 c).arrAt 6 cfg0.N = Cert.Reference6Ideal.Read.val_main_v43 (F := Ideal) (m ((c : Thread nD τ).loc main_arg0)) (m ((c : Thread nD τ).loc main_arg1)) (m ((c : Thread nD τ).loc main_arg4)) := by
  refine (dats m 0 c).arrAt_eq_of_after_last 6 t0_15 (by decide +kernel) _ fun y => ?_
  obtain ⟨j, rfl⟩ : ∃ (j : Fin 1024), y = ix2 0 j := ⟨y 1, (eq_ix2 y).trans (congrArg (fun z => ix2 z (y 1)) (Subsingleton.elim (α := Fin 1) _ _))⟩
  blk_simp
  rw [after0_6, Pipeline.eq_sum_fin_of_reset_step_apply_last (fun n h => (outsAt0 m c n h).2.1) 16 (fun _ => 0)
    (fun t y => ∑ r : Fin 512, dgAt (m ((c : Thread nD τ).loc main_arg0)) (m ((c : Thread nD τ).loc main_arg1)) (m ((c : Thread nD τ).loc main_arg4)) (row t r) (y 1))
    (fun t h y => by
      obtain ⟨j, rfl⟩ : ∃ (j : Fin 1024), y = ix2 0 j := ⟨y 1, (eq_ix2 y).trans (congrArg (fun z => ix2 z (y 1)) (Subsingleton.elim (α := Fin 1) _ _))⟩
      exact dg_A m c t h j)
    (fun t h y => by
      obtain ⟨j, rfl⟩ : ∃ (j : Fin 1024), y = ix2 0 j := ⟨y 1, (eq_ix2 y).trans (congrArg (fun z => ix2 z (y 1)) (Subsingleton.elim (α := Fin 1) _ _))⟩
      exact dg_B m c t h j)
    (le_of_eq N_0) t0_15 rfl _, zero_add]
  refine Eq.trans ?_ (v43_at (m ((c : Thread nD τ).loc main_arg0)) (m ((c : Thread nD τ).loc main_arg1)) (m ((c : Thread nD τ).loc main_arg4)) j).symm
  exact sum_rows fun r => dgAt (m ((c : Thread nD τ).loc main_arg0)) (m ((c : Thread nD τ).loc main_arg1)) (m ((c : Thread nD τ).loc main_arg4)) r j

/-- What the accumulator holds after the last point. -/
theorem acc_last (c : Dev nD) (k : Fin 1792) (j : Fin 1024) :
    (outsAt0 m c t0_15.val t0_15.isLt).2.2.2.2 (ix2 k j) = ∑ r : Fin 8192, dwAt (m ((c : Thread nD τ).loc main_arg0)) (m ((c : Thread nD τ).loc main_arg1)) (m ((c : Thread nD τ).loc main_arg3)) r k j := by
  rw [Pipeline.eq_sum_fin_of_reset_step_apply_last (fun n h => (outsAt0 m c n h).2.2.2.2) 16 (fun _ => 0)
    (fun t y => ∑ r : Fin 512, dwAt (m ((c : Thread nD τ).loc main_arg0)) (m ((c : Thread nD τ).loc main_arg1)) (m ((c : Thread nD τ).loc main_arg3)) (row t r) (y 0) (y 1))
    (fun t h y => by
      obtain ⟨k, j, rfl⟩ : ∃ (k : Fin 1792) (j : Fin 1024), y = ix2 k j := ⟨y 0, y 1, eq_ix2 y⟩
      exact dw_A m c t h k j)
    (fun t h y => by
      obtain ⟨k, j, rfl⟩ : ∃ (k : Fin 1792) (j : Fin 1024), y = ix2 k j := ⟨y 0, y 1, eq_ix2 y⟩
      exact dw_B m c t h k j)
    (le_of_eq N_0) t0_15 rfl _, zero_add]
  exact sum_rows fun r => dwAt (m ((c : Thread nD τ).loc main_arg0)) (m ((c : Thread nD τ).loc main_arg1)) (m ((c : Thread nD τ).loc main_arg3)) r k j

/-- A row of the accumulator, counted through the eight slabs. -/
def slabRow (d : Fin 8) (k : Fin 224) : Fin 1792 := ⟨d.val * 224 + k.val, by omega⟩

/-- A load from the accumulator after it has been written whole. -/
theorem acc_read (A : Vec Ideal S1792x1024 .f32) (r : Rect S1792x1024) :
    (View.whole cc0_scratch0).readCov [⟨Rect.unit ![0, 0] ![1792, 1024] inb_S1792x1024_S1792x1024_0_0, A⟩] r.toLoadRect = View.ld A r := by
  rw [View.readCov_eq_canon']
  funext i
  exact congrFun (View.canon_cons_unit_lit' (Val := Elt Ideal) inb_S1792x1024_S1792x1024_0_0 A [] (by decide)) _

theorem slabs (A : Vec Ideal S1792x1024 .f32) (d : Fin 8) (k : Fin 224) (j : Fin 1024) :
    View.canon
      [⟨Rect.unit ![7, 0, 0] ![1, 224, 1024] inb_S8x224x1024_S1x224x1024_7_0_0,
          k0_pay4 (View.ld A (Rect.unit ![1568, 0] ![224, 1024] inb_S1792x1024_S224x1024_1568_0))⟩,
        ⟨Rect.unit ![6, 0, 0] ![1, 224, 1024] inb_S8x224x1024_S1x224x1024_6_0_0,
          k0_pay18 (View.ld A (Rect.unit ![1344, 0] ![224, 1024] inb_S1792x1024_S224x1024_1344_0))⟩,
        ⟨Rect.unit ![5, 0, 0] ![1, 224, 1024] inb_S8x224x1024_S1x224x1024_5_0_0,
          k0_pay16 (View.ld A (Rect.unit ![1120, 0] ![224, 1024] inb_S1792x1024_S224x1024_1120_0))⟩,
        ⟨Rect.unit ![4, 0, 0] ![1, 224, 1024] inb_S8x224x1024_S1x224x1024_4_0_0,
          k0_pay14 (View.ld A (Rect.unit ![896, 0] ![224, 1024] inb_S1792x1024_S224x1024_896_0))⟩,
        ⟨Rect.unit ![3, 0, 0] ![1, 224, 1024] inb_S8x224x1024_S1x224x1024_3_0_0,
          k0_pay12 (View.ld A (Rect.unit ![672, 0] ![224, 1024] inb_S1792x1024_S224x1024_672_0))⟩,
        ⟨Rect.unit ![2, 0, 0] ![1, 224, 1024] inb_S8x224x1024_S1x224x1024_2_0_0,
          k0_pay10 (View.ld A (Rect.unit ![448, 0] ![224, 1024] inb_S1792x1024_S224x1024_448_0))⟩,
        ⟨Rect.unit ![1, 0, 0] ![1, 224, 1024] inb_S8x224x1024_S1x224x1024_1_0_0,
          k0_pay8 (View.ld A (Rect.unit ![224, 0] ![224, 1024] inb_S1792x1024_S224x1024_224_0))⟩,
        ⟨Rect.unit ![0, 0, 0] ![1, 224, 1024] inb_S8x224x1024_S1x224x1024_0_0_0,
          k0_pay6 (View.ld A (Rect.unit ![0, 0] ![224, 1024] inb_S1792x1024_S224x1024_0_0))⟩]
      (ix3 d k j) = A (ix2 (slabRow d k) j) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · dsimp only [slabRow]
      omega
    · exact h2'.symm

theorem final_7 (c : Dev nD) : (dats m 0 c).arrAt 7 cfg0.N = Cert.Reference6Ideal.Read.val_main_v42 (F := Ideal) (m ((c : Thread nD τ).loc main_arg0)) (m ((c : Thread nD τ).loc main_arg1)) (m ((c : Thread nD τ).loc main_arg3)) := by
  refine (dats m 0 c).arrAt_eq_of_after_last 7 t0_15 (by decide +kernel) _ fun y => ?_
  obtain ⟨d, k, j, rfl⟩ : ∃ (d : Fin 8) (k : Fin 224) (j : Fin 1024), y = ix3 d k j := ⟨y 0, y 1, y 2, eq_ix3 y⟩
  blk_simp
  refine Eq.trans ?_ (v42_at (m ((c : Thread nD τ).loc main_arg0)) (m ((c : Thread nD τ).loc main_arg1)) (m ((c : Thread nD τ).loc main_arg3)) d k j).symm
  rw [after0_7, outsAt0_C m c t0_15 (by decide) (by decide)]
  refine Eq.trans ?_ (acc_last m c ⟨d.val * 224 + k.val, by omega⟩ j)
  rw [outsAt0_C m c t0_15 (by decide) (by decide)]
  frame_out
  rw [read_unread_whole]
  generalize k0_pay25 (F := Ideal) _ _ _ _ = A
  simp only [acc_read A]
  exact slabs A d k j
theorem slabs16 (A : Vec Ideal S1792x1024 .f32) (d : Fin 8) (k : Fin 224) (j : Fin 1024) :
    View.canon
      [⟨Rect.unit ![7, 0, 0] ![1, 224, 1024] inb_S8x224x1024_S1x224x1024_7_0_0,
          k0_pay5 (View.ld A (Rect.unit ![1568, 0] ![224, 1024] inb_S1792x1024_S224x1024_1568_0))⟩,
        ⟨Rect.unit ![6, 0, 0] ![1, 224, 1024] inb_S8x224x1024_S1x224x1024_6_0_0,
          k0_pay3 (k0_pay19 (View.ld A (Rect.unit ![1344, 0] ![224, 1024] inb_S1792x1024_S224x1024_1344_0)))⟩,
        ⟨Rect.unit ![5, 0, 0] ![1, 224, 1024] inb_S8x224x1024_S1x224x1024_5_0_0,
          k0_pay17 (View.ld A (Rect.unit ![1120, 0] ![224, 1024] inb_S1792x1024_S224x1024_1120_0))⟩,
        ⟨Rect.unit ![4, 0, 0] ![1, 224, 1024] inb_S8x224x1024_S1x224x1024_4_0_0,
          k0_pay15 (View.ld A (Rect.unit ![896, 0] ![224, 1024] inb_S1792x1024_S224x1024_896_0))⟩,
        ⟨Rect.unit ![3, 0, 0] ![1, 224, 1024] inb_S8x224x1024_S1x224x1024_3_0_0,
          k0_pay13 (View.ld A (Rect.unit ![672, 0] ![224, 1024] inb_S1792x1024_S224x1024_672_0))⟩,
        ⟨Rect.unit ![2, 0, 0] ![1, 224, 1024] inb_S8x224x1024_S1x224x1024_2_0_0,
          k0_pay11 (View.ld A (Rect.unit ![448, 0] ![224, 1024] inb_S1792x1024_S224x1024_448_0))⟩,
        ⟨Rect.unit ![1, 0, 0] ![1, 224, 1024] inb_S8x224x1024_S1x224x1024_1_0_0,
          k0_pay9 (View.ld A (Rect.unit ![224, 0] ![224, 1024] inb_S1792x1024_S224x1024_224_0))⟩,
        ⟨Rect.unit ![0, 0, 0] ![1, 224, 1024] inb_S8x224x1024_S1x224x1024_0_0_0,
          k0_pay7 (View.ld A (Rect.unit ![0, 0] ![224, 1024] inb_S1792x1024_S224x1024_0_0))⟩]
      (ix3 d k j) = A (ix2 (slabRow d k) j) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · dsimp only [slabRow]
      omega
    · exact h2'.symm

theorem final_8 (c : Dev nD) : (dats m 0 c).arrAt 8 cfg0.N = Cert.Reference6Ideal.Read.val_main_v44 (F := Ideal) (m ((c : Thread nD τ).loc main_arg0)) (m ((c : Thread nD τ).loc main_arg1)) (m ((c : Thread nD τ).loc main_arg3)) := by
  refine (dats m 0 c).arrAt_eq_of_after_last 8 t0_15 (by decide +kernel) _ fun y => ?_
  obtain ⟨d, k, j, rfl⟩ : ∃ (d : Fin 8) (k : Fin 224) (j : Fin 1024), y = ix3 d k j := ⟨y 0, y 1, y 2, eq_ix3 y⟩
  blk_simp
  refine Eq.trans ?_ (v44_at (m ((c : Thread nD τ).loc main_arg0)) (m ((c : Thread nD τ).loc main_arg1)) (m ((c : Thread nD τ).loc main_arg3)) d k j).symm
  rw [after0_8, outsAt0_C m c t0_15 (by decide) (by decide)]
  refine Eq.trans ?_ (acc_last m c ⟨d.val * 224 + k.val, by omega⟩ j)
  rw [outsAt0_C m c t0_15 (by decide) (by decide)]
  frame_out
  rw [read_unread_whole]
  generalize k0_pay25 (F := Ideal) _ _ _ _ = A
  simp only [acc_read A]
  exact slabs16 A d k j
end Cert.Proj
end
-- ==== Proof.ProjClaim.lean ====
module
public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.ProjArrays
@[expose] public section
set_option maxRecDepth 16384
noncomputable section
namespace Cert.Proj
open Idealize.ShloMosaic Idealize.ShloMosaic.TcCoe Idealize.SL.Sem

/-- The two programs leave the same arrays. -/
theorem algebraic [Cert.Kernel6Ideal.Facts] [Cert.Reference6Ideal.Facts] : Cert.algebraic_Kernel6Ideal_Reference6Ideal := by
  intro m g m' g' _ hag
  refine ⟨fun c => Cert.Reference6Ideal.Read.val_main_v40 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
      fun c => Cert.Reference6Ideal.Read.val_main_v43 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg4)),
      fun c => Cert.Reference6Ideal.Read.val_main_v42 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)),
      fun c => Cert.Reference6Ideal.Read.val_main_v44 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)), ?_, ?_⟩
  · refine (θ_run _ _ _).mono (fun r h c => ?_) (Cert.Kernel6Ideal.Value.run_blocks (F := Ideal) m g)
    obtain ⟨h0, h1, h2, h3, a0, a1, a2, a3, a4⟩ := h c
    exact ⟨h0.trans (final_5 m c), h1.trans (final_6 m c), h2.trans (final_7 m c), h3.trans (final_8 m c), a0, a1, a2, a3, a4⟩
  · refine (θ_run _ _ _).mono (fun r h c => ?_) (Cert.Reference6Ideal.Value.run (F := Ideal) m' g')
    obtain ⟨h0, h1, h2, h3, a0, a1, a2, a3, a4⟩ := h c
    obtain ⟨e0, e1, e2, e3, e4⟩ := hag c
    have r0 := h0.trans (Cert.Reference6Ideal.Read.val_main_v40_eq m' c)
    rw [e0, e1, e2, e3, e4] at r0
    have r1 := h1.trans (Cert.Reference6Ideal.Read.val_main_v43_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg4)))
    rw [e0, e1, e4] at r1
    have r2 := h2.trans (Cert.Reference6Ideal.Read.val_main_v42_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg3)))
    rw [e0, e1, e3] at r2
    have r3 := h3.trans (Cert.Reference6Ideal.Read.val_main_v44_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg3)))
    rw [e0, e1, e3] at r3
    exact ⟨r0, r1, r2, r3, a0, a1, a2, a3, a4⟩
end Cert.Proj
end
-- ==== Proof.PostSpec.lean ====
module
public import proofs.«01_k».proof.Proof.Gen.Reference7Ideal.Read
public import proofs.«01_k».proof.Proof.Rms
public import Idealize.ShloMosaic.Lib.Pointwise
@[expose] public section
set_option maxRecDepth 16384
noncomputable section
namespace Cert.Post
open Idealize.ShloMosaic Idealize.ShloMosaic.Pointwise Cert.Reference7Ideal Cert.Reference7Ideal.Read

/-- A column lies in the first, the second or the third group. -/
theorem cols {P : Fin 1024 → Prop} (h0 : ∀ x : Fin 512, P ⟨x.val, by omega⟩) (h1 : ∀ x : Fin 256, P ⟨512 + x.val, by omega⟩)
    (h2 : ∀ x : Fin 256, P ⟨768 + x.val, by omega⟩) (j : Fin 1024) : P j := by
  by_cases a : j.val < 512
  · exact h0 ⟨j.val, a⟩
  · by_cases b : j.val < 768
    · have := h1 ⟨j.val - 512, by omega⟩
      rwa [show (⟨512 + (j.val - 512), by omega⟩ : Fin 1024) = j from Fin.ext (by show 512 + (j.val - 512) = j.val; omega)] at this
    · have := h2 ⟨j.val - 768, by omega⟩
      rwa [show (⟨768 + (j.val - 768), by omega⟩ : Fin 1024) = j from Fin.ext (by show 768 + (j.val - 768) = j.val; omega)] at this

variable (a0 a1 : Vec Ideal S8192x1024 .f32) (a2 : Vec Ideal S1024 .f32) (a3 : Vec Ideal S1024x1024 .f32) (a4 : Vec Ideal S1024 .f32)
  (a5 : Vec Ideal S1024x4096 .f32) (a6 : Vec Ideal S4096x1024 .f32)

/-- The scale of each of the three groups of columns of row `r`. -/
def sc0 (r : Fin 8192) : EReal :=
  Rms.scale (Ideal.ofBits .f32 0x44000000#32) (Ideal.ofBits .f32 0x358637BD#32) (fun k : Fin 512 => a0 (ix2 r ⟨k.val, by omega⟩))
def sc1 (r : Fin 8192) : EReal :=
  Rms.scale (Ideal.ofBits .f32 0x43800000#32) (Ideal.ofBits .f32 0x358637BD#32) (fun k : Fin 256 => a0 (ix2 r ⟨512 + k.val, by omega⟩))
def sc2 (r : Fin 8192) : EReal :=
  Rms.scale (Ideal.ofBits .f32 0x43800000#32) (Ideal.ofBits .f32 0x358637BD#32) (fun k : Fin 256 => a0 (ix2 r ⟨768 + k.val, by omega⟩))

/-- The scale at a column. -/
def sc (r : Fin 8192) (j : Fin 1024) : EReal := if j.val < 512 then sc0 a0 r else if j.val < 768 then sc1 a0 r else sc2 a0 r

theorem sc_at0 (r : Fin 8192) (x : Fin 512) : sc a0 r ⟨x.val, by omega⟩ = sc0 a0 r := if_pos x.isLt
theorem sc_at1 (r : Fin 8192) (x : Fin 256) : sc a0 r ⟨512 + x.val, by omega⟩ = sc1 a0 r :=
  (if_neg (by dsimp only; omega)).trans (if_pos (by dsimp only; omega))
theorem sc_at2 (r : Fin 8192) (x : Fin 256) : sc a0 r ⟨768 + x.val, by omega⟩ = sc2 a0 r :=
  (if_neg (by dsimp only; omega)).trans (if_neg (by dsimp only; omega))

/-- The normalised mixed rows. -/
def ym (r : Fin 8192) (j : Fin 1024) : EReal := a0 (ix2 r j) * sc a0 r j * a2 (ix1 j)

theorem ym_at0 (r : Fin 8192) (x : Fin 512) : ym a0 a2 r ⟨x.val, by omega⟩
    = a0 (ix2 r ⟨x.val, by omega⟩) * sc0 a0 r * a2 (ix1 ⟨x.val, by omega⟩) := by
  unfold ym
  rw [sc_at0]
theorem ym_at1 (r : Fin 8192) (x : Fin 256) : ym a0 a2 r ⟨512 + x.val, by omega⟩
    = a0 (ix2 r ⟨512 + x.val, by omega⟩) * sc1 a0 r * a2 (ix1 ⟨512 + x.val, by omega⟩) := by
  unfold ym
  rw [sc_at1]
theorem ym_at2 (r : Fin 8192) (x : Fin 256) : ym a0 a2 r ⟨768 + x.val, by omega⟩
    = a0 (ix2 r ⟨768 + x.val, by omega⟩) * sc2 a0 r * a2 (ix1 ⟨768 + x.val, by omega⟩) := by
  unfold ym
  rw [sc_at2]

/-- The rows after the output projection. -/
def h1 (r : Fin 8192) (j : Fin 1024) : EReal := a1 (ix2 r j) + ∑ x : Fin 1024, ym a0 a2 r x * a3 (ix2 x j)

/-- Their normalisation. -/
def hn (r : Fin 8192) (j : Fin 1024) : EReal :=
  h1 a0 a1 a2 a3 r j * Ideal.rsqrt (Ideal.div (∑ k : Fin 1024, h1 a0 a1 a2 a3 r k * h1 a0 a1 a2 a3 r k) (Ideal.ofBits .f32 0x44800000#32)
    + Ideal.ofBits .f32 0x358637BD#32) * a4 (ix1 j)

/-- The rectified hidden layer, and its square. -/
def hid (r : Fin 8192) (k : Fin 4096) : EReal := max (∑ x : Fin 1024, hn a0 a1 a2 a3 a4 r x * a5 (ix2 x k)) 0
def act (r : Fin 8192) (k : Fin 4096) : EReal := hid a0 a1 a2 a3 a4 a5 r k * hid a0 a1 a2 a3 a4 a5 r k

/-- The rows after the feed-forward block. -/
def h2 (r : Fin 8192) (j : Fin 1024) : EReal := h1 a0 a1 a2 a3 r j + ∑ k : Fin 4096, act a0 a1 a2 a3 a4 a5 r k * a6 (ix2 k j)

theorem v45_at (r : Fin 8192) (j : Fin 1024) : val_main_v45 (F := Ideal) a0 a2 (ix2 r j) = ym a0 a2 r j := by
  revert j
  refine cols (fun x => ?_) (fun x => ?_) fun x => ?_
  · rw [ym_at0]
    pointwise [val_main_v45, val_main_v14, val_main_v29, val_main_v44, val_main_v11, val_main_v13, val_main_v26, val_main_v28, val_main_v41, val_main_v43, val_main_v0, val_main_v10, val_main_v12, val_main_v15, val_main_v25, val_main_v27, val_main_v30, val_main_v40, val_main_v42, val_main_v9, val_main_v1, val_main_v24, val_main_v16, val_main_v39, val_main_v31, val_main_v8, val_main_v23, val_main_v38, val_main_v6, val_main_v7, val_main_v21, val_main_v22, val_main_v36, val_main_v37, val_main_v4, val_main_v5, val_main_cst_1, val_main_v19, val_main_v20, val_main_cst_4, val_main_v34, val_main_v35, val_main_cst_7, val_main_v3, val_main_cst_0, val_main_v18, val_main_cst_3, val_main_v33, val_main_cst_6, val_main_cst, val_main_v2, val_main_cst_2, val_main_v17, val_main_cst_5, val_main_v32]
    simp (config := { failIfUnchanged := false }) (disch := omega) only [dif_pos, dif_neg, false_and, dite_false, not_false_eq_true, Nat.add_sub_cancel_left, Nat.sub_sub, Nat.reduceAdd]
    rfl
  · rw [ym_at1]
    pointwise [val_main_v45, val_main_v14, val_main_v29, val_main_v44, val_main_v11, val_main_v13, val_main_v26, val_main_v28, val_main_v41, val_main_v43, val_main_v0, val_main_v10, val_main_v12, val_main_v15, val_main_v25, val_main_v27, val_main_v30, val_main_v40, val_main_v42, val_main_v9, val_main_v1, val_main_v24, val_main_v16, val_main_v39, val_main_v31, val_main_v8, val_main_v23, val_main_v38, val_main_v6, val_main_v7, val_main_v21, val_main_v22, val_main_v36, val_main_v37, val_main_v4, val_main_v5, val_main_cst_1, val_main_v19, val_main_v20, val_main_cst_4, val_main_v34, val_main_v35, val_main_cst_7, val_main_v3, val_main_cst_0, val_main_v18, val_main_cst_3, val_main_v33, val_main_cst_6, val_main_cst, val_main_v2, val_main_cst_2, val_main_v17, val_main_cst_5, val_main_v32]
    simp (config := { failIfUnchanged := false }) (disch := omega) only [dif_pos, dif_neg, false_and, dite_false, not_false_eq_true, Nat.add_sub_cancel_left, Nat.sub_sub, Nat.reduceAdd]
    rfl
  · rw [ym_at2]
    pointwise [val_main_v45, val_main_v14, val_main_v29, val_main_v44, val_main_v11, val_main_v13, val_main_v26, val_main_v28, val_main_v41, val_main_v43, val_main_v0, val_main_v10, val_main_v12, val_main_v15, val_main_v25, val_main_v27, val_main_v30, val_main_v40, val_main_v42, val_main_v9, val_main_v1, val_main_v24, val_main_v16, val_main_v39, val_main_v31, val_main_v8, val_main_v23, val_main_v38, val_main_v6, val_main_v7, val_main_v21, val_main_v22, val_main_v36, val_main_v37, val_main_v4, val_main_v5, val_main_cst_1, val_main_v19, val_main_v20, val_main_cst_4, val_main_v34, val_main_v35, val_main_cst_7, val_main_v3, val_main_cst_0, val_main_v18, val_main_cst_3, val_main_v33, val_main_cst_6, val_main_cst, val_main_v2, val_main_cst_2, val_main_v17, val_main_cst_5, val_main_v32]
    simp (config := { failIfUnchanged := false }) (disch := omega) only [dif_pos, dif_neg, false_and, dite_false, not_false_eq_true, Nat.add_sub_cancel_left, Nat.sub_sub, Nat.reduceAdd]
    rfl
theorem v109_at (r : Fin 8192) (j : Fin 1024) : val_main_v109 (F := Ideal) a0 a2 (ix2 r j) = ym a0 a2 r j := by
  revert j
  refine cols (fun x => ?_) (fun x => ?_) fun x => ?_
  · rw [ym_at0]
    pointwise [val_main_v109, val_main_v108, val_main_v78, val_main_v93, val_main_v105, val_main_v107, val_main_v75, val_main_v77, val_main_v90, val_main_v92, val_main_v104, val_main_v94, val_main_v106, val_main_v64, val_main_v74, val_main_v76, val_main_v79, val_main_v89, val_main_v91, val_main_v103, val_main_v95, val_main_v73, val_main_v65, val_main_v88, val_main_v80, val_main_v102, val_main_v72, val_main_v87, val_main_v100, val_main_v101, val_main_v70, val_main_v71, val_main_v85, val_main_v86, val_main_v98, val_main_v99, val_main_cst_19, val_main_v68, val_main_v69, val_main_cst_13, val_main_v83, val_main_v84, val_main_cst_16, val_main_v97, val_main_cst_18, val_main_v67, val_main_cst_12, val_main_v82, val_main_cst_15, val_main_cst_17, val_main_v96, val_main_cst_11, val_main_v66, val_main_cst_14, val_main_v81]
    simp (config := { failIfUnchanged := false }) (disch := omega) only [dif_pos, dif_neg, false_and, dite_false, not_false_eq_true, Nat.add_sub_cancel_left, Nat.sub_sub, Nat.reduceAdd]
    rfl
  · rw [ym_at1]
    pointwise [val_main_v109, val_main_v108, val_main_v78, val_main_v93, val_main_v105, val_main_v107, val_main_v75, val_main_v77, val_main_v90, val_main_v92, val_main_v104, val_main_v94, val_main_v106, val_main_v64, val_main_v74, val_main_v76, val_main_v79, val_main_v89, val_main_v91, val_main_v103, val_main_v95, val_main_v73, val_main_v65, val_main_v88, val_main_v80, val_main_v102, val_main_v72, val_main_v87, val_main_v100, val_main_v101, val_main_v70, val_main_v71, val_main_v85, val_main_v86, val_main_v98, val_main_v99, val_main_cst_19, val_main_v68, val_main_v69, val_main_cst_13, val_main_v83, val_main_v84, val_main_cst_16, val_main_v97, val_main_cst_18, val_main_v67, val_main_cst_12, val_main_v82, val_main_cst_15, val_main_cst_17, val_main_v96, val_main_cst_11, val_main_v66, val_main_cst_14, val_main_v81]
    simp (config := { failIfUnchanged := false }) (disch := omega) only [dif_pos, dif_neg, false_and, dite_false, not_false_eq_true, Nat.add_sub_cancel_left, Nat.sub_sub, Nat.reduceAdd]
    rfl
  · rw [ym_at2]
    pointwise [val_main_v109, val_main_v108, val_main_v78, val_main_v93, val_main_v105, val_main_v107, val_main_v75, val_main_v77, val_main_v90, val_main_v92, val_main_v104, val_main_v94, val_main_v106, val_main_v64, val_main_v74, val_main_v76, val_main_v79, val_main_v89, val_main_v91, val_main_v103, val_main_v95, val_main_v73, val_main_v65, val_main_v88, val_main_v80, val_main_v102, val_main_v72, val_main_v87, val_main_v100, val_main_v101, val_main_v70, val_main_v71, val_main_v85, val_main_v86, val_main_v98, val_main_v99, val_main_cst_19, val_main_v68, val_main_v69, val_main_cst_13, val_main_v83, val_main_v84, val_main_cst_16, val_main_v97, val_main_cst_18, val_main_v67, val_main_cst_12, val_main_v82, val_main_cst_15, val_main_cst_17, val_main_v96, val_main_cst_11, val_main_v66, val_main_cst_14, val_main_v81]
    simp (config := { failIfUnchanged := false }) (disch := omega) only [dif_pos, dif_neg, false_and, dite_false, not_false_eq_true, Nat.add_sub_cancel_left, Nat.sub_sub, Nat.reduceAdd]
    rfl

theorem v47_at (r : Fin 8192) (j : Fin 1024) : val_main_v47 (F := Ideal) a0 a1 a2 a3 (ix2 r j) = h1 a0 a1 a2 a3 r j := by
  pointwise [val_main_v47, val_main_v46]
  simp only [v45_at]
  rfl
theorem v60_at (r : Fin 8192) (j : Fin 1024) : val_main_v60 (F := Ideal) a0 a1 a2 a3 a4 (ix2 r j) = hn a0 a1 a2 a3 a4 r j := by
  pointwise [val_main_v60, val_main_v57, val_main_v59, val_main_v56, val_main_v58, val_main_v55, val_main_v54, val_main_v52, val_main_v53, val_main_v50, val_main_v51, val_main_cst_10, val_main_v49, val_main_cst_9, val_main_cst_8, val_main_v48]
  simp only [v47_at]
  rfl
theorem v63_at (r : Fin 8192) (k : Fin 4096) : val_main_v63 (F := Ideal) a0 a1 a2 a3 a4 a5 (ix2 r k) = act a0 a1 a2 a3 a4 a5 r k := by
  pointwise [val_main_v63, val_main_v62, val_main_call0_v0, val_main_v61, val_main_call0_cst]
  simp only [v60_at]
  rfl
theorem v110_at (r : Fin 8192) (k : Fin 4096) : val_main_v110 (F := Ideal) a0 a1 a2 a3 a4 a5 (ix2 r k) = act a0 a1 a2 a3 a4 a5 r k := by
  pointwise [val_main_v110]
  exact v63_at a0 a1 a2 a3 a4 a5 r k
theorem v112_at (r : Fin 8192) (j : Fin 1024) : val_main_v112 (F := Ideal) a0 a1 a2 a3 a4 a5 a6 (ix2 r j) = h2 a0 a1 a2 a3 a4 a5 a6 r j := by
  pointwise [val_main_v112, val_main_v111]
  simp only [v63_at, v47_at]
  rfl
theorem v113_at (r : Fin 8192) (j : Fin 1024) : val_main_v113 (F := Ideal) a0 a2 (ix2 r j) = ym a0 a2 r j := by
  pointwise [val_main_v113]
  exact v109_at a0 a2 r j
theorem v114_at (r : Fin 8192) (j : Fin 1024) : val_main_v114 (F := Ideal) a0 a1 a2 a3 a4 (ix2 r j) = hn a0 a1 a2 a3 a4 r j := by
  pointwise [val_main_v114]
  exact v60_at a0 a1 a2 a3 a4 r j
end Cert.Post
end
-- ==== Proof.PostArrays.lean ====
module
public import proofs.«01_k».proof.Proof.Gen.Kernel7Ideal.Value
public import proofs.«01_k».proof.Proof.PostSpec
public import Idealize.ShloMosaic.Lib.Pointwise
public import Idealize.ShloMosaic.Lib.Pipeline.ValueKit
public import Idealize.ShloMosaic.Lib.Pipeline.ReadBack
@[expose] public section
set_option maxRecDepth 16384
noncomputable section
namespace Cert.Post
open Idealize.ShloMosaic Idealize.ShloMosaic.TcCoe Idealize.SL.Sem Idealize.ShloMosaic.Pointwise Cert.Kernel7Ideal Cert.Kernel7Ideal.Gen
open Idealize.ShloMosaic.Pipeline (Dat)

section
variable (x0 x1 : Vec Ideal S512x1024 .f32) (x2 : Vec Ideal S1x1024 .f32) (x3 : Vec Ideal S1024x1024 .bf16) (x4 : Vec Ideal S1x1024 .f32)
  (x5 : Vec Ideal S8x1024x512 .bf16) (x6 : Vec Ideal S4096x1024 .bf16)
variable (a0 a1 : Vec Ideal S8192x1024 .f32) (a2 : Vec Ideal S1024 .f32) (a3 : Vec Ideal S1024x1024 .f32) (a4 : Vec Ideal S1024 .f32)
  (a5 : Vec Ideal S1024x4096 .f32) (a6 : Vec Ideal S4096x1024 .f32)

/-- The blocks of a grid point are rows `R r` of the arrays. -/
structure Reads (R : Fin 512 → Fin 8192) : Prop where
  b0 : ∀ r k, x0 (ix2 r k) = a0 (ix2 (R r) k)
  b1 : ∀ r k, x1 (ix2 r k) = a1 (ix2 (R r) k)
  b2 : ∀ k, x2 (ix2 0 k) = a2 (ix1 k)
  b3 : ∀ k j, x3 (ix2 k j) = a3 (ix2 k j)
  b4 : ∀ k, x4 (ix2 0 k) = a4 (ix1 k)
  b5 : ∀ d k j, x5 (ix3 d k j) = a5 (ix2 k ⟨d.val * 512 + j.val, by omega⟩)
  b6 : ∀ k j, x6 (ix2 k j) = a6 (ix2 k j)

variable {x0 x1 x2 x3 x4 x5 x6 a0 a1 a2 a3 a4 a5 a6} {R : Fin 512 → Fin 8192}

theorem Reads.ym_at (h : Reads x0 x1 x2 x3 x4 x5 x6 a0 a1 a2 a3 a4 a5 a6 R) (r : Fin 512) (j : Fin 1024) :
    k0_pay2 x0 x2 (ix2 r j) = ym a0 a2 (R r) j := by
  revert j
  refine cols (fun x => ?_) (fun x => ?_) fun x => ?_
  · rw [ym_at0]
    pointwise [k0_pay2]
    simp (config := { failIfUnchanged := false }) (disch := omega) only [dif_pos, dif_neg, false_and, dite_false, not_false_eq_true, Nat.add_sub_cancel_left, Nat.sub_sub, Nat.reduceAdd]
    simp only [h.b0, h.b2]
    rfl
  · rw [ym_at1]
    pointwise [k0_pay2]
    simp (config := { failIfUnchanged := false }) (disch := omega) only [dif_pos, dif_neg, false_and, dite_false, not_false_eq_true, Nat.add_sub_cancel_left, Nat.sub_sub, Nat.reduceAdd]
    simp only [h.b0, h.b2]
    rfl
  · rw [ym_at2]
    pointwise [k0_pay2]
    simp (config := { failIfUnchanged := false }) (disch := omega) only [dif_pos, dif_neg, false_and, dite_false, not_false_eq_true, Nat.add_sub_cancel_left, Nat.sub_sub, Nat.reduceAdd]
    simp only [h.b0, h.b2]
    rfl
theorem Reads.ym16_at (h : Reads x0 x1 x2 x3 x4 x5 x6 a0 a1 a2 a3 a4 a5 a6 R) (r : Fin 512) (j : Fin 1024) :
    k0_pay3 (k0_pay2 x0 x2) (ix2 r j) = ym a0 a2 (R r) j := by
  refine Eq.trans ?_ (h.ym_at r j)
  generalize k0_pay2 x0 x2 = y
  pointwise [k0_pay3]
theorem Reads.h1_at (h : Reads x0 x1 x2 x3 x4 x5 x6 a0 a1 a2 a3 a4 a5 a6 R) (r : Fin 512) (j : Fin 1024) :
    k0_pay4 (k0_pay2 x0 x2) x1 x3 (ix2 r j) = h1 a0 a1 a2 a3 (R r) j := by
  have e := h.ym_at
  generalize k0_pay2 x0 x2 = y at e ⊢
  pointwise [k0_pay4, k0_pay3]
  simp only [e, h.b1, h.b3]
  rfl
theorem Reads.hn_at (h : Reads x0 x1 x2 x3 x4 x5 x6 a0 a1 a2 a3 a4 a5 a6 R) (r : Fin 512) (j : Fin 1024) :
    k0_pay5 (k0_pay2 x0 x2) x1 x3 x4 (ix2 r j) = hn a0 a1 a2 a3 a4 (R r) j := by
  have e := h.h1_at
  unfold k0_pay5
  generalize k0_pay4 (k0_pay2 x0 x2) x1 x3 = y at e ⊢
  pointwise []
  simp only [e, h.b4]
  rfl

/-- A block of 512 columns of the squared hidden layer. -/
theorem Reads.piece_at (h : Reads x0 x1 x2 x3 x4 x5 x6 a0 a1 a2 a3 a4 a5 a6 R) {y : Vec Ideal S512x1024 .bf16}
    (e : ∀ r j, y (ix2 r j) = hn a0 a1 a2 a3 a4 (R r) j) (d : ℕ) (hd : d < 8)
    (i : ∀ a, (![d, 0, 0] : Fin 3 → ℕ) a + (![1, 1024, 512] : Fin 3 → ℕ) a ≤ S8x1024x512.size a) (x : S512x512.Idx) (r : Fin 512) (k : Fin 4096)
    (g0 : r.val = (x 0).val) (g1 : k.val = d * 512 + (x 1).val) :
    k0_pay7 y (View.ld x5 (Rect.unit ![d, 0, 0] ![1, 1024, 512] i)) x = act a0 a1 a2 a3 a4 a5 (R r) k := by
  obtain ⟨p, j, rfl⟩ : ∃ (p : Fin 512) (j : Fin 512), x = ix2 p j := ⟨x 0, x 1, eq_ix2 x⟩
  obtain rfl : r = p := Fin.ext g0
  have ek : k = ⟨d * 512 + j.val, by omega⟩ := Fin.ext g1
  rw [ek]
  have b : ∀ q : Fin 1024, (View.ld x5 (Rect.unit ![d, 0, 0] ![1, 1024, 512] i) : Vec Ideal S1x1024x512 .bf16) (ix3 0 q j)
      = a5 (ix2 q ⟨d * 512 + j.val, by omega⟩) := fun q => by
    refine Eq.trans ?_ (h.b5 ⟨d, hd⟩ q j)
    refine congrArg x5 (funext fun a => Fin.ext ?_)
    fin_cases a <;> simp [Rect.unit]
  generalize (View.ld x5 (Rect.unit ![d, 0, 0] ![1, 1024, 512] i) : Vec Ideal S1x1024x512 .bf16) = w at b ⊢
  pointwise [k0_pay7]
  simp only [e, b]
  rfl

theorem Reads.act_canon (h : Reads x0 x1 x2 x3 x4 x5 x6 a0 a1 a2 a3 a4 a5 a6 R) (r : Fin 512) (k : Fin 4096) :
    (View.canon (Val := Elt Ideal)
      [⟨Rect.unit ![0, 3584] ![512, 512] inb_S512x4096_S512x512_0_3584,
            k0_pay13 (k0_pay5 (k0_pay2 x0 x2) x1 x3 x4)
              (View.ld x5 (Rect.unit ![7, 0, 0] ![1, 1024, 512] inb_S8x1024x512_S1x1024x512_7_0_0))⟩,
        ⟨Rect.unit ![0, 3072] ![512, 512] inb_S512x4096_S512x512_0_3072,
            k0_pay12 (k0_pay5 (k0_pay2 x0 x2) x1 x3 x4)
              (View.ld x5 (Rect.unit ![6, 0, 0] ![1, 1024, 512] inb_S8x1024x512_S1x1024x512_6_0_0))⟩,
        ⟨Rect.unit ![0, 2560] ![512, 512] inb_S512x4096_S512x512_0_2560,
            k0_pay11 (k0_pay5 (k0_pay2 x0 x2) x1 x3 x4)
              (View.ld x5 (Rect.unit ![5, 0, 0] ![1, 1024, 512] inb_S8x1024x512_S1x1024x512_5_0_0))⟩,
        ⟨Rect.unit ![0, 2048] ![512, 512] inb_S512x4096_S512x512_0_2048,
            k0_pay10 (k0_pay5 (k0_pay2 x0 x2) x1 x3 x4)
              (View.ld x5 (Rect.unit ![4, 0, 0] ![1, 1024, 512] inb_S8x1024x512_S1x1024x512_4_0_0))⟩,
        ⟨Rect.unit ![0, 1536] ![512, 512] inb_S512x4096_S512x512_0_1536,
            k0_pay9 (k0_pay5 (k0_pay2 x0 x2) x1 x3 x4)
              (View.ld x5 (Rect.unit ![3, 0, 0] ![1, 1024, 512] inb_S8x1024x512_S1x1024x512_3_0_0))⟩,
        ⟨Rect.unit ![0, 1024] ![512, 512] inb_S512x4096_S512x512_0_1024,
            k0_pay8 (k0_pay5 (k0_pay2 x0 x2) x1 x3 x4)
              (View.ld x5 (Rect.unit ![2, 0, 0] ![1, 1024, 512] inb_S8x1024x512_S1x1024x512_2_0_0))⟩,
        ⟨Rect.unit ![0, 512] ![512, 512] inb_S512x4096_S512x512_0_512,
            k0_pay7 (k0_pay5 (k0_pay2 x0 x2) x1 x3 x4)
              (View.ld x5 (Rect.unit ![1, 0, 0] ![1, 1024, 512] inb_S8x1024x512_S1x1024x512_1_0_0))⟩,
        ⟨Rect.unit ![0, 0] ![512, 512] inb_S512x4096_S512x512_0_0,
            k0_pay6 (k0_pay2 x0 x2) x1 x3 x4
              (View.ld x5 (Rect.unit ![0, 0, 0] ![1, 1024, 512] inb_S8x1024x512_S1x1024x512_0_0_0))⟩] : Vec Ideal S512x4096 .bf16)
      (ix2 r k) = act a0 a1 a2 a3 a4 a5 (R r) k := by
  have e := h.hn_at
  have q : ∀ w, k0_pay6 (k0_pay2 x0 x2) x1 x3 x4 w = k0_pay7 (k0_pay5 (k0_pay2 x0 x2) x1 x3 x4) w := fun w => rfl
  rw [q]
  generalize k0_pay5 (k0_pay2 x0 x2) x1 x3 x4 = y at e ⊢
  canon_tiles x g
  case piece0 => exact h.piece_at e 7 (by norm_num) _ x r k g0 g1
  case piece1 => exact h.piece_at e 6 (by norm_num) _ x r k g0 g1
  case piece2 => exact h.piece_at e 5 (by norm_num) _ x r k g0 g1
  case piece3 => exact h.piece_at e 4 (by norm_num) _ x r k g0 g1
  case piece4 => exact h.piece_at e 3 (by norm_num) _ x r k g0 g1
  case piece5 => exact h.piece_at e 2 (by norm_num) _ x r k g0 g1
  case piece6 => exact h.piece_at e 1 (by norm_num) _ x r k g0 g1
  case piece7 => exact h.piece_at e 0 (by norm_num) _ x r k g0 (g1.trans (Nat.zero_add _).symm)

theorem Reads.act_read (h : Reads x0 x1 x2 x3 x4 x5 x6 a0 a1 a2 a3 a4 a5 a6 R) {sig : RefSig} {κ : Kind} {sp : Space}
    (v : View sig κ sp S512x4096 .bf16) :
    v.readCov (Val := Elt Ideal)
      [⟨Rect.unit ![0, 3584] ![512, 512] inb_S512x4096_S512x512_0_3584,
            k0_pay13 (k0_pay5 (k0_pay2 x0 x2) x1 x3 x4)
              (View.ld x5 (Rect.unit ![7, 0, 0] ![1, 1024, 512] inb_S8x1024x512_S1x1024x512_7_0_0))⟩,
        ⟨Rect.unit ![0, 3072] ![512, 512] inb_S512x4096_S512x512_0_3072,
            k0_pay12 (k0_pay5 (k0_pay2 x0 x2) x1 x3 x4)
              (View.ld x5 (Rect.unit ![6, 0, 0] ![1, 1024, 512] inb_S8x1024x512_S1x1024x512_6_0_0))⟩,
        ⟨Rect.unit ![0, 2560] ![512, 512] inb_S512x4096_S512x512_0_2560,
            k0_pay11 (k0_pay5 (k0_pay2 x0 x2) x1 x3 x4)
              (View.ld x5 (Rect.unit ![5, 0, 0] ![1, 1024, 512] inb_S8x1024x512_S1x1024x512_5_0_0))⟩,
        ⟨Rect.unit ![0, 2048] ![512, 512] inb_S512x4096_S512x512_0_2048,
            k0_pay10 (k0_pay5 (k0_pay2 x0 x2) x1 x3 x4)
              (View.ld x5 (Rect.unit ![4, 0, 0] ![1, 1024, 512] inb_S8x1024x512_S1x1024x512_4_0_0))⟩,
        ⟨Rect.unit ![0, 1536] ![512, 512] inb_S512x4096_S512x512_0_1536,
            k0_pay9 (k0_pay5 (k0_pay2 x0 x2) x1 x3 x4)
              (View.ld x5 (Rect.unit ![3, 0, 0] ![1, 1024, 512] inb_S8x1024x512_S1x1024x512_3_0_0))⟩,
        ⟨Rect.unit ![0, 1024] ![512, 512] inb_S512x4096_S512x512_0_1024,
            k0_pay8 (k0_pay5 (k0_pay2 x0 x2) x1 x3 x4)
              (View.ld x5 (Rect.unit ![2, 0, 0] ![1, 1024, 512] inb_S8x1024x512_S1x1024x512_2_0_0))⟩,
        ⟨Rect.unit ![0, 512] ![512, 512] inb_S512x4096_S512x512_0_512,
            k0_pay7 (k0_pay5 (k0_pay2 x0 x2) x1 x3 x4)
              (View.ld x5 (Rect.unit ![1, 0, 0] ![1, 1024, 512] inb_S8x1024x512_S1x1024x512_1_0_0))⟩,
        ⟨Rect.unit ![0, 0] ![512, 512] inb_S512x4096_S512x512_0_0,
            k0_pay6 (k0_pay2 x0 x2) x1 x3 x4
              (View.ld x5 (Rect.unit ![0, 0, 0] ![1, 1024, 512] inb_S8x1024x512_S1x1024x512_0_0_0))⟩]
      (Rect.unit ![0, 0] ![512, 4096] inb_S512x4096_S512x4096_0_0).toLoadRect
      = fun y => act a0 a1 a2 a3 a4 a5 (R (y 0)) (y 1) := by
  rw [View.readCov_eq_canon']
  funext y
  obtain ⟨r, k, rfl⟩ : ∃ (r : Fin 512) (k : Fin 4096), y = ix2 r k := ⟨y 0, y 1, eq_ix2 y⟩
  refine Eq.trans (congrArg _ ?_) (h.act_canon r k)
  funext a
  refine Fin.ext ?_
  show (![0, 0] : Fin 2 → ℕ) a + 1 * (ix2 r k a).val = (ix2 r k a).val
  fin_cases a <;> simp

theorem Reads.h2_at (h : Reads x0 x1 x2 x3 x4 x5 x6 a0 a1 a2 a3 a4 a5 a6 R) (w : Vec Ideal S512x4096 .bf16)
    (hw : ∀ r k, w (ix2 r k) = act a0 a1 a2 a3 a4 a5 (R r) k) (r : Fin 512) (j : Fin 1024) :
    k0_pay1 (k0_pay4 (k0_pay2 x0 x2) x1 x3) (k0_pay14 w) (k0_pay15 x6) (constant S512x1024 .f32 0x00000000#32) (ix2 r j)
      = h2 a0 a1 a2 a3 a4 a5 a6 (R r) j := by
  have e := h.h1_at
  generalize k0_pay4 (k0_pay2 x0 x2) x1 x3 = y at e ⊢
  pointwise [k0_pay1, k0_pay14, k0_pay15]
  simp only [e, hw, h.b6]
  rfl
end

/-- every window's block index at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0] :=
  (by decide +kernel : ∀ t : Fin grid0.N, _)

variable (m : (ℓ : Loc nD τ sig) → Buf (Elt Ideal) ℓ)

/-- Row `r` of the block of point `t`. -/
def row (t : Fin cfg0.N) (r : Fin 512) : Fin 8192 := ⟨t.val * 512 + r.val, by have := t.isLt; have : cfg0.N = 16 := rfl; omega⟩

theorem e_0 (c : Dev nD) (r : Fin 8192) (k : Fin 1024) : V m c main_arg0 (ix2 r k) = (m ((c : Thread nD τ).loc main_arg0)) (ix2 r k) := by
  unfold V
  simp only [hostOps0, List.flatten_cons, List.flatten_nil, List.cons_append, List.nil_append, List.append_nil]
  entry_read
  pointwise
theorem e_1 (c : Dev nD) (r : Fin 8192) (k : Fin 1024) : V m c main_arg1 (ix2 r k) = (m ((c : Thread nD τ).loc main_arg1)) (ix2 r k) := by
  unfold V
  simp only [hostOps0, List.flatten_cons, List.flatten_nil, List.cons_append, List.nil_append, List.append_nil]
  entry_read
  pointwise
theorem e2 (c : Dev nD) (d : Fin 8) (k : Fin 1024) (j : Fin 512) : V m c main_v2 (ix3 d k j) = (m ((c : Thread nD τ).loc main_arg5)) (ix2 k ⟨d.val * 512 + j.val, by omega⟩) := by
  unfold V
  simp only [hostOps0, List.flatten_cons, List.flatten_nil, List.cons_append, List.nil_append, List.append_nil]
  entry_read
  pointwise
theorem e3 (c : Dev nD) (k : Fin 1024) : V m c main_v3 (ix2 0 k) = (m ((c : Thread nD τ).loc main_arg2)) (ix1 k) := by
  unfold V
  simp only [hostOps0, List.flatten_cons, List.flatten_nil, List.cons_append, List.nil_append, List.append_nil]
  entry_read
  pointwise
theorem e4 (c : Dev nD) (k j : Fin 1024) : V m c main_v4 (ix2 k j) = (m ((c : Thread nD τ).loc main_arg3)) (ix2 k j) := by
  unfold V
  simp only [hostOps0, List.flatten_cons, List.flatten_nil, List.cons_append, List.nil_append, List.append_nil]
  entry_read
  pointwise
theorem e5 (c : Dev nD) (k : Fin 1024) : V m c main_v5 (ix2 0 k) = (m ((c : Thread nD τ).loc main_arg4)) (ix1 k) := by
  unfold V
  simp only [hostOps0, List.flatten_cons, List.flatten_nil, List.cons_append, List.nil_append, List.append_nil]
  entry_read
  pointwise
theorem e6 (c : Dev nD) (k : Fin 4096) (j : Fin 1024) : V m c main_v6 (ix2 k j) = (m ((c : Thread nD τ).loc main_arg6)) (ix2 k j) := by
  unfold V
  simp only [hostOps0, List.flatten_cons, List.flatten_nil, List.cons_append, List.nil_append, List.append_nil]
  entry_read
  pointwise

theorem reads_h0 (c : Dev nD) (t : Fin cfg0.N) (r : Fin 512) (k : Fin 1024) : iblk m c 0 t (ix2 r k) = (m ((c : Thread nD τ).loc main_arg0)) (ix2 (row t r) k) := by
  refine Eq.trans ?_ (e_0 m c (row t r) k)
  blk_simp [iblk]
  blk_ext [idx t, row]
theorem reads_h1 (c : Dev nD) (t : Fin cfg0.N) (r : Fin 512) (k : Fin 1024) : iblk m c 1 t (ix2 r k) = (m ((c : Thread nD τ).loc main_arg1)) (ix2 (row t r) k) := by
  refine Eq.trans ?_ (e_1 m c (row t r) k)
  blk_simp [iblk]
  blk_ext [idx t, row]
theorem reads_h2 (c : Dev nD) (t : Fin cfg0.N) (k : Fin 1024) : iblk m c 2 t (ix2 0 k) = (m ((c : Thread nD τ).loc main_arg2)) (ix1 k) := by
  refine Eq.trans ?_ (e3 m c k)
  blk_simp [iblk]
  blk_ext [idx t]
theorem reads_h3 (c : Dev nD) (t : Fin cfg0.N) (k j : Fin 1024) : iblk m c 3 t (ix2 k j) = (m ((c : Thread nD τ).loc main_arg3)) (ix2 k j) := by
  refine Eq.trans ?_ (e4 m c k j)
  blk_simp [iblk]
  blk_ext [idx t]
theorem reads_h4 (c : Dev nD) (t : Fin cfg0.N) (k : Fin 1024) : iblk m c 4 t (ix2 0 k) = (m ((c : Thread nD τ).loc main_arg4)) (ix1 k) := by
  refine Eq.trans ?_ (e5 m c k)
  blk_simp [iblk]
  blk_ext [idx t]
theorem reads_h5 (c : Dev nD) (t : Fin cfg0.N) (d : Fin 8) (k : Fin 1024) (j : Fin 512) :
    iblk m c 5 t (ix3 d k j) = (m ((c : Thread nD τ).loc main_arg5)) (ix2 k ⟨d.val * 512 + j.val, by omega⟩) := by
  refine Eq.trans ?_ (e2 m c d k j)
  blk_simp [iblk]
  blk_ext [idx t]
theorem reads_h6 (c : Dev nD) (t : Fin cfg0.N) (k : Fin 4096) (j : Fin 1024) : iblk m c 6 t (ix2 k j) = (m ((c : Thread nD τ).loc main_arg6)) (ix2 k j) := by
  refine Eq.trans ?_ (e6 m c k j)
  blk_simp [iblk]
  blk_ext [idx t]
theorem reads (c : Dev nD) (t : Fin cfg0.N) : Reads (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t) :=
  ⟨reads_h0 m c t, reads_h1 m c t, reads_h2 m c t, reads_h3 m c t, reads_h4 m c t, reads_h5 m c t, reads_h6 m c t⟩

theorem emb7 (t : Fin cfg0.N) (r : Fin 512) (j : Fin 1024) : ((cfg0.win 7).blk t).view.emb (ix2 r j) = ix2 (row t r) j := by
  blk_ext [idx t, row]
theorem emb8 (t : Fin cfg0.N) (r : Fin 512) (j : Fin 4096) : ((cfg0.win 8).blk t).view.emb (ix2 r j) = ix2 (row t r) j := by
  blk_ext [idx t, row]
theorem emb9 (t : Fin cfg0.N) (r : Fin 512) (j : Fin 1024) : ((cfg0.win 9).blk t).view.emb (ix2 r j) = ix2 (row t r) j := by
  blk_ext [idx t, row]
theorem emb10 (t : Fin cfg0.N) (r : Fin 512) (j : Fin 1024) : ((cfg0.win 10).blk t).view.emb (ix2 r j) = ix2 (row t r) j := by
  blk_ext [idx t, row]
theorem emb11 (t : Fin cfg0.N) (r : Fin 512) (j : Fin 1024) : ((cfg0.win 11).blk t).view.emb (ix2 r j) = ix2 (row t r) j := by
  blk_ext [idx t, row]
theorem final_7 (c : Dev nD) : (dats m 0 c).arrAt 7 cfg0.N = Cert.Reference7Ideal.Read.val_main_v47 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨r, j, rfl⟩ : ∃ (r : Fin 512) (j : Fin 1024), y = ix2 r j := ⟨y 0, y 1, eq_ix2 y⟩
  rw [emb7]
  blk_simp
  rw [after0_7]
  refine Eq.trans ?_ (v47_at (m ((c : Thread nD τ).loc main_arg0)) (m ((c : Thread nD τ).loc main_arg1)) (m ((c : Thread nD τ).loc main_arg2)) (m ((c : Thread nD τ).loc main_arg3)) (row t r) j).symm
  unfold outsAt0
  frame_out
  exact (reads m c t).h1_at r j
theorem final_8 (c : Dev nD) : (dats m 0 c).arrAt 8 cfg0.N = Cert.Reference7Ideal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨r, j, rfl⟩ : ∃ (r : Fin 512) (j : Fin 4096), y = ix2 r j := ⟨y 0, y 1, eq_ix2 y⟩
  rw [emb8]
  blk_simp
  rw [after0_8]
  refine Eq.trans ?_ (v110_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) j).symm
  unfold outsAt0
  frame_out
  exact (reads m c t).act_canon r j
theorem final_9 (c : Dev nD) : (dats m 0 c).arrAt 9 cfg0.N = Cert.Reference7Ideal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨r, j, rfl⟩ : ∃ (r : Fin 512) (j : Fin 1024), y = ix2 r j := ⟨y 0, y 1, eq_ix2 y⟩
  rw [emb9]
  blk_simp
  rw [after0_9]
  refine Eq.trans ?_ (v112_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) j).symm
  unfold outsAt0
  frame_out
  rw [(reads m c t).act_read]
  exact (reads m c t).h2_at _ (fun _ _ => rfl) r j
theorem final_10 (c : Dev nD) : (dats m 0 c).arrAt 10 cfg0.N = Cert.Reference7Ideal.Read.val_main_v113 (F := Ideal) (m ((c : Thread nD τ).loc main_arg0)) (m ((c : Thread nD τ).loc main_arg2)) := by
  refine (dats m 0 c).arrAt_eq_of_covers 10 _ (by decide +kernel) fun t hf y => ?_
  obtain ⟨r, j, rfl⟩ : ∃ (r : Fin 512) (j : Fin 1024), y = ix2 r j := ⟨y 0, y 1, eq_ix2 y⟩
  rw [emb10]
  blk_simp
  rw [after0_10]
  refine Eq.trans ?_ (v113_at (m ((c : Thread nD τ).loc main_arg0)) (m ((c : Thread nD τ).loc main_arg2)) (row t r) j).symm
  unfold outsAt0
  frame_out
  exact (reads m c t).ym16_at r j
theorem final_11 (c : Dev nD) : (dats m 0 c).arrAt 11 cfg0.N = Cert.Reference7Ideal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  obtain ⟨r, j, rfl⟩ : ∃ (r : Fin 512) (j : Fin 1024), y = ix2 r j := ⟨y 0, y 1, eq_ix2 y⟩
  rw [emb11]
  blk_simp
  rw [after0_11]
  refine Eq.trans ?_ (v114_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm
  unfold outsAt0
  frame_out
  exact (reads m c t).hn_at r j
end Cert.Post
end
-- ==== Proof.PostClaim.lean ====
module
public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.PostArrays
@[expose] public section
set_option maxRecDepth 16384
noncomputable section
namespace Cert.Post
open Idealize.ShloMosaic Idealize.ShloMosaic.TcCoe Idealize.SL.Sem

/-- The two programs leave the same arrays. -/
theorem algebraic [Cert.Kernel7Ideal.Facts] [Cert.Reference7Ideal.Facts] : Cert.algebraic_Kernel7Ideal_Reference7Ideal := by
  intro m g m' g' _ hag
  refine ⟨fun c => Cert.Reference7Ideal.Read.val_main_v47 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
      fun c => Cert.Reference7Ideal.Read.val_main_v110 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
      fun c => Cert.Reference7Ideal.Read.val_main_v112 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)),
      fun c => Cert.Reference7Ideal.Read.val_main_v113 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2)),
      fun c => Cert.Reference7Ideal.Read.val_main_v114 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), ?_, ?_⟩
  · refine (θ_run _ _ _).mono (fun r h c => ?_) (Cert.Kernel7Ideal.Value.run_blocks (F := Ideal) m g)
    obtain ⟨h0, h1, h2, h3, h4, a0, a1, a2, a3, a4, a5, a6⟩ := h c
    exact ⟨h0.trans (final_7 m c), h1.trans (final_8 m c), h2.trans (final_9 m c), h3.trans (final_10 m c), h4.trans (final_11 m c), a0, a1, a2, a3, a4, a5, a6⟩
  · refine (θ_run _ _ _).mono (fun r h c => ?_) (Cert.Reference7Ideal.Value.run (F := Ideal) m' g')
    obtain ⟨h0, h1, h2, h3, h4, a0, a1, a2, a3, a4, a5, a6⟩ := h c
    obtain ⟨e0, e1, e2, e3, e4, e5, e6⟩ := hag c
    have r0 := h0.trans (Cert.Reference7Ideal.Read.val_main_v47_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)))
    rw [e0, e1, e2, e3] at r0
    have r1 := h1.trans (Cert.Reference7Ideal.Read.val_main_v110_eq m' c)
    rw [e0, e1, e2, e3, e4, e5] at r1
    have r2 := h2.trans (Cert.Reference7Ideal.Read.val_main_v112_eq m' c)
    rw [e0, e1, e2, e3, e4, e5, e6] at r2
    have r3 := h3.trans (Cert.Reference7Ideal.Read.val_main_v113_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg2)))
    rw [e0, e2] at r3
    have r4 := h4.trans (Cert.Reference7Ideal.Read.val_main_v114_eq m' c)
    rw [e0, e1, e2, e3, e4] at r4
    exact ⟨r0, r1, r2, r3, r4, a0, a1, a2, a3, a4, a5, a6⟩
end Cert.Post
end
-- ==== Proof.NormSpec.lean ====
module
public import proofs.«01_k».proof.Proof.Gen.Reference8Ideal.Read
public import Idealize.ShloMosaic.Lib.Pointwise
@[expose] public section
set_option maxRecDepth 16384
noncomputable section
namespace Cert.Norm
open Idealize.ShloMosaic Idealize.ShloMosaic.Pointwise Cert.Reference8Ideal Cert.Reference8Ideal.Read
variable (a0 : Vec Ideal S8192x1024 .f32) (a1 : Vec Ideal S1024 .f32) (a2 : Vec Ideal S1024x1792 .f32)

/-- The normalised rows. -/
def norm (r : Fin 8192) (x : Fin 1024) : EReal :=
  a0 (ix2 r x) * Ideal.rsqrt (Ideal.div (∑ k : Fin 1024, a0 (ix2 r k) * a0 (ix2 r k)) (Ideal.ofBits .f32 0x44800000#32)
    + Ideal.ofBits .f32 0x358637BD#32) * a1 (ix1 x)

/-- The rows after the input projection. -/
def z (r : Fin 8192) (j : Fin 1792) : EReal := ∑ x : Fin 1024, norm a0 a1 r x * a2 (ix2 x j)

theorem v13_at (r : Fin 8192) (j : Fin 1792) : val_main_v13 (F := Ideal) a0 a1 a2 (ix2 r j) = z a0 a1 a2 r j := by
  pointwise [val_main_v13, val_main_v12, val_main_v11, val_main_v9, val_main_v10, val_main_v8, val_main_v7, val_main_v6, val_main_v4, val_main_v5, val_main_v2, val_main_v3, val_main_cst_1, val_main_v1, val_main_cst_0, val_main_cst, val_main_v0]
  rfl
theorem v14_at (r : Fin 8192) (j : Fin 1024) : val_main_v14 (F := Ideal) a0 a1 (ix2 r j) = norm a0 a1 r j := by
  pointwise [val_main_v14, val_main_v12, val_main_v11, val_main_v9, val_main_v10, val_main_v8, val_main_v7, val_main_v6, val_main_v4, val_main_v5, val_main_v2, val_main_v3, val_main_cst_1, val_main_v1, val_main_cst_0, val_main_cst, val_main_v0]
  rfl
end Cert.Norm
end
-- ==== Proof.NormArrays.lean ====
module
public import proofs.«01_k».proof.Proof.Gen.Kernel8Ideal.Value
public import proofs.«01_k».proof.Proof.NormSpec
public import Idealize.ShloMosaic.Lib.Pointwise
public import Idealize.ShloMosaic.Lib.Pipeline.ValueKit
@[expose] public section
set_option maxRecDepth 16384
noncomputable section
namespace Cert.Norm
open Idealize.ShloMosaic Idealize.ShloMosaic.TcCoe Idealize.SL.Sem Idealize.ShloMosaic.Pointwise Cert.Kernel8Ideal Cert.Kernel8Ideal.Gen
open Idealize.ShloMosaic.Pipeline (Dat)

/-- every window's block index at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

variable (m : (ℓ : Loc nD τ sig) → Buf (Elt Ideal) ℓ)

/-- Row `r` of the block of point `t`. -/
def row (t : Fin cfg0.N) (r : Fin 1024) : Fin 8192 := ⟨t.val * 1024 + r.val, by have := t.isLt; have : cfg0.N = 8 := rfl; omega⟩

theorem e_0 (c : Dev nD) (r : Fin 8192) (k : Fin 1024) : V m c main_arg0 (ix2 r k) = (m ((c : Thread nD τ).loc main_arg0)) (ix2 r k) := by
  unfold V
  simp only [hostOps0, List.flatten_cons, List.flatten_nil, List.cons_append, List.nil_append, List.append_nil]
  entry_read
  pointwise
theorem e0 (c : Dev nD) (k : Fin 1024) : V m c main_v0 (ix2 0 k) = (m ((c : Thread nD τ).loc main_arg1)) (ix1 k) := by
  unfold V
  simp only [hostOps0, List.flatten_cons, List.flatten_nil, List.cons_append, List.nil_append, List.append_nil]
  entry_read
  pointwise
theorem e2 (c : Dev nD) (j : Fin 1792) (k : Fin 1024) : V m c main_v2 (ix2 j k) = (m ((c : Thread nD τ).loc main_arg2)) (ix2 k j) := by
  unfold V
  simp only [hostOps0, List.flatten_cons, List.flatten_nil, List.cons_append, List.nil_append, List.append_nil]
  entry_read
  pointwise

theorem reads_0 (c : Dev nD) (t : Fin cfg0.N) (r : Fin 1024) (k : Fin 1024) : iblk m c 0 t (ix2 r k) = (m ((c : Thread nD τ).loc main_arg0)) (ix2 (row t r) k) := by
  refine Eq.trans ?_ (e_0 m c (row t r) k)
  blk_simp [iblk]
  blk_ext [idx t, row]
theorem reads_1 (c : Dev nD) (t : Fin cfg0.N) (k : Fin 1024) : iblk m c 1 t (ix2 0 k) = (m ((c : Thread nD τ).loc main_arg1)) (ix1 k) := by
  refine Eq.trans ?_ (e0 m c k)
  blk_simp [iblk]
  blk_ext [idx t]
theorem reads_2 (c : Dev nD) (t : Fin cfg0.N) (j : Fin 1792) (k : Fin 1024) : iblk m c 2 t (ix2 j k) = (m ((c : Thread nD τ).loc main_arg2)) (ix2 k j) := by
  refine Eq.trans ?_ (e2 m c j k)
  blk_simp [iblk]
  blk_ext [idx t]

theorem z_at (c : Dev nD) (t : Fin cfg0.N) (r : Fin 1024) (j : Fin 1792) :
    k0_pay2 (iblk m c 0 t) (iblk m c 1 t) (iblk m c 2 t) (ix2 r j) = z (m ((c : Thread nD τ).loc main_arg0)) (m ((c : Thread nD τ).loc main_arg1)) (m ((c : Thread nD τ).loc main_arg2)) (row t r) j := by
  have h0 := reads_0 m c t
  have h1 := reads_1 m c t
  have h2 := reads_2 m c t
  generalize iblk m c 0 t = x0 at h0 ⊢
  generalize iblk m c 1 t = x1 at h1 ⊢
  generalize iblk m c 2 t = x2 at h2 ⊢
  pointwise [k0_pay2, k0_pay1]
  simp only [h0, h1, h2]
  rfl
theorem norm_at (c : Dev nD) (t : Fin cfg0.N) (r : Fin 1024) (j : Fin 1024) :
    k0_pay1 (iblk m c 0 t) (iblk m c 1 t) (ix2 r j) = norm (m ((c : Thread nD τ).loc main_arg0)) (m ((c : Thread nD τ).loc main_arg1)) (row t r) j := by
  have h0 := reads_0 m c t
  have h1 := reads_1 m c t
  generalize iblk m c 0 t = x0 at h0 ⊢
  generalize iblk m c 1 t = x1 at h1 ⊢
  pointwise [k0_pay1]
  simp only [h0, h1]
  rfl

theorem emb3 (t : Fin cfg0.N) (r : Fin 1024) (j : Fin 1792) : ((cfg0.win 3).blk t).view.emb (ix2 r j) = ix2 (row t r) j := by
  blk_ext [idx t, row]
theorem emb4 (t : Fin cfg0.N) (r : Fin 1024) (j : Fin 1024) : ((cfg0.win 4).blk t).view.emb (ix2 r j) = ix2 (row t r) j := by
  blk_ext [idx t, row]

theorem final_3 (c : Dev nD) : (dats m 0 c).arrAt 3 cfg0.N = Cert.Reference8Ideal.Read.val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, j, rfl⟩ : ∃ (r : Fin 1024) (j : Fin 1792), y = ix2 r j := ⟨y 0, y 1, eq_ix2 y⟩
  rw [emb3]
  blk_simp
  rw [after0_3]
  frame_out
  exact (z_at m c t r j).trans (v13_at (m ((c : Thread nD τ).loc main_arg0)) (m ((c : Thread nD τ).loc main_arg1)) (m ((c : Thread nD τ).loc main_arg2)) (row t r) j).symm
theorem final_4 (c : Dev nD) : (dats m 0 c).arrAt 4 cfg0.N = Cert.Reference8Ideal.Read.val_main_v14 (F := Ideal) (m ((c : Thread nD τ).loc main_arg0)) (m ((c : Thread nD τ).loc main_arg1)) := by
  refine (dats m 0 c).arrAt_eq_of_covers 4 _ (by decide +kernel) fun t hf y => ?_
  obtain ⟨r, j, rfl⟩ : ∃ (r : Fin 1024) (j : Fin 1024), y = ix2 r j := ⟨y 0, y 1, eq_ix2 y⟩
  rw [emb4]
  blk_simp
  rw [after0_4]
  frame_out
  exact (norm_at m c t r j).trans (v14_at (m ((c : Thread nD τ).loc main_arg0)) (m ((c : Thread nD τ).loc main_arg1)) (row t r) j).symm
end Cert.Norm
end
-- ==== Proof.NormClaim.lean ====
module
public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.NormArrays
@[expose] public section
set_option maxRecDepth 16384
noncomputable section
namespace Cert.Norm
open Idealize.ShloMosaic Idealize.ShloMosaic.TcCoe Idealize.SL.Sem

/-- The two programs leave the same arrays. -/
theorem algebraic [Cert.Kernel8Ideal.Facts] [Cert.Reference8Ideal.Facts] : Cert.algebraic_Kernel8Ideal_Reference8Ideal := by
  intro m g m' g' _ hag
  refine ⟨fun c => Cert.Reference8Ideal.Read.val_main_v13 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
      fun c => Cert.Reference8Ideal.Read.val_main_v14 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · refine (θ_run _ _ _).mono (fun r h c => ?_) (Cert.Kernel8Ideal.Value.run_blocks (F := Ideal) m g)
    obtain ⟨h0, h1, a0, a1, a2⟩ := h c
    exact ⟨h0.trans (final_3 m c), h1.trans (final_4 m c), a0, a1, a2⟩
  · refine (θ_run _ _ _).mono (fun r h c => ?_) (Cert.Reference8Ideal.Value.run (F := Ideal) m' g')
    obtain ⟨h0, h1, a0, a1, a2⟩ := h c
    obtain ⟨e0, e1, e2⟩ := hag c
    have r0 := h0.trans (Cert.Reference8Ideal.Read.val_main_v13_eq (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)))
    rw [e0, e1, e2] at r0
    have r1 := h1.trans (Cert.Reference8Ideal.Read.val_main_v14_eq (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)))
    rw [e0, e1] at r1
    exact ⟨r0, r1, a0, a1, a2⟩
end Cert.Norm
end
-- ==== Proof.LossSpec.lean ====
module
public import proofs.«01_k».proof.Proof.Gen.Reference9Ideal.Read
public import proofs.«01_k».proof.Proof.Rms
public import Idealize.ShloMosaic.Lib.Pointwise
@[expose] public section
set_option maxRecDepth 16384
noncomputable section
namespace Cert.Loss
open Idealize.ShloMosaic Idealize.ShloMosaic.Pointwise Cert.Reference9Ideal Cert.Reference9Ideal.Read

variable (a0 : Vec Ideal S8192x1024 .f32) (a1 : Vec Ideal S1024 .f32) (a2 : Vec Ideal S8192x1024 .f32)

/-- The scale of the normalisation of row `r`. -/
def scale (r : Fin 8192) : EReal :=
  Rms.scale (Ideal.ofBits .f32 0x44800000#32) (Ideal.ofBits .f32 0x358637BD#32) (fun k : Fin 1024 => a0 (ix2 r k))

/-- The output less the target. -/
def err (r : Fin 8192) (j : Fin 1024) : EReal := a0 (ix2 r j) * scale a0 r * a1 (ix1 j) - a2 (ix2 r j)

/-- The mean square of the error in row `r`. -/
def sqAt (r : Fin 8192) : EReal :=
  Ideal.div (∑ j : Fin 1024, err a0 a1 a2 r j * err a0 a1 a2 r j) (Ideal.ofBits .f32 0x44800000#32)

/-- The loss. -/
def loss : EReal := Ideal.ofBits .f32 0x3F000000#32 * ∑ r : Fin 8192, sqAt a0 a1 a2 r

/-- The gradient of the loss by the output. -/
def derr (r : Fin 8192) (j : Fin 1024) : EReal := err a0 a1 a2 r j * Ideal.ofBits .f32 0x3A800000#32

/-- The gradient of the rows. -/
def dh (r : Fin 8192) (j : Fin 1024) : EReal :=
  Rms.fused (Ideal.ofBits .f32 0x44800000#32) (Ideal.ofBits .f32 0x358637BD#32)
    (fun k : Fin 1024 => a0 (ix2 r k)) (fun k => derr a0 a1 a2 r k * a1 (ix1 k)) j

/-- The part of row `r` in the gradient of the gain. -/
def dgAt (r : Fin 8192) (j : Fin 1024) : EReal := derr a0 a1 a2 r j * (a0 (ix2 r j) * scale a0 r)

theorem bits_half : Ideal.ofBits .f32 0x3F000000#32 = ((2⁻¹ : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_part : Ideal.ofBits .f32 0x3A800000#32 = ((1024⁻¹ : ℝ) : EReal) := by
  simp [Ideal.ofBits, Ideal.ieee, -EReal.coe_mul]; norm_num

/-- The factor that differentiating the loss collects. -/
theorem factor (x : EReal) : Ideal.div (Ideal.ofBits .f32 0x3F000000#32) (Ideal.ofBits .f32 0x44800000#32)
    * (Ideal.ofBits .f32 0x40000000#32 * x) = x * Ideal.ofBits .f32 0x3A800000#32 := by
  rw [bits_half, bits_two, bits_part, Rms.bits_1024, Rms.div_coe _ (by norm_num), ← mul_assoc, mul_comm x]
  simp only [← EReal.coe_mul]
  norm_num

theorem v16_at (r : Fin 8192) (j : Fin 1024) : val_main_v16 (F := Ideal) a0 a1 a2 (ix2 r j) = err a0 a1 a2 r j := by
  pointwise [val_main_v16, val_main_v15, val_main_v12, val_main_v14, val_main_v11, val_main_v13, val_main_v7, val_main_v6, val_main_v4, val_main_v5, val_main_v2, val_main_v3, val_main_cst_1, val_main_v1, val_main_cst_0, val_main_cst, val_main_v0]
  rfl

theorem v30_at (r : Fin 8192) (j : Fin 1024) : val_main_v30 (F := Ideal) a0 a1 a2 (ix2 r j) = derr a0 a1 a2 r j := by
  pointwise [val_main_v30, val_main_v19, val_main_v29, val_main_v18, val_main_v28, val_main_cst_3, val_main_v26, val_main_v27, val_main_v25, val_main_cst_10, val_main_cst_8, val_main_cst_9]
  rw [v16_at]
  exact factor _

theorem v35_at (r : Fin 8192) (j : Fin 1024) : val_main_v35 (F := Ideal) a0 a1 a2 (ix2 r j) = derr a0 a1 a2 r j * a1 (ix1 j) := by
  pointwise [val_main_v35, val_main_v34, val_main_v13]
  rw [v30_at]

theorem v50_at (r : Fin 8192) (j : Fin 1024) : val_main_v50 (F := Ideal) a0 a1 a2 (ix2 r j) = dh a0 a1 a2 r j := by
  pointwise [val_main_v50, val_main_v48, val_main_v49, val_main_v41, val_main_v47, val_main_v46, val_main_v40, val_main_v45, val_main_v7, val_main_cst_15, val_main_v44, val_main_v6, val_main_v42, val_main_v43, val_main_v4, val_main_v5, val_main_v10, val_main_v39, val_main_cst_14, val_main_v2, val_main_v3, val_main_cst_1, val_main_v8, val_main_v9, val_main_v38, val_main_v1, val_main_cst_0, val_main_cst_2, val_main_cst_13, val_main_v37, val_main_cst, val_main_v0]
  simp only [v35_at, Fin.sum_univ_one]
  unfold dh
  rw [Rms.fused_1024]
  rfl

theorem v51_at (j : Fin 128) : val_main_v51 (F := Ideal) a0 a1 a2 (ix2 0 j) = loss a0 a1 a2 := by
  pointwise [val_main_v51, val_main_v24, val_main_cst_7, val_main_v23, val_main_cst_6, val_main_v22, val_main_v20, val_main_v21, val_main_cst_4, val_main_v17, val_main_cst_5]
  simp only [v16_at]
  rfl

theorem v52_at (j : Fin 1024) : val_main_v52 (F := Ideal) a0 a1 a2 (ix2 0 j) = ∑ r : Fin 8192, dgAt a0 a1 a2 r j := by
  pointwise [val_main_v52, val_main_v36, val_main_cst_12, val_main_v33, val_main_v32, val_main_cst_11, val_main_v31, val_main_v12, val_main_v11, val_main_v7, val_main_v6, val_main_v4, val_main_v5, val_main_v2, val_main_v3, val_main_cst_1, val_main_v1, val_main_cst_0, val_main_cst, val_main_v0]
  simp only [Fin.sum_univ_one, v30_at]
  exact Finset.sum_congr rfl fun r _ => mul_comm _ _
end Cert.Loss
end
-- ==== Proof.LossArrays.lean ====
module
public import proofs.«01_k».proof.Proof.Gen.Kernel9Ideal.Value
public import proofs.«01_k».proof.Proof.LossSpec
public import Idealize.ShloMosaic.Lib.Pointwise
public import Idealize.ShloMosaic.Lib.Pipeline.ValueKit
public import Idealize.ShloMosaic.Lib.Pipeline.ReadBack
@[expose] public section
set_option maxRecDepth 16384
noncomputable section
namespace Cert.Loss
open Idealize.ShloMosaic Idealize.ShloMosaic.TcCoe Idealize.SL.Sem Idealize.ShloMosaic.Pointwise Cert.Kernel9Ideal Cert.Kernel9Ideal.Gen
open Idealize.ShloMosaic.Pipeline (Dat)

section
variable (x0 x2 : Vec Ideal S1024x1024 .f32) (x1 : Vec Ideal S1x1024 .f32)
variable (a0 : Vec Ideal S8192x1024 .f32) (a1 : Vec Ideal S1024 .f32) (a2 : Vec Ideal S8192x1024 .f32)

/-- The blocks of a grid point are rows `R r` of the arrays. -/
structure Reads (R : Fin 1024 → Fin 8192) : Prop where
  b0 : ∀ r k, x0 (ix2 r k) = a0 (ix2 (R r) k)
  b1 : ∀ k, x1 (ix2 0 k) = a1 (ix1 k)
  b2 : ∀ r k, x2 (ix2 r k) = a2 (ix2 (R r) k)

variable {x0 x2 x1 a0 a1 a2} {R : Fin 1024 → Fin 8192}

theorem Reads.err_at (h : Reads x0 x2 x1 a0 a1 a2 R) (r : Fin 1024) (j : Fin 1024) :
    k0_pay8 x1 x0 x2 (ix2 r j) = err a0 a1 a2 (R r) j := by
  pointwise [k0_pay8, k0_pay7, k0_pay6, k0_pay5]
  simp only [h.b0, h.b1, h.b2]
  rfl

theorem Reads.derr_at (h : Reads x0 x2 x1 a0 a1 a2 R) (r : Fin 1024) (j : Fin 1024) :
    k0_pay10 x1 x0 x2 (ix2 r j) = derr a0 a1 a2 (R r) j := by
  pointwise [k0_pay10]
  rw [h.err_at]
  rfl

theorem Reads.dh_at (h : Reads x0 x2 x1 a0 a1 a2 R) (r : Fin 1024) (j : Fin 1024) :
    k0_pay1 (k0_pay5 x1) (k0_pay6 x0) (k0_pay7 x0) (k0_pay10 x1 x0 x2) (ix2 r j) = dh a0 a1 a2 (R r) j := by
  pointwise [k0_pay1, k0_pay7, k0_pay6, k0_pay5]
  simp only [h.derr_at]
  simp only [h.b0, h.b1]
  rfl

theorem Reads.loss_at (h : Reads x0 x2 x1 a0 a1 a2 R) (v : Vec Ideal S1x128 .f32) (j : Fin 128) :
    k0_pay9 x1 x0 x2 v (ix2 0 j) = v (ix2 0 j) + Ideal.ofBits .f32 0x3F000000#32 * ∑ r : Fin 1024, sqAt a0 a1 a2 (R r) := by
  pointwise [k0_pay9]
  simp only [h.err_at]
  rfl

theorem Reads.dg_at (h : Reads x0 x2 x1 a0 a1 a2 R) (v : Vec Ideal S1x1024 .f32) (j : Fin 1024) :
    k0_pay2 (k0_pay7 x0) (k0_pay10 x1 x0 x2) v (ix2 0 j) = v (ix2 0 j) + ∑ r : Fin 1024, dgAt a0 a1 a2 (R r) j := by
  pointwise [k0_pay2, k0_pay7, k0_pay6]
  simp only [h.derr_at]
  simp only [h.b0]
  rfl
end

/-- every window's block index at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![0, 0] :=
  (by decide +kernel : ∀ t : Fin grid0.N, _)

variable (m : (ℓ : Loc nD τ sig) → Buf (Elt Ideal) ℓ)

/-- Row `r` of the block of point `t`. -/
def row (t : Fin cfg0.N) (r : Fin 1024) : Fin 8192 := ⟨t.val * 1024 + r.val, by have := t.isLt; have : cfg0.N = 8 := rfl; omega⟩

theorem e_g (c : Dev nD) (k : Fin 1024) : V m c main_v0 (ix2 0 k) = (m ((c : Thread nD τ).loc main_arg1)) (ix1 k) := by
  unfold V
  simp only [hostOps0, List.flatten_cons, List.flatten_nil, List.cons_append, List.nil_append, List.append_nil]
  entry_read
  pointwise
theorem e_arg0 (c : Dev nD) : V m c main_arg0 = (m ((c : Thread nD τ).loc main_arg0)) := V_main_arg0 m c
theorem e_arg2 (c : Dev nD) : V m c main_arg2 = (m ((c : Thread nD τ).loc main_arg2)) := V_main_arg2 m c

/-- What the blocks of point `t` hold. -/
theorem reads (c : Dev nD) (t : Fin cfg0.N) :
    Reads (iblk m c 0 t) (iblk m c 2 t) (iblk m c 1 t) (m ((c : Thread nD τ).loc main_arg0)) (m ((c : Thread nD τ).loc main_arg1)) (m ((c : Thread nD τ).loc main_arg2)) (row t) where
  b0 r k := by
    refine Eq.trans ?_ (congrFun (e_arg0 m c) _)
    blk_simp [iblk]
    blk_ext [idx t, row]
  b1 k := by
    refine Eq.trans ?_ (e_g m c k)
    blk_simp [iblk]
    blk_ext [idx t]
  b2 r k := by
    refine Eq.trans ?_ (congrFun (e_arg2 m c) _)
    blk_simp [iblk]
    blk_ext [idx t, row]

theorem emb3 (t : Fin cfg0.N) (r : Fin 1024) (j : Fin 1024) : ((cfg0.win 3).blk t).view.emb (ix2 r j) = ix2 (row t r) j := by
  blk_ext [idx t, row]

theorem final_3 (c : Dev nD) : (dats m 0 c).arrAt 3 cfg0.N = Cert.Reference9Ideal.Read.val_main_v50 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, j, rfl⟩ : ∃ (r : Fin 1024) (j : Fin 1024), y = ix2 r j := ⟨y 0, y 1, eq_ix2 y⟩
  rw [emb3]
  blk_simp
  rw [after0_3]
  refine Eq.trans ?_ (v50_at (m ((c : Thread nD τ).loc main_arg0)) (m ((c : Thread nD τ).loc main_arg1)) (m ((c : Thread nD τ).loc main_arg2)) (row t r) j).symm
  by_cases h : t.val % 8 = 0
  · rw [outsAt0_A m c t h]
    frame_out
    exact (reads m c t).dh_at r j
  · rw [outsAt0_B m c t h]
    frame_out
    exact (reads m c t).dh_at r j

theorem zero4 (j : Fin 128) : k0_pay3 (F := Ideal) (ix2 0 j) = 0 := by
  pointwise! [k0_pay3]
theorem zero5 (j : Fin 1024) : k0_pay4 (F := Ideal) (ix2 0 j) = 0 := by
  pointwise! [k0_pay4]

/-- The sum over all rows is the sum over the grid points of the sums over their blocks. -/
theorem sum_rows (f : Fin 8192 → EReal) : ∑ t : Fin cfg0.N, ∑ r : Fin 1024, f (row t r) = ∑ r : Fin 8192, f r := by
  have : cfg0.N = 8 := rfl
  rw [← Finset.sum_product']
  refine Finset.sum_nbij' (fun p => row p.1 p.2) (fun r => (⟨r.val / 1024, by have := r.isLt; omega⟩, ⟨r.val % 1024, Nat.mod_lt _ (by norm_num)⟩)) ?_ ?_ ?_ ?_ ?_
  · intros; exact Finset.mem_univ _
  · intros; exact Finset.mem_univ _
  · rintro ⟨t, r⟩ _
    refine Prod.ext (Fin.ext ?_) (Fin.ext ?_)
    · show (t.val * 1024 + r.val) / 1024 = t.val
      omega
    · show (t.val * 1024 + r.val) % 1024 = r.val
      omega
  · intro r _
    refine Fin.ext ?_
    show r.val / 1024 * 1024 + r.val % 1024 = r.val
    omega
  · intros; rfl

theorem loss_A (c : Dev nD) (t : Fin cfg0.N) (h : t.val % 8 = 0) (j : Fin 128) :
    (outsAt0 m c t.val t.isLt).2.1 (ix2 0 j) = 0 + Ideal.ofBits .f32 0x3F000000#32 * ∑ r : Fin 1024, sqAt (m ((c : Thread nD τ).loc main_arg0)) (m ((c : Thread nD τ).loc main_arg1)) (m ((c : Thread nD τ).loc main_arg2)) (row t r) := by
  rw [outsAt0_A m c t h]; frame_out
  refine ((reads m c t).loss_at _ j).trans ?_
  rw [zero4]

theorem loss_B (c : Dev nD) (t : Fin cfg0.N) (h : ¬t.val % 8 = 0) (j : Fin 128) :
    (outsAt0 m c t.val t.isLt).2.1 (ix2 0 j) = (outsAt0 m c (t.val - 1) (Nat.lt_of_le_of_lt (Nat.sub_le _ _) t.isLt)).2.1 (ix2 0 j)
      + Ideal.ofBits .f32 0x3F000000#32 * ∑ r : Fin 1024, sqAt (m ((c : Thread nD τ).loc main_arg0)) (m ((c : Thread nD τ).loc main_arg1)) (m ((c : Thread nD τ).loc main_arg2)) (row t r) := by
  rw [outsAt0_B m c t h]; frame_out
  exact (reads m c t).loss_at _ j

theorem dg_A (c : Dev nD) (t : Fin cfg0.N) (h : t.val % 8 = 0) (j : Fin 1024) :
    (outsAt0 m c t.val t.isLt).2.2 (ix2 0 j) = 0 + ∑ r : Fin 1024, dgAt (m ((c : Thread nD τ).loc main_arg0)) (m ((c : Thread nD τ).loc main_arg1)) (m ((c : Thread nD τ).loc main_arg2)) (row t r) j := by
  rw [outsAt0_A m c t h]; frame_out
  refine ((reads m c t).dg_at _ j).trans ?_
  rw [zero5]

theorem dg_B (c : Dev nD) (t : Fin cfg0.N) (h : ¬t.val % 8 = 0) (j : Fin 1024) :
    (outsAt0 m c t.val t.isLt).2.2 (ix2 0 j) = (outsAt0 m c (t.val - 1) (Nat.lt_of_le_of_lt (Nat.sub_le _ _) t.isLt)).2.2 (ix2 0 j)
      + ∑ r : Fin 1024, dgAt (m ((c : Thread nD τ).loc main_arg0)) (m ((c : Thread nD τ).loc main_arg1)) (m ((c : Thread nD τ).loc main_arg2)) (row t r) j := by
  rw [outsAt0_B m c t h]; frame_out
  exact (reads m c t).dg_at _ j

theorem final_4 (c : Dev nD) : (dats m 0 c).arrAt 4 cfg0.N = Cert.Reference9Ideal.Read.val_main_v51 (F := Ideal) (m ((c : Thread nD τ).loc main_arg0)) (m ((c : Thread nD τ).loc main_arg1)) (m ((c : Thread nD τ).loc main_arg2)) := by
  refine (dats m 0 c).arrAt_eq_of_after_last 4 t0_7 (by decide +kernel) _ fun y => ?_
  obtain ⟨j, rfl⟩ : ∃ (j : Fin 128), y = ix2 0 j := ⟨y 1, (eq_ix2 y).trans (congrArg (fun z => ix2 z (y 1)) (Subsingleton.elim (α := Fin 1) _ _))⟩
  blk_simp
  rw [after0_4, Pipeline.eq_sum_fin_of_reset_step_apply_last (fun n h => (outsAt0 m c n h).2.1) 8 (fun _ => 0)
    (fun t y => Ideal.ofBits .f32 0x3F000000#32 * ∑ r : Fin 1024, sqAt (m ((c : Thread nD τ).loc main_arg0)) (m ((c : Thread nD τ).loc main_arg1)) (m ((c : Thread nD τ).loc main_arg2)) (row t r))
    (fun t h y => by
      obtain ⟨j, rfl⟩ : ∃ (j : Fin 128), y = ix2 0 j := ⟨y 1, (eq_ix2 y).trans (congrArg (fun z => ix2 z (y 1)) (Subsingleton.elim (α := Fin 1) _ _))⟩
      exact loss_A m c t h j)
    (fun t h y => by
      obtain ⟨j, rfl⟩ : ∃ (j : Fin 128), y = ix2 0 j := ⟨y 1, (eq_ix2 y).trans (congrArg (fun z => ix2 z (y 1)) (Subsingleton.elim (α := Fin 1) _ _))⟩
      exact loss_B m c t h j)
    (le_of_eq N_0) t0_7 rfl _, zero_add]
  refine Eq.trans ?_ (v51_at (m ((c : Thread nD τ).loc main_arg0)) (m ((c : Thread nD τ).loc main_arg1)) (m ((c : Thread nD τ).loc main_arg2)) j).symm
  unfold loss
  rw [bits_half, ← Rms.coe_mul_sum _ _ (by norm_num)]
  exact congrArg _ (sum_rows fun r => sqAt (m ((c : Thread nD τ).loc main_arg0)) (m ((c : Thread nD τ).loc main_arg1)) (m ((c : Thread nD τ).loc main_arg2)) r)

theorem final_5 (c : Dev nD) : (dats m 0 c).arrAt 5 cfg0.N = Cert.Reference9Ideal.Read.val_main_v52 (F := Ideal) (m ((c : Thread nD τ).loc main_arg0)) (m ((c : Thread nD τ).loc main_arg1)) (m ((c : Thread nD τ).loc main_arg2)) := by
  refine (dats m 0 c).arrAt_eq_of_after_last 5 t0_7 (by decide +kernel) _ fun y => ?_
  obtain ⟨j, rfl⟩ : ∃ (j : Fin 1024), y = ix2 0 j := ⟨y 1, (eq_ix2 y).trans (congrArg (fun z => ix2 z (y 1)) (Subsingleton.elim (α := Fin 1) _ _))⟩
  blk_simp
  rw [after0_5, Pipeline.eq_sum_fin_of_reset_step_apply_last (fun n h => (outsAt0 m c n h).2.2) 8 (fun _ => 0)
    (fun t y => ∑ r : Fin 1024, dgAt (m ((c : Thread nD τ).loc main_arg0)) (m ((c : Thread nD τ).loc main_arg1)) (m ((c : Thread nD τ).loc main_arg2)) (row t r) (y 1))
    (fun t h y => by
      obtain ⟨j, rfl⟩ : ∃ (j : Fin 1024), y = ix2 0 j := ⟨y 1, (eq_ix2 y).trans (congrArg (fun z => ix2 z (y 1)) (Subsingleton.elim (α := Fin 1) _ _))⟩
      exact dg_A m c t h j)
    (fun t h y => by
      obtain ⟨j, rfl⟩ : ∃ (j : Fin 1024), y = ix2 0 j := ⟨y 1, (eq_ix2 y).trans (congrArg (fun z => ix2 z (y 1)) (Subsingleton.elim (α := Fin 1) _ _))⟩
      exact dg_B m c t h j)
    (le_of_eq N_0) t0_7 rfl _, zero_add]
  refine Eq.trans ?_ (v52_at (m ((c : Thread nD τ).loc main_arg0)) (m ((c : Thread nD τ).loc main_arg1)) (m ((c : Thread nD τ).loc main_arg2)) j).symm
  exact sum_rows fun r => dgAt (m ((c : Thread nD τ).loc main_arg0)) (m ((c : Thread nD τ).loc main_arg1)) (m ((c : Thread nD τ).loc main_arg2)) r j
end Cert.Loss
end
-- ==== Proof.LossClaim.lean ====
module
public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.LossArrays
@[expose] public section
set_option maxRecDepth 16384
noncomputable section
namespace Cert.Loss
open Idealize.ShloMosaic Idealize.ShloMosaic.TcCoe Idealize.SL.Sem

/-- The two programs leave the same arrays. -/
theorem algebraic [Cert.Kernel9Ideal.Facts] [Cert.Reference9Ideal.Facts] : Cert.algebraic_Kernel9Ideal_Reference9Ideal := by
  intro m g m' g' _ hag
  refine ⟨fun c => Cert.Reference9Ideal.Read.val_main_v50 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
      fun c => Cert.Reference9Ideal.Read.val_main_v51 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
      fun c => Cert.Reference9Ideal.Read.val_main_v52 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)), ?_, ?_⟩
  · refine (θ_run _ _ _).mono (fun r h c => ?_) (Cert.Kernel9Ideal.Value.run_blocks (F := Ideal) m g)
    obtain ⟨h0, h1, h2, a0, a1, a2⟩ := h c
    exact ⟨h0.trans (final_3 m c), h1.trans (final_4 m c), h2.trans (final_5 m c), a0, a1, a2⟩
  · refine (θ_run _ _ _).mono (fun r h c => ?_) (Cert.Reference9Ideal.Value.run (F := Ideal) m' g')
    obtain ⟨h0, h1, h2, a0, a1, a2⟩ := h c
    obtain ⟨e0, e1, e2⟩ := hag c
    have r0 := h0.trans (Cert.Reference9Ideal.Read.val_main_v50_eq m' c)
    rw [e0, e1, e2] at r0
    have r1 := h1.trans (Cert.Reference9Ideal.Read.val_main_v51_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)))
    rw [e0, e1, e2] at r1
    have r2 := h2.trans (Cert.Reference9Ideal.Read.val_main_v52_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)))
    rw [e0, e1, e2] at r2
    exact ⟨r0, r1, r2, a0, a1, a2⟩
end Cert.Loss
end
-- ==== Proof.DwInSpec.lean ====
module
public import proofs.«01_k».proof.Proof.Gen.Reference10Ideal.Read
public import Idealize.ShloMosaic.Lib.Pointwise
@[expose] public section
set_option maxRecDepth 16384
noncomputable section
namespace Cert.DwIn
open Idealize.ShloMosaic Idealize.ShloMosaic.Pointwise Cert.Reference10Ideal Cert.Reference10Ideal.Read

variable (a0 : Vec Ideal S8192x1792 .f32) (a1 : Vec Ideal S8192x1024 .f32) (a2 : Vec Ideal S1024 .f32)

/-- The normalised row `r`. -/
def hn (r : Fin 8192) (j : Fin 1024) : EReal :=
  a1 (ix2 r j) * Ideal.rsqrt (Ideal.div (∑ k : Fin 1024, a1 (ix2 r k) * a1 (ix2 r k)) (Ideal.ofBits .f32 0x44800000#32)
    + Ideal.ofBits .f32 0x358637BD#32) * a2 (ix1 j)

/-- The part of row `r` in the gradient of the projection's weights. -/
def dwAt (r : Fin 8192) (k : Fin 1792) (j : Fin 1024) : EReal := a0 (ix2 r k) * hn a1 a2 r j

theorem v18_at (d : Fin 8) (k : Fin 224) (j : Fin 1024) :
    val_main_v18 (F := Ideal) a0 a1 a2 (ix3 d k j) = ∑ r : Fin 8192, dwAt a0 a1 a2 r ⟨d.val * 224 + k.val, by omega⟩ j := by
  pointwise [val_main_v18, val_main_v17, val_main_v16, val_main_v15, val_main_v13, val_main_v10, val_main_v12, val_main_v9, val_main_v11, val_main_v8, val_main_v7, val_main_v5, val_main_v6, val_main_v3, val_main_v4, val_main_cst_2, val_main_v2, val_main_cst_1, val_main_cst_0, val_main_v1]
  rfl

theorem v19_at (d : Fin 8) (k : Fin 224) (j : Fin 1024) :
    val_main_v19 (F := Ideal) a0 a1 a2 (ix3 d k j) = ∑ r : Fin 8192, dwAt a0 a1 a2 r ⟨d.val * 224 + k.val, by omega⟩ j := by
  pointwise [val_main_v19]
  exact v18_at a0 a1 a2 d k j
end Cert.DwIn
end
-- ==== Proof.DwInArrays.lean ====
module
public import proofs.«01_k».proof.Proof.Gen.Kernel10Ideal.Value
public import proofs.«01_k».proof.Proof.DwInSpec
public import Idealize.ShloMosaic.Lib.Pointwise
public import Idealize.ShloMosaic.Lib.Pipeline.ValueKit
public import Idealize.ShloMosaic.Lib.Pipeline.ReadBack
@[expose] public section
set_option maxRecDepth 16384
noncomputable section
namespace Cert.DwIn
open Idealize.ShloMosaic Idealize.ShloMosaic.TcCoe Idealize.SL.Sem Idealize.ShloMosaic.Pointwise Cert.Kernel10Ideal Cert.Kernel10Ideal.Gen
open Idealize.ShloMosaic.Pipeline (Dat)

/-- every window's block index at every grid point. -/
theorem idx : ∀ t : Fin cfg0.N, win0_0.index t = ![t.val, 0]
    ∧ win0_1.index t = ![t.val, 0]
    ∧ win0_2.index t = ![0, 0, 0]
    ∧ win0_3.index t = ![0, 0, 0] :=
  (by decide +kernel : ∀ t : Fin grid0.N, _)

variable (m : (ℓ : Loc nD τ sig) → Buf (Elt Ideal) ℓ)

/-- Row `r` of the block of point `t`. -/
def row (t : Fin cfg0.N) (r : Fin 1024) : Fin 8192 := ⟨t.val * 1024 + r.val, by have := t.isLt; have : cfg0.N = 8 := rfl; omega⟩

theorem e14 (c : Dev nD) (r : Fin 8192) (k : Fin 1792) : V m c main_v14 (ix2 r k) = (m ((c : Thread nD τ).loc main_arg0)) (ix2 r k) := by
  unfold V
  simp only [hostOps0, List.flatten_cons, List.flatten_nil, List.cons_append, List.nil_append, List.append_nil]
  entry_read
  pointwise
theorem e13 (c : Dev nD) (r : Fin 8192) (j : Fin 1024) : V m c main_v13 (ix2 r j) = hn (m ((c : Thread nD τ).loc main_arg1)) (m ((c : Thread nD τ).loc main_arg2)) r j := by
  unfold V
  simp only [hostOps0, List.flatten_cons, List.flatten_nil, List.cons_append, List.nil_append, List.append_nil]
  entry_read
  pointwise
  rfl

theorem reads_0 (c : Dev nD) (t : Fin cfg0.N) (r : Fin 1024) (k : Fin 1792) :
    iblk m c 0 t (ix2 r k) = (m ((c : Thread nD τ).loc main_arg0)) (ix2 (row t r) k) := by
  refine Eq.trans ?_ (e14 m c (row t r) k)
  blk_simp [iblk]
  blk_ext [idx t, row]
theorem reads_1 (c : Dev nD) (t : Fin cfg0.N) (r : Fin 1024) (j : Fin 1024) :
    iblk m c 1 t (ix2 r j) = hn (m ((c : Thread nD τ).loc main_arg1)) (m ((c : Thread nD τ).loc main_arg2)) (row t r) j := by
  refine Eq.trans ?_ (e13 m c (row t r) j)
  blk_simp [iblk]
  blk_ext [idx t, row]

/-- The part of the rows of point `t`'s blocks in the gradient. -/
def part (c : Dev nD) (t : Fin cfg0.N) (k : Fin 1792) (j : Fin 1024) : EReal :=
  ∑ r : Fin 1024, dwAt (m ((c : Thread nD τ).loc main_arg0)) (m ((c : Thread nD τ).loc main_arg1)) (m ((c : Thread nD τ).loc main_arg2)) (row t r) k j

theorem pay_at (c : Dev nD) (t : Fin cfg0.N) (v : Vec Ideal S1792x1024 .f32) (k : Fin 1792) (j : Fin 1024) :
    k0_pay2 v (iblk m c 0 t) (iblk m c 1 t) (ix2 k j) = v (ix2 k j) + part m c t k j := by
  have h0 := reads_0 m c t
  have h1 := reads_1 m c t
  generalize iblk m c 0 t = x0 at h0 ⊢
  generalize iblk m c 1 t = x1 at h1 ⊢
  pointwise [k0_pay2]
  simp only [h0, h1]
  rfl

theorem zero_at (k : Fin 1792) (j : Fin 1024) : k0_pay1 (F := Ideal) (ix2 k j) = 0 := by
  pointwise! [k0_pay1]

theorem acc_A (c : Dev nD) (t : Fin cfg0.N) (h : t.val % 8 = 0) (k : Fin 1792) (j : Fin 1024) :
    (outsAt0 m c t.val t.isLt).2.2 (ix2 k j) = 0 + part m c t k j := by
  rw [outsAt0_A m c t h (by omega)]; frame_out
  refine (pay_at m c t _ k j).trans ?_
  rw [zero_at]

theorem acc_B (c : Dev nD) (t : Fin cfg0.N) (h : ¬t.val % 8 = 0) (k : Fin 1792) (j : Fin 1024) :
    (outsAt0 m c t.val t.isLt).2.2 (ix2 k j) = (outsAt0 m c (t.val - 1) (Nat.lt_of_le_of_lt (Nat.sub_le _ _) t.isLt)).2.2 (ix2 k j)
      + part m c t k j := by
  by_cases h' : t.val % 8 = 7
  · rw [outsAt0_C m c t h h']; frame_out; rw [read_unread_whole]
    exact pay_at m c t _ k j
  · rw [outsAt0_B m c t h h']; frame_out; rw [read_unread_whole]
    exact pay_at m c t _ k j

/-- The sum over all rows is the sum over the grid points of the sums over their blocks. -/
theorem sum_rows (f : Fin 8192 → EReal) : ∑ t : Fin cfg0.N, ∑ r : Fin 1024, f (row t r) = ∑ r : Fin 8192, f r := by
  have : cfg0.N = 8 := rfl
  rw [← Finset.sum_product']
  refine Finset.sum_nbij' (fun p => row p.1 p.2) (fun r => (⟨r.val / 1024, by have := r.isLt; omega⟩, ⟨r.val % 1024, Nat.mod_lt _ (by norm_num)⟩)) ?_ ?_ ?_ ?_ ?_
  · intros; exact Finset.mem_univ _
  · intros; exact Finset.mem_univ _
  · rintro ⟨t, r⟩ _
    refine Prod.ext (Fin.ext ?_) (Fin.ext ?_)
    · show (t.val * 1024 + r.val) / 1024 = t.val
      omega
    · show (t.val * 1024 + r.val) % 1024 = r.val
      omega
  · intro r _
    refine Fin.ext ?_
    show r.val / 1024 * 1024 + r.val % 1024 = r.val
    omega
  · intros; rfl

/-- What the accumulator holds after the last point. -/
theorem acc_last (c : Dev nD) (k : Fin 1792) (j : Fin 1024) :
    (outsAt0 m c t0_7.val t0_7.isLt).2.2 (ix2 k j) = ∑ r : Fin 8192, dwAt (m ((c : Thread nD τ).loc main_arg0)) (m ((c : Thread nD τ).loc main_arg1)) (m ((c : Thread nD τ).loc main_arg2)) r k j := by
  rw [Pipeline.eq_sum_fin_of_reset_step_apply_last (fun n h => (outsAt0 m c n h).2.2) 8 (fun _ => 0)
    (fun t y => part m c t (y 0) (y 1))
    (fun t h y => by
      obtain ⟨k, j, rfl⟩ : ∃ (k : Fin 1792) (j : Fin 1024), y = ix2 k j := ⟨y 0, y 1, eq_ix2 y⟩
      exact acc_A m c t h k j)
    (fun t h y => by
      obtain ⟨k, j, rfl⟩ : ∃ (k : Fin 1792) (j : Fin 1024), y = ix2 k j := ⟨y 0, y 1, eq_ix2 y⟩
      exact acc_B m c t h k j)
    (le_of_eq N_0) t0_7 rfl _, zero_add]
  exact sum_rows fun r => dwAt (m ((c : Thread nD τ).loc main_arg0)) (m ((c : Thread nD τ).loc main_arg1)) (m ((c : Thread nD τ).loc main_arg2)) r k j

/-- A row of the accumulator, counted through the eight slabs. -/
def slabRow (d : Fin 8) (k : Fin 224) : Fin 1792 := ⟨d.val * 224 + k.val, by omega⟩

/-- A load from the accumulator after it has been written whole. -/
theorem acc_read (A : Vec Ideal S1792x1024 .f32) (r : Rect S1792x1024) :
    (View.whole cc0_scratch0).readCov [⟨Rect.unit ![0, 0] ![1792, 1024] inb_S1792x1024_S1792x1024_0_0, A⟩] r.toLoadRect = View.ld A r := by
  rw [View.readCov_eq_canon']
  funext i
  exact congrFun (View.canon_cons_unit_lit' (Val := Elt Ideal) inb_S1792x1024_S1792x1024_0_0 A [] (by decide)) _

theorem slabs (A : Vec Ideal S1792x1024 .f32) (d : Fin 8) (k : Fin 224) (j : Fin 1024) :
    View.canon
      [⟨Rect.unit ![7, 0, 0] ![1, 224, 1024] inb_S8x224x1024_S1x224x1024_7_0_0,
          k0_pay4 (View.ld A (Rect.unit ![1568, 0] ![224, 1024] inb_S1792x1024_S224x1024_1568_0))⟩,
        ⟨Rect.unit ![6, 0, 0] ![1, 224, 1024] inb_S8x224x1024_S1x224x1024_6_0_0,
          k0_pay18 (View.ld A (Rect.unit ![1344, 0] ![224, 1024] inb_S1792x1024_S224x1024_1344_0))⟩,
        ⟨Rect.unit ![5, 0, 0] ![1, 224, 1024] inb_S8x224x1024_S1x224x1024_5_0_0,
          k0_pay16 (View.ld A (Rect.unit ![1120, 0] ![224, 1024] inb_S1792x1024_S224x1024_1120_0))⟩,
        ⟨Rect.unit ![4, 0, 0] ![1, 224, 1024] inb_S8x224x1024_S1x224x1024_4_0_0,
          k0_pay14 (View.ld A (Rect.unit ![896, 0] ![224, 1024] inb_S1792x1024_S224x1024_896_0))⟩,
        ⟨Rect.unit ![3, 0, 0] ![1, 224, 1024] inb_S8x224x1024_S1x224x1024_3_0_0,
          k0_pay12 (View.ld A (Rect.unit ![672, 0] ![224, 1024] inb_S1792x1024_S224x1024_672_0))⟩,
        ⟨Rect.unit ![2, 0, 0] ![1, 224, 1024] inb_S8x224x1024_S1x224x1024_2_0_0,
          k0_pay10 (View.ld A (Rect.unit ![448, 0] ![224, 1024] inb_S1792x1024_S224x1024_448_0))⟩,
        ⟨Rect.unit ![1, 0, 0] ![1, 224, 1024] inb_S8x224x1024_S1x224x1024_1_0_0,
          k0_pay8 (View.ld A (Rect.unit ![224, 0] ![224, 1024] inb_S1792x1024_S224x1024_224_0))⟩,
        ⟨Rect.unit ![0, 0, 0] ![1, 224, 1024] inb_S8x224x1024_S1x224x1024_0_0_0,
          k0_pay6 (View.ld A (Rect.unit ![0, 0] ![224, 1024] inb_S1792x1024_S224x1024_0_0))⟩]
      (ix3 d k j) = A (ix2 (slabRow d k) j) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · dsimp only [slabRow]
      omega
    · exact h2'.symm

theorem final_2 (c : Dev nD) : (dats m 0 c).arrAt 2 cfg0.N = Cert.Reference10Ideal.Read.val_main_v18 (F := Ideal) (m ((c : Thread nD τ).loc main_arg0)) (m ((c : Thread nD τ).loc main_arg1)) (m ((c : Thread nD τ).loc main_arg2)) := by
  refine (dats m 0 c).arrAt_eq_of_after_last 2 t0_7 (by decide +kernel) _ fun y => ?_
  obtain ⟨d, k, j, rfl⟩ : ∃ (d : Fin 8) (k : Fin 224) (j : Fin 1024), y = ix3 d k j := ⟨y 0, y 1, y 2, eq_ix3 y⟩
  blk_simp
  refine Eq.trans ?_ (v18_at (m ((c : Thread nD τ).loc main_arg0)) (m ((c : Thread nD τ).loc main_arg1)) (m ((c : Thread nD τ).loc main_arg2)) d k j).symm
  rw [after0_2, outsAt0_C m c t0_7 (by decide) (by decide)]
  refine Eq.trans ?_ (acc_last m c ⟨d.val * 224 + k.val, by omega⟩ j)
  rw [outsAt0_C m c t0_7 (by decide) (by decide)]
  frame_out
  rw [read_unread_whole]
  generalize k0_pay2 (F := Ideal) _ _ _ = A
  simp only [acc_read A]
  exact slabs A d k j
theorem slabs16 (A : Vec Ideal S1792x1024 .f32) (d : Fin 8) (k : Fin 224) (j : Fin 1024) :
    View.canon
      [⟨Rect.unit ![7, 0, 0] ![1, 224, 1024] inb_S8x224x1024_S1x224x1024_7_0_0,
          k0_pay5 (View.ld A (Rect.unit ![1568, 0] ![224, 1024] inb_S1792x1024_S224x1024_1568_0))⟩,
        ⟨Rect.unit ![6, 0, 0] ![1, 224, 1024] inb_S8x224x1024_S1x224x1024_6_0_0,
          k0_pay3 (k0_pay19 (View.ld A (Rect.unit ![1344, 0] ![224, 1024] inb_S1792x1024_S224x1024_1344_0)))⟩,
        ⟨Rect.unit ![5, 0, 0] ![1, 224, 1024] inb_S8x224x1024_S1x224x1024_5_0_0,
          k0_pay17 (View.ld A (Rect.unit ![1120, 0] ![224, 1024] inb_S1792x1024_S224x1024_1120_0))⟩,
        ⟨Rect.unit ![4, 0, 0] ![1, 224, 1024] inb_S8x224x1024_S1x224x1024_4_0_0,
          k0_pay15 (View.ld A (Rect.unit ![896, 0] ![224, 1024] inb_S1792x1024_S224x1024_896_0))⟩,
        ⟨Rect.unit ![3, 0, 0] ![1, 224, 1024] inb_S8x224x1024_S1x224x1024_3_0_0,
          k0_pay13 (View.ld A (Rect.unit ![672, 0] ![224, 1024] inb_S1792x1024_S224x1024_672_0))⟩,
        ⟨Rect.unit ![2, 0, 0] ![1, 224, 1024] inb_S8x224x1024_S1x224x1024_2_0_0,
          k0_pay11 (View.ld A (Rect.unit ![448, 0] ![224, 1024] inb_S1792x1024_S224x1024_448_0))⟩,
        ⟨Rect.unit ![1, 0, 0] ![1, 224, 1024] inb_S8x224x1024_S1x224x1024_1_0_0,
          k0_pay9 (View.ld A (Rect.unit ![224, 0] ![224, 1024] inb_S1792x1024_S224x1024_224_0))⟩,
        ⟨Rect.unit ![0, 0, 0] ![1, 224, 1024] inb_S8x224x1024_S1x224x1024_0_0_0,
          k0_pay7 (View.ld A (Rect.unit ![0, 0] ![224, 1024] inb_S1792x1024_S224x1024_0_0))⟩]
      (ix3 d k j) = A (ix2 (slabRow d k) j) := by
  canon_tiles x h
  all_goals
    open_payloads
    have h0' : d.val = _ := h0
    have h1' : k.val = _ := h1
    have h2' : j.val = _ := h2
    have x0' : (x 0).val < 1 := x0_lt
    pointwise []
    refine congrArg A (congrArg₂ ix2 (Fin.ext ?_) (Fin.ext ?_))
    · dsimp only [slabRow]
      omega
    · exact h2'.symm

theorem final_3 (c : Dev nD) : (dats m 0 c).arrAt 3 cfg0.N = Cert.Reference10Ideal.Read.val_main_v19 (F := Ideal) (m ((c : Thread nD τ).loc main_arg0)) (m ((c : Thread nD τ).loc main_arg1)) (m ((c : Thread nD τ).loc main_arg2)) := by
  refine (dats m 0 c).arrAt_eq_of_after_last 3 t0_7 (by decide +kernel) _ fun y => ?_
  obtain ⟨d, k, j, rfl⟩ : ∃ (d : Fin 8) (k : Fin 224) (j : Fin 1024), y = ix3 d k j := ⟨y 0, y 1, y 2, eq_ix3 y⟩
  blk_simp
  refine Eq.trans ?_ (v19_at (m ((c : Thread nD τ).loc main_arg0)) (m ((c : Thread nD τ).loc main_arg1)) (m ((c : Thread nD τ).loc main_arg2)) d k j).symm
  rw [after0_3, outsAt0_C m c t0_7 (by decide) (by decide)]
  refine Eq.trans ?_ (acc_last m c ⟨d.val * 224 + k.val, by omega⟩ j)
  rw [outsAt0_C m c t0_7 (by decide) (by decide)]
  frame_out
  rw [read_unread_whole]
  generalize k0_pay2 (F := Ideal) _ _ _ = A
  simp only [acc_read A]
  exact slabs16 A d k j
end Cert.DwIn
end
-- ==== Proof.DwInClaim.lean ====
module
public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.DwInArrays
@[expose] public section
set_option maxRecDepth 16384
noncomputable section
namespace Cert.DwIn
open Idealize.ShloMosaic Idealize.ShloMosaic.TcCoe Idealize.SL.Sem

/-- The two programs leave the same arrays. -/
theorem algebraic [Cert.Kernel10Ideal.Facts] [Cert.Reference10Ideal.Facts] : Cert.algebraic_Kernel10Ideal_Reference10Ideal := by
  intro m g m' g' _ hag
  refine ⟨fun c => Cert.Reference10Ideal.Read.val_main_v18 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
      fun c => Cert.Reference10Ideal.Read.val_main_v19 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)), ?_, ?_⟩
  · refine (θ_run _ _ _).mono (fun r h c => ?_) (Cert.Kernel10Ideal.Value.run_blocks (F := Ideal) m g)
    obtain ⟨h0, h1, a0, a1, a2⟩ := h c
    exact ⟨h0.trans (final_2 m c), h1.trans (final_3 m c), a0, a1, a2⟩
  · refine (θ_run _ _ _).mono (fun r h c => ?_) (Cert.Reference10Ideal.Value.run (F := Ideal) m' g')
    obtain ⟨h0, h1, a0, a1, a2⟩ := h c
    obtain ⟨e0, e1, e2⟩ := hag c
    have r0 := h0.trans (Cert.Reference10Ideal.Read.val_main_v18_eq (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)))
    rw [e0, e1, e2] at r0
    have r1 := h1.trans (Cert.Reference10Ideal.Read.val_main_v19_eq (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)))
    rw [e0, e1, e2] at r1
    exact ⟨r0, r1, a0, a1, a2⟩
end Cert.DwIn
end
-- ==== Proof.ProjFirstSpec.lean ====
module
public import proofs.«01_k».proof.Proof.Gen.Reference11Ideal.Read
public import proofs.«01_k».proof.Proof.Rms
public import Idealize.ShloMosaic.Lib.Pointwise
@[expose] public section
set_option maxRecDepth 16384
noncomputable section
namespace Cert.ProjFirst
open Idealize.ShloMosaic Idealize.ShloMosaic.Pointwise Cert.Reference11Ideal Cert.Reference11Ideal.Read

variable (a0 : Vec Ideal S8192x1792 .f32) (a1 a2 : Vec Ideal S8192x1024 .f32) (a3 : Vec Ideal S1024 .f32) (a4 : Vec Ideal S1024x1792 .f32)

/-- The scale of the normalisation of row `r`. -/
def scale (r : Fin 8192) : EReal :=
  Rms.scale (Ideal.ofBits .f32 0x44800000#32) (Ideal.ofBits .f32 0x358637BD#32) (fun k : Fin 1024 => a1 (ix2 r k))

/-- The gradient of the normalised rows. -/
def dhn (r : Fin 8192) (j : Fin 1024) : EReal := ∑ x : Fin 1792, a0 (ix2 r x) * a4 (ix2 j x)

/-- The gradient of the rows. -/
def dh (r : Fin 8192) (j : Fin 1024) : EReal :=
  a2 (ix2 r j) + Rms.fused (Ideal.ofBits .f32 0x44800000#32) (Ideal.ofBits .f32 0x358637BD#32)
    (fun k : Fin 1024 => a1 (ix2 r k)) (fun k => dhn a0 a4 r k * a3 (ix1 k)) j

/-- The part of row `r` in the gradient of the gain. -/
def dgAt (r : Fin 8192) (j : Fin 1024) : EReal := dhn a0 a4 r j * (a1 (ix2 r j) * scale a1 r)

theorem v22_at (r : Fin 8192) (j : Fin 1024) : val_main_v22 (F := Ideal) a0 a3 a4 (ix2 r j) = dhn a0 a4 r j * a3 (ix1 j) := by
  pointwise [val_main_v22, val_main_v17, val_main_v21, val_main_v13]
  rfl

theorem v38_at (r : Fin 8192) (j : Fin 1024) : val_main_v38 (F := Ideal) a0 a1 a2 a3 a4 (ix2 r j) = dh a0 a1 a2 a3 a4 r j := by
  pointwise [val_main_v38, val_main_v36, val_main_v37, val_main_v29, val_main_v35, val_main_v34, val_main_v28, val_main_v33, val_main_v27, val_main_cst_7, val_main_v32, val_main_v7, val_main_v30, val_main_v31, val_main_v6, val_main_v10, val_main_v26, val_main_cst_6, val_main_v4, val_main_v5, val_main_v8, val_main_v9, val_main_v25, val_main_v2, val_main_v3, val_main_cst_1, val_main_cst_2, val_main_cst_5, val_main_v24, val_main_v1, val_main_cst_0, val_main_cst, val_main_v0]
  simp only [v22_at, Fin.sum_univ_one]
  unfold dh
  rw [Rms.fused_1024, ← add_assoc, ← add_assoc]
  rfl

theorem v39_at (j : Fin 1024) : val_main_v39 (F := Ideal) a0 a1 a4 (ix2 0 j) = ∑ r : Fin 8192, dgAt a0 a1 a4 r j := by
  pointwise [val_main_v39, val_main_v23, val_main_cst_4, val_main_v20, val_main_v19, val_main_cst_3, val_main_v18, val_main_v12, val_main_v17, val_main_v11, val_main_v7, val_main_v6, val_main_v4, val_main_v5, val_main_v2, val_main_v3, val_main_cst_1, val_main_v1, val_main_cst_0, val_main_cst, val_main_v0]
  simp only [Fin.sum_univ_one]
  exact Finset.sum_congr rfl fun r _ => mul_comm _ _

end Cert.ProjFirst
end
-- ==== Proof.ProjFirstArrays.lean ====
module
public import proofs.«01_k».proof.Proof.Gen.Kernel11Ideal.Value
public import proofs.«01_k».proof.Proof.ProjFirstSpec
public import Idealize.ShloMosaic.Lib.Pointwise
public import Idealize.ShloMosaic.Lib.Pipeline.ValueKit
public import Idealize.ShloMosaic.Lib.Pipeline.ReadBack
@[expose] public section
set_option maxRecDepth 16384
noncomputable section
namespace Cert.ProjFirst
open Idealize.ShloMosaic Idealize.ShloMosaic.TcCoe Idealize.SL.Sem Idealize.ShloMosaic.Pointwise Cert.Kernel11Ideal Cert.Kernel11Ideal.Gen
open Idealize.ShloMosaic.Pipeline (Dat)

section
variable (x0 : Vec Ideal S1024x1792 .bf16) (x1 x2 : Vec Ideal S1024x1024 .f32) (x3 : Vec Ideal S1x1024 .f32)
  (x4 : Vec Ideal S1792x1024 .bf16)
variable (a0 : Vec Ideal S8192x1792 .f32) (a1 a2 : Vec Ideal S8192x1024 .f32) (a3 : Vec Ideal S1024 .f32) (a4 : Vec Ideal S1024x1792 .f32)

/-- The blocks of a grid point are rows `R r` of the arrays. -/
structure Reads (R : Fin 1024 → Fin 8192) : Prop where
  h0 : ∀ r k, x0 (ix2 r k) = a0 (ix2 (R r) k)
  h1 : ∀ r k, x1 (ix2 r k) = a1 (ix2 (R r) k)
  h2 : ∀ r k, x2 (ix2 r k) = a2 (ix2 (R r) k)
  h3 : ∀ k, x3 (ix2 0 k) = a3 (ix1 k)
  h4 : ∀ k j, x4 (ix2 k j) = a4 (ix2 j k)

variable {x0 x1 x2 x3 x4 a0 a1 a2 a3 a4} {R : Fin 1024 → Fin 8192}

theorem Reads.dh_at (h : Reads x0 x1 x2 x3 x4 a0 a1 a2 a3 a4 R) (r : Fin 1024) (j : Fin 1024) :
    k0_pay1 (k0_pay6 x0 x4 x1 x3) x2 (ix2 r j) = dh a0 a1 a2 a3 a4 (R r) j := by
  pointwise [k0_pay1, k0_pay6, k0_pay5, k0_pay4, k0_pay3]
  simp only [h.h0, h.h1, h.h2, h.h3, h.h4]
  rfl

theorem Reads.dg_at (h : Reads x0 x1 x2 x3 x4 a0 a1 a2 a3 a4 R) (v : Vec Ideal S1x1024 .f32) (j : Fin 1024) :
    k0_pay7 x0 x4 x1 v (ix2 0 j) = v (ix2 0 j) + ∑ r : Fin 1024, dgAt a0 a1 a4 (R r) j := by
  pointwise [k0_pay7, k0_pay5, k0_pay4, k0_pay3]
  simp only [h.h0, h.h1, h.h4]
  rfl

end

/-- every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_6.index t = ![t.val, 0]
    ∧ win0_7.index t = ![0, 0] :=
  (by decide +kernel : ∀ t : Fin grid0.N, _)

variable (m : (ℓ : Loc nD τ sig) → Buf (Elt Ideal) ℓ)

/-- Row `r` of the block of point `t`. -/
def row (t : Fin cfg0.N) (r : Fin 1024) : Fin 8192 := ⟨t.val * 1024 + r.val, by have := t.isLt; have : cfg0.N = 8 := rfl; omega⟩

theorem e_dz (c : Dev nD) (r : Fin 8192) (k : Fin 1792) : V m c main_v3 (ix2 r k) = (m ((c : Thread nD τ).loc main_arg0)) (ix2 r k) := by
  unfold V
  simp only [hostOps0, List.flatten_cons, List.flatten_nil, List.cons_append, List.nil_append, List.append_nil]
  entry_read
  pointwise
theorem e_g (c : Dev nD) (k : Fin 1024) : V m c main_v4 (ix2 0 k) = (m ((c : Thread nD τ).loc main_arg3)) (ix1 k) := by
  unfold V
  simp only [hostOps0, List.flatten_cons, List.flatten_nil, List.cons_append, List.nil_append, List.append_nil]
  entry_read
  pointwise
theorem e1 (c : Dev nD) (k : Fin 1792) (j : Fin 1024) : V m c main_v1 (ix2 k j) = (m ((c : Thread nD τ).loc main_arg4)) (ix2 j k) := by
  unfold V
  simp only [hostOps0, List.flatten_cons, List.flatten_nil, List.cons_append, List.nil_append, List.append_nil]
  entry_read
  pointwise
theorem e_arg1 (c : Dev nD) : V m c main_arg1 = (m ((c : Thread nD τ).loc main_arg1)) := V_main_arg1 m c
theorem e_arg2 (c : Dev nD) : V m c main_arg2 = (m ((c : Thread nD τ).loc main_arg2)) := V_main_arg2 m c

/-- What the blocks of point `t` hold. -/
theorem reads (c : Dev nD) (t : Fin cfg0.N) :
    Reads (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (m ((c : Thread nD τ).loc main_arg4)) (row t) where
  h0 r k := by
    refine Eq.trans ?_ (e_dz m c (row t r) k)
    blk_simp [iblk]
    blk_ext [idx t, row]
  h1 r k := by
    refine Eq.trans ?_ (congrFun (e_arg1 m c) _)
    blk_simp [iblk]
    blk_ext [idx t, row]
  h2 r k := by
    refine Eq.trans ?_ (congrFun (e_arg2 m c) _)
    blk_simp [iblk]
    blk_ext [idx t, row]
  h3 k := by
    refine Eq.trans ?_ (e_g m c k)
    blk_simp [iblk]
    blk_ext [idx t]
  h4 k j := by
    refine Eq.trans ?_ (e1 m c k j)
    blk_simp [iblk]
    blk_ext [idx t]

theorem emb6 (t : Fin cfg0.N) (r : Fin 1024) (j : Fin 1024) : ((cfg0.win 6).blk t).view.emb (ix2 r j) = ix2 (row t r) j := by
  blk_ext [idx t, row]

theorem final_6 (c : Dev nD) : (dats m 0 c).arrAt 6 cfg0.N = Cert.Reference11Ideal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨r, j, rfl⟩ : ∃ (r : Fin 1024) (j : Fin 1024), y = ix2 r j := ⟨y 0, y 1, eq_ix2 y⟩
  rw [emb6]
  blk_simp
  rw [after0_6]
  refine Eq.trans ?_ (v38_at (m ((c : Thread nD τ).loc main_arg0)) (m ((c : Thread nD τ).loc main_arg1)) (m ((c : Thread nD τ).loc main_arg2)) (m ((c : Thread nD τ).loc main_arg3)) (m ((c : Thread nD τ).loc main_arg4)) (row t r) j).symm
  by_cases h : t.val % 8 = 0
  · rw [outsAt0_A m c t h]
    frame_out
    exact (reads m c t).dh_at r j
  · rw [outsAt0_B m c t h]
    frame_out
    exact (reads m c t).dh_at r j

theorem zero7 (j : Fin 1024) : k0_pay2 (F := Ideal) (ix2 0 j) = 0 := by
  pointwise! [k0_pay2]
/-- The sum over all rows is the sum over the grid points of the sums over their blocks. -/
theorem sum_rows (f : Fin 8192 → EReal) : ∑ t : Fin cfg0.N, ∑ r : Fin 1024, f (row t r) = ∑ r : Fin 8192, f r := by
  have : cfg0.N = 8 := rfl
  rw [← Finset.sum_product']
  refine Finset.sum_nbij' (fun p => row p.1 p.2) (fun r => (⟨r.val / 1024, by have := r.isLt; omega⟩, ⟨r.val % 1024, Nat.mod_lt _ (by norm_num)⟩)) ?_ ?_ ?_ ?_ ?_
  · intros; exact Finset.mem_univ _
  · intros; exact Finset.mem_univ _
  · rintro ⟨t, r⟩ _
    refine Prod.ext (Fin.ext ?_) (Fin.ext ?_)
    · show (t.val * 1024 + r.val) / 1024 = t.val
      omega
    · show (t.val * 1024 + r.val) % 1024 = r.val
      omega
  · intro r _
    refine Fin.ext ?_
    show r.val / 1024 * 1024 + r.val % 1024 = r.val
    omega
  · intros; rfl

theorem dg_A (c : Dev nD) (t : Fin cfg0.N) (h : t.val % 8 = 0) (j : Fin 1024) :
    (outsAt0 m c t.val t.isLt).2 (ix2 0 j) = 0 + ∑ r : Fin 1024, dgAt (m ((c : Thread nD τ).loc main_arg0)) (m ((c : Thread nD τ).loc main_arg1)) (m ((c : Thread nD τ).loc main_arg4)) (row t r) j := by
  rw [outsAt0_A m c t h]; frame_out
  refine ((reads m c t).dg_at _ j).trans ?_
  rw [zero7]

theorem dg_B (c : Dev nD) (t : Fin cfg0.N) (h : ¬t.val % 8 = 0) (j : Fin 1024) :
    (outsAt0 m c t.val t.isLt).2 (ix2 0 j) = (outsAt0 m c (t.val - 1) (Nat.lt_of_le_of_lt (Nat.sub_le _ _) t.isLt)).2 (ix2 0 j)
      + ∑ r : Fin 1024, dgAt (m ((c : Thread nD τ).loc main_arg0)) (m ((c : Thread nD τ).loc main_arg1)) (m ((c : Thread nD τ).loc main_arg4)) (row t r) j := by
  rw [outsAt0_B m c t h]; frame_out
  exact (reads m c t).dg_at _ j

theorem final_7 (c : Dev nD) : (dats m 0 c).arrAt 7 cfg0.N = Cert.Reference11Ideal.Read.val_main_v39 (F := Ideal) (m ((c : Thread nD τ).loc main_arg0)) (m ((c : Thread nD τ).loc main_arg1)) (m ((c : Thread nD τ).loc main_arg4)) := by
  refine (dats m 0 c).arrAt_eq_of_after_last 7 t0_7 (by decide +kernel) _ fun y => ?_
  obtain ⟨j, rfl⟩ : ∃ (j : Fin 1024), y = ix2 0 j := ⟨y 1, (eq_ix2 y).trans (congrArg (fun z => ix2 z (y 1)) (Subsingleton.elim (α := Fin 1) _ _))⟩
  blk_simp
  rw [after0_7, Pipeline.eq_sum_fin_of_reset_step_apply_last (fun n h => (outsAt0 m c n h).2) 8 (fun _ => 0)
    (fun t y => ∑ r : Fin 1024, dgAt (m ((c : Thread nD τ).loc main_arg0)) (m ((c : Thread nD τ).loc main_arg1)) (m ((c : Thread nD τ).loc main_arg4)) (row t r) (y 1))
    (fun t h y => by
      obtain ⟨j, rfl⟩ : ∃ (j : Fin 1024), y = ix2 0 j := ⟨y 1, (eq_ix2 y).trans (congrArg (fun z => ix2 z (y 1)) (Subsingleton.elim (α := Fin 1) _ _))⟩
      exact dg_A m c t h j)
    (fun t h y => by
      obtain ⟨j, rfl⟩ : ∃ (j : Fin 1024), y = ix2 0 j := ⟨y 1, (eq_ix2 y).trans (congrArg (fun z => ix2 z (y 1)) (Subsingleton.elim (α := Fin 1) _ _))⟩
      exact dg_B m c t h j)
    (le_of_eq N_0) t0_7 rfl _, zero_add]
  refine Eq.trans ?_ (v39_at (m ((c : Thread nD τ).loc main_arg0)) (m ((c : Thread nD τ).loc main_arg1)) (m ((c : Thread nD τ).loc main_arg4)) j).symm
  exact sum_rows fun r => dgAt (m ((c : Thread nD τ).loc main_arg0)) (m ((c : Thread nD τ).loc main_arg1)) (m ((c : Thread nD τ).loc main_arg4)) r j

end Cert.ProjFirst
end
-- ==== Proof.ProjFirstClaim.lean ====
module
public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.ProjFirstArrays
@[expose] public section
set_option maxRecDepth 16384
noncomputable section
namespace Cert.ProjFirst
open Idealize.ShloMosaic Idealize.ShloMosaic.TcCoe Idealize.SL.Sem

/-- The two programs leave the same arrays. -/
theorem algebraic [Cert.Kernel11Ideal.Facts] [Cert.Reference11Ideal.Facts] : Cert.algebraic_Kernel11Ideal_Reference11Ideal := by
  intro m g m' g' _ hag
  refine ⟨fun c => Cert.Reference11Ideal.Read.val_main_v38 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
      fun c => Cert.Reference11Ideal.Read.val_main_v39 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg4)), ?_, ?_⟩
  · refine (θ_run _ _ _).mono (fun r h c => ?_) (Cert.Kernel11Ideal.Value.run_blocks (F := Ideal) m g)
    obtain ⟨h0, h1, a0, a1, a2, a3, a4⟩ := h c
    exact ⟨h0.trans (final_6 m c), h1.trans (final_7 m c), a0, a1, a2, a3, a4⟩
  · refine (θ_run _ _ _).mono (fun r h c => ?_) (Cert.Reference11Ideal.Value.run (F := Ideal) m' g')
    obtain ⟨h0, h1, a0, a1, a2, a3, a4⟩ := h c
    obtain ⟨e0, e1, e2, e3, e4⟩ := hag c
    have r0 := h0.trans (Cert.Reference11Ideal.Read.val_main_v38_eq m' c)
    rw [e0, e1, e2, e3, e4] at r0
    have r1 := h1.trans (Cert.Reference11Ideal.Read.val_main_v39_eq (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg4)))
    rw [e0, e1, e4] at r1
    exact ⟨r0, r1, a0, a1, a2, a3, a4⟩
end Cert.ProjFirst
end
-- ==== Proof.Adam.lean ====
module
public import Idealize.ShloMosaic.Lib.Pointwise
@[expose] public section
set_option maxRecDepth 16384
noncomputable section
namespace Cert.Adam
open Idealize.ShloMosaic Idealize.ShloMosaic.Pointwise

/-- The first moment after the step. -/
def mNew (g m : EReal) : EReal := Ideal.ofBits .f32 0x3F666666#32 * m + Ideal.ofBits .f32 0x3DCCCCCD#32 * g

/-- The second moment after the step. -/
def vNew (g v : EReal) : EReal := Ideal.ofBits .f32 0x3F7FBE77#32 * v + Ideal.ofBits .f32 0x3A83126F#32 * (g * g)

/-- The change of a weight. -/
def delta (w g m v : EReal) : EReal :=
  Ideal.ofBits .f32 0xBA83126F#32 *
    (Ideal.div (Ideal.div (mNew g m) (Ideal.ofBits .f32 0x3F26BD02#32))
        (Ideal.sqrt (Ideal.div (vNew g v) (Ideal.ofBits .f32 0x3C231ACC#32)) + Ideal.ofBits .f32 0x322BCC77#32)
      + Ideal.ofBits .f32 0x3C23D70A#32 * w)

/-- A sum over the eight devices with every term but one device's replaced by zero is that device's term. -/
theorem pick (f : Fin 8 → EReal) (w : BitVec 32) (d : Fin 8) (h : w = BitVec.ofNat 32 d.val) :
    (∑ x : Fin 8, Scalar.select (IntOp.cmpi CmpIPredicate.eq (BitVec.ofNat 32 x.val) w) (f x) (Ideal.ofBits .f32 0#32)) = f d := by
  subst h
  have z : Ideal.ofBits .f32 0#32 = 0 := by pointwise!
  rw [z]
  refine (Finset.sum_eq_single d (fun x _ hx => ?_) (fun hd => absurd (Finset.mem_univ d) hd)).trans ?_
  · have : IntOp.cmpi CmpIPredicate.eq (BitVec.ofNat 32 x.val) (BitVec.ofNat 32 d.val) = 0#1 := by
      revert x d; decide
    rw [this]; rfl
  · have : IntOp.cmpi CmpIPredicate.eq (BitVec.ofNat 32 d.val) (BitVec.ofNat 32 d.val) = 1#1 := by
      revert d; decide
    rw [this]; rfl

/-- A device number between zero and seven. -/
theorem device (w : BitVec 32) (h : IntOp.andi (IntOp.cmpi CmpIPredicate.sge w 0#32) (IntOp.cmpi CmpIPredicate.slt w 8#32) = 1#1) :
    ∃ d : Fin 8, w = BitVec.ofNat 32 d.val := by
  have a : (0#32).sle w = true ∧ w.slt 8#32 = true := by
    have h' : BitVec.ofBool ((0#32).sle w) &&& BitVec.ofBool (w.slt 8#32) = 1#1 := h
    revert h'
    cases (0#32).sle w <;> cases w.slt 8#32 <;> decide
  rw [BitVec.sle_iff_toInt_le, BitVec.slt_iff_toInt_lt] at a
  obtain ⟨a0, a1⟩ := a
  have e := BitVec.toInt_eq_toNat_cond w
  have z0 : (0#32 : BitVec 32).toInt = 0 := by decide
  have z8 : (8#32 : BitVec 32).toInt = 8 := by decide
  have lt := w.isLt
  have : w.toNat < 8 := by split at e <;> omega
  exact ⟨⟨w.toNat, this⟩, by simp⟩
end Cert.Adam
end
-- ==== Proof.ShardOutSpec.lean ====
module
public import proofs.«01_k».proof.Proof.Adam
public import proofs.«01_k».proof.Proof.Gen.Reference13Ideal.Read
public import Idealize.ShloMosaic.Lib.Pointwise
@[expose] public section
set_option maxRecDepth 16384
noncomputable section
namespace Cert.ShardOut.Plain
open Idealize.ShloMosaic Idealize.ShloMosaic.TcCoe Idealize.SL.Sem Idealize.ShloMosaic.Pointwise Cert.Adam Cert.Reference13Ideal Cert.Reference13Ideal.Read

variable (x0 : IVec S1 32) (x1 x2 : FVec Ideal S8x128x1024 .f32) (x3 x4 : FVec Ideal S7x128x1024 .bf16) (x5 x6 x7 : FVec Ideal S2x128x1024 .f32)

/-- The gradient at one entry: device `d`'s own part and the seven received ones. -/
def gradAt (own : FVec Ideal S8x128x1024 .f32) (recv : FVec Ideal S7x128x1024 .bf16) (d : Fin 8) (r : Fin 128) (j : Fin 1024) : EReal :=
  own (ix3 d r j) + ∑ s : Fin 7, recv (ix3 s r j)

theorem v17_at (d : Fin 8) (h : x0 (ix1 0) = BitVec.ofNat 32 d.val) (l : Fin 2) (r : Fin 128) (j : Fin 1024) :
    val_main_v17 (F := Ideal) x0 x1 x2 x3 x4 (ix3 l r j) = if l.val < 1 then gradAt x1 x3 d r j else gradAt x2 x4 d r j := by
  pointwise [val_main_v17, val_main_v15, val_main_v16, val_main_v9, val_main_v14, val_main_v6, val_main_v8, val_main_v11, val_main_v13, val_main_cst_0, val_main_v5, val_main_cst_1, val_main_v7, val_main_cst_3, val_main_v10, val_main_cst_4, val_main_v12, val_main_call0_v1, val_main_call0_v2, val_main_call1_v1, val_main_call1_v2, val_main_v4, val_main_call0_v0, val_main_call1_v0, val_main_v3, val_main_cst, val_main_cst_2, val_main_v0, val_main_v2, val_main_v1]
  split
  · exact congrArg (· + _) (pick _ _ d h)
  · exact congrArg (· + _) (pick _ _ d h)
theorem v22_at (l : Fin 2) (r : Fin 128) (j : Fin 1024) :
    val_main_v22 (F := Ideal) x0 x1 x2 x3 x4 x6 (ix3 l r j)
      = mNew (val_main_v17 (F := Ideal) x0 x1 x2 x3 x4 (ix3 l r j)) (x6 (ix3 l r j)) := by
  pointwise [val_main_v22, val_main_v19, val_main_v21, val_main_v18, val_main_v20, val_main_cst_5, val_main_cst_6]
  rfl
theorem v28_at (l : Fin 2) (r : Fin 128) (j : Fin 1024) :
    val_main_v28 (F := Ideal) x0 x1 x2 x3 x4 x7 (ix3 l r j)
      = vNew (val_main_v17 (F := Ideal) x0 x1 x2 x3 x4 (ix3 l r j)) (x7 (ix3 l r j)) := by
  pointwise [val_main_v28, val_main_v24, val_main_v27, val_main_v23, val_main_v25, val_main_v26, val_main_cst_7, val_main_cst_8]
  rfl
theorem v41_at (l : Fin 2) (r : Fin 128) (j : Fin 1024) :
    val_main_v41 (F := Ideal) x0 x1 x2 x3 x4 x5 x6 x7 (ix3 l r j)
      = delta (x5 (ix3 l r j)) (val_main_v17 (F := Ideal) x0 x1 x2 x3 x4 (ix3 l r j)) (x6 (ix3 l r j)) (x7 (ix3 l r j)) := by
  pointwise [val_main_v41, val_main_v39, val_main_v40, val_main_v36, val_main_v38, val_main_cst_13, val_main_v30, val_main_v35, val_main_v37, val_main_v22, val_main_v29, val_main_v33, val_main_v34, val_main_cst_12, val_main_v19, val_main_v21, val_main_cst_9, val_main_v32, val_main_cst_11, val_main_v18, val_main_v20, val_main_v28, val_main_v31, val_main_cst_5, val_main_cst_6, val_main_v24, val_main_v27, val_main_cst_10, val_main_v23, val_main_v25, val_main_v26, val_main_cst_7, val_main_cst_8]
  rfl
end Cert.ShardOut.Plain
end
-- ==== Proof.ShardOutArrays.lean ====
module
public import proofs.«01_k».proof.Proof.Gen.Kernel13Ideal.Frame
public import proofs.«01_k».proof.Proof.Adam
public import Idealize.ShloMosaic.Lib.Pointwise
public import Idealize.ShloMosaic.Lib.Pipeline.ValueKit
public import Idealize.ShloMosaic.Lib.Pipeline.ReadBack
@[expose] public section
set_option maxRecDepth 16384
noncomputable section
namespace Cert.ShardOut
open Idealize.ShloMosaic Idealize.ShloMosaic.TcCoe Idealize.SL.Sem Idealize.ShloMosaic.Pointwise Cert.Adam Cert.Kernel13Ideal Cert.Kernel13Ideal.Gen
open Idealize.ShloMosaic.Pipeline (Dat)

/-- The table that names device `d`. -/
def tableOf (d : Fin 8) : pre0.Contents (Elt Ideal) := fun | ⟨0, _⟩ => fun _ => BitVec.ofNat 32 d.val | ⟨_ + 1, h⟩ => absurd h (by simp)

variable (m : (ℓ : Loc nD τ sig) → Buf (Elt Ideal) ℓ)

theorem tbl_eq (d : Fin 8) (h : ∀ c : Dev nD, (m ((c : Thread nD τ).loc main_arg0)) = fun _ => BitVec.ofNat 32 d.val) : tbl m = tableOf d := by
  funext j
  match j with
  | ⟨0, _⟩ => exact (V_main_arg0 m 0).trans (h 0)

theorem ok_table : ∀ d : Fin 8, ok0 (F := Ideal) (tableOf d) := by decide

theorem ok (d : Fin 8) (h : ∀ c : Dev nD, (m ((c : Thread nD τ).loc main_arg0)) = fun _ => BitVec.ofNat 32 d.val) : Ok m := by
  unfold Ok; rw [tbl_eq m d h]; exact ok_table d

/-- Every window's block at every grid point: a point names a layer and a block of rows. -/
theorem idx : ∀ d : Fin 8, ∀ i : grid0.Coords, ix0 (tableOf d) 0 i = ![d.val, if (i 0).val = 0 then (i 1).val else 0, 0]
    ∧ ix0 (tableOf d) 1 i = ![0, if (i 0).val = 0 then (i 1).val else 0, 0]
    ∧ ix0 (tableOf d) 2 i = ![d.val, if (i 0).val = 1 then (i 1).val else 0, 0]
    ∧ ix0 (tableOf d) 3 i = ![0, if (i 0).val = 1 then (i 1).val else 0, 0]
    ∧ ix0 (tableOf d) 4 i = ![(i 0).val, (i 1).val, 0]
    ∧ ix0 (tableOf d) 5 i = ![(i 0).val, (i 1).val, 0]
    ∧ ix0 (tableOf d) 6 i = ![(i 0).val, (i 1).val, 0]
    ∧ ix0 (tableOf d) 8 i = ![(i 0).val, (i 1).val, 0]
    ∧ ix0 (tableOf d) 9 i = ![(i 0).val, (i 1).val, 0]
    ∧ ix0 (tableOf d) 10 i = ![(i 0).val, (i 1).val, 0]
    ∧ ix0 (tableOf d) 11 i = ![(i 0).val, (i 1).val, 0] := by decide

/-- Row `r` of the block of rows of grid point `i`. -/
def row (i : grid0.Coords) (r : Fin 128) : Fin 128 := ⟨(i 1).val * 128 + r.val, by have : (i 1).val < 1 := (i 1).isLt; omega⟩

variable (d : Fin 8) (hd : ∀ c : Dev nD, (m ((c : Thread nD τ).loc main_arg0)) = fun _ => BitVec.ofNat 32 d.val) (hO : Ok m)

include hd
theorem reads_0 (c : Dev nD) (t : Fin (cfgM m hO).N) (h : (grid0.coords t 0).val = 0) (r : Fin 128) (j : Fin 1024) :
    iblk m hO c 0 t (ix3 0 r j) = (m ((c : Thread nD τ).loc main_arg1)) (ix3 d (row (grid0.coords t) r) j) := by
  rw [← V_main_arg1 m c]
  have e : ((cfgM m hO).win 0).index t = _ := (congrArg (ix0 · 0 (grid0.coords t)) (tbl_eq m d hd)).trans (idx d (grid0.coords t)).1
  rw [if_pos h] at e
  blk_simp [iblk]
  blk_ext [e, row]

theorem reads_1 (c : Dev nD) (t : Fin (cfgM m hO).N) (h : (grid0.coords t 0).val = 0) (s : Fin 7) (r : Fin 128) (j : Fin 1024) :
    iblk m hO c 1 t (ix3 s r j) = (m ((c : Thread nD τ).loc main_arg3)) (ix3 s (row (grid0.coords t) r) j) := by
  rw [← V_main_arg3 m c]
  have e : ((cfgM m hO).win 1).index t = _ := (congrArg (ix0 · 1 (grid0.coords t)) (tbl_eq m d hd)).trans (idx d (grid0.coords t)).2.1
  rw [if_pos h] at e
  blk_simp [iblk]
  blk_ext [e, row]

theorem reads_2 (c : Dev nD) (t : Fin (cfgM m hO).N) (h : (grid0.coords t 0).val = 1) (r : Fin 128) (j : Fin 1024) :
    iblk m hO c 2 t (ix3 0 r j) = (m ((c : Thread nD τ).loc main_arg2)) (ix3 d (row (grid0.coords t) r) j) := by
  rw [← V_main_arg2 m c]
  have e : ((cfgM m hO).win 2).index t = _ := (congrArg (ix0 · 2 (grid0.coords t)) (tbl_eq m d hd)).trans (idx d (grid0.coords t)).2.2.1
  rw [if_pos h] at e
  blk_simp [iblk]
  blk_ext [e, row]

theorem reads_3 (c : Dev nD) (t : Fin (cfgM m hO).N) (h : (grid0.coords t 0).val = 1) (s : Fin 7) (r : Fin 128) (j : Fin 1024) :
    iblk m hO c 3 t (ix3 s r j) = (m ((c : Thread nD τ).loc main_arg4)) (ix3 s (row (grid0.coords t) r) j) := by
  rw [← V_main_arg4 m c]
  have e : ((cfgM m hO).win 3).index t = _ := (congrArg (ix0 · 3 (grid0.coords t)) (tbl_eq m d hd)).trans (idx d (grid0.coords t)).2.2.2.1
  rw [if_pos h] at e
  blk_simp [iblk]
  blk_ext [e, row]

theorem reads_4 (c : Dev nD) (t : Fin (cfgM m hO).N) (r : Fin 128) (j : Fin 1024) :
    iblk m hO c 4 t (ix3 0 r j) = (m ((c : Thread nD τ).loc main_arg5)) (ix3 (grid0.coords t 0) (row (grid0.coords t) r) j) := by
  rw [← V_main_arg5 m c]
  have e : ((cfgM m hO).win 4).index t = _ := (congrArg (ix0 · 4 (grid0.coords t)) (tbl_eq m d hd)).trans (idx d (grid0.coords t)).2.2.2.2.1
  blk_simp [iblk]
  blk_ext [e, row]

theorem reads_5 (c : Dev nD) (t : Fin (cfgM m hO).N) (r : Fin 128) (j : Fin 1024) :
    iblk m hO c 5 t (ix3 0 r j) = (m ((c : Thread nD τ).loc main_arg6)) (ix3 (grid0.coords t 0) (row (grid0.coords t) r) j) := by
  rw [← V_main_arg6 m c]
  have e : ((cfgM m hO).win 5).index t = _ := (congrArg (ix0 · 5 (grid0.coords t)) (tbl_eq m d hd)).trans (idx d (grid0.coords t)).2.2.2.2.2.1
  blk_simp [iblk]
  blk_ext [e, row]

theorem reads_6 (c : Dev nD) (t : Fin (cfgM m hO).N) (r : Fin 128) (j : Fin 1024) :
    iblk m hO c 6 t (ix3 0 r j) = (m ((c : Thread nD τ).loc main_arg7)) (ix3 (grid0.coords t 0) (row (grid0.coords t) r) j) := by
  rw [← V_main_arg7 m c]
  have e : ((cfgM m hO).win 6).index t = _ := (congrArg (ix0 · 6 (grid0.coords t)) (tbl_eq m d hd)).trans (idx d (grid0.coords t)).2.2.2.2.2.2.1
  blk_simp [iblk]
  blk_ext [e, row]

/-- The gradient at one entry: device `d`'s own part and the seven received ones. -/
def gradAt (own : Vec Ideal S8x128x1024 .f32) (recv : Vec Ideal S7x128x1024 .bf16) (r : Fin 128) (j : Fin 1024) : EReal :=
  own (ix3 d r j) + ∑ s : Fin 7, recv (ix3 s r j)

/-- The same, of layer `l`. -/
def gradOf (c : Dev nD) (l : Fin 2) (r : Fin 128) (j : Fin 1024) : EReal :=
  if l.val < 1 then gradAt d (m ((c : Thread nD τ).loc main_arg1)) (m ((c : Thread nD τ).loc main_arg3)) r j
  else gradAt d (m ((c : Thread nD τ).loc main_arg2)) (m ((c : Thread nD τ).loc main_arg4)) r j

omit hd in
theorem sum_at (x0 : Vec Ideal S1x128x1024 .f32) (x1 : Vec Ideal S7x128x1024 .bf16) (r : Fin 128) (j : Fin 1024) :
   k0_pay5 x0 (View.ld x1
          (Rect.unit ![0, 0, 0] ![1, 128, 1024] inb_S7x128x1024_S1x128x1024_0_0_0))
        (View.ld x1
          (Rect.unit ![1, 0, 0] ![1, 128, 1024] inb_S7x128x1024_S1x128x1024_1_0_0))
        (View.ld x1
          (Rect.unit ![2, 0, 0] ![1, 128, 1024] inb_S7x128x1024_S1x128x1024_2_0_0))
        (View.ld x1
          (Rect.unit ![3, 0, 0] ![1, 128, 1024] inb_S7x128x1024_S1x128x1024_3_0_0))
        (View.ld x1
          (Rect.unit ![4, 0, 0] ![1, 128, 1024] inb_S7x128x1024_S1x128x1024_4_0_0))
        (View.ld x1
          (Rect.unit ![5, 0, 0] ![1, 128, 1024] inb_S7x128x1024_S1x128x1024_5_0_0))
        (View.ld x1
          (Rect.unit ![6, 0, 0] ![1, 128, 1024] inb_S7x128x1024_S1x128x1024_6_0_0)) (ix2 r j)
      = x0 (ix3 0 r j) + ∑ s : Fin 7, x1 (ix3 s r j) := by
  simp only [Fin.sum_univ_seven, ← add_assoc]
  pointwise [k0_pay5]

omit hd in
theorem new_at (g : FVec Ideal S128x1024 .f32) (w x5 x6 : Vec Ideal S1x128x1024 .f32) (r : Fin 128) (j : Fin 1024) :
   k0_pay9 g (ix3 0 r j) = g (ix2 r j)
   ∧ k0_pay10 g (k0_pay6 w) x5 x6 (ix3 0 r j) = delta (w (ix3 0 r j)) (g (ix2 r j)) (x5 (ix3 0 r j)) (x6 (ix3 0 r j))
   ∧ k0_pay1 (k0_pay7 g x5) (ix3 0 r j) = mNew (g (ix2 r j)) (x5 (ix3 0 r j))
   ∧ k0_pay2 (k0_pay8 g x6) (ix3 0 r j) = vNew (g (ix2 r j)) (x6 (ix3 0 r j)) := by
  refine ⟨?_, ?_, ?_, ?_⟩
  · pointwise [k0_pay9]
  · pointwise [k0_pay10, k0_pay7, k0_pay8, k0_pay6]
    rfl
  · pointwise [k0_pay1, k0_pay7]
    rfl
  · pointwise [k0_pay2, k0_pay8]
    rfl
omit hd in
/-- The second layer's operations are the first layer's. -/
theorem same : k0_pay11 (F := Ideal) = k0_pay5 ∧ k0_pay12 (F := Ideal) = k0_pay6 ∧ k0_pay13 (F := Ideal) = k0_pay7 ∧ k0_pay14 (F := Ideal) = k0_pay8
    ∧ k0_pay15 (F := Ideal) = k0_pay9 ∧ k0_pay16 (F := Ideal) = k0_pay10 ∧ k0_pay3 (F := Ideal) = k0_pay1 ∧ k0_pay4 (F := Ideal) = k0_pay2 :=
  ⟨rfl, rfl, rfl, rfl, rfl, rfl, rfl, rfl⟩

omit hd in
theorem first : ∀ t : Fin grid0.N, t.val % 2 = 0 → (grid0.coords t 0).val = 0 := by decide
omit hd in
theorem second : ∀ t : Fin grid0.N, ¬ t.val % 2 = 0 → (grid0.coords t 0).val = 1 := by decide

/-- What the body leaves at a grid point, entry by entry. -/
def Leaves (c : Dev nD) (t : Fin (cfgM m hO).N) (o : Vec Ideal S1x128x1024 .f32 × Vec Ideal S1x128x1024 .f32 × Vec Ideal S1x128x1024 .f32 × Vec Ideal S1x128x1024 .f32)
    (r : Fin 128) (j : Fin 1024) : Prop :=
  let l := grid0.coords t 0
  let q := row (grid0.coords t) r
  let w : EReal := (m ((c : Thread nD τ).loc main_arg5)) (ix3 l q j)
  let m0 : EReal := (m ((c : Thread nD τ).loc main_arg6)) (ix3 l q j)
  let v0 : EReal := (m ((c : Thread nD τ).loc main_arg7)) (ix3 l q j)
  o.1 (ix3 0 r j) = gradOf m d c l q j
    ∧ o.2.1 (ix3 0 r j) = delta w (gradOf m d c l q j) m0 v0
    ∧ o.2.2.1 (ix3 0 r j) = mNew (gradOf m d c l q j) m0
    ∧ o.2.2.2 (ix3 0 r j) = vNew (gradOf m d c l q j) v0

theorem leaves (c : Dev nD) (t : Fin (cfgM m hO).N) (r : Fin 128) (j : Fin 1024) :
    Leaves m d hO c t (outsAt0 m hO c t.val t.isLt) r j := by
  have e4 := (hs0_4 m hO t).read_unread (Val := Elt Ideal) (iblk m hO c 4 t)
  have e5 := (hs0_5 m hO t).read_unread (Val := Elt Ideal) (iblk m hO c 5 t)
  have e6 := (hs0_6 m hO t).read_unread (Val := Elt Ideal) (iblk m hO c 6 t)
  have r4 := reads_4 m d hd hO c t r j
  have r5 := reads_5 m d hd hO c t r j
  have r6 := reads_6 m d hd hO c t r j
  by_cases h0 : t.val % 2 = 0
  · have l0 := first t h0
    have e0 := (hs0_0 m hO t).read_unread (Val := Elt Ideal) (iblk m hO c 0 t)
    have e1 := (hs0_1 m hO t).read_unread (Val := Elt Ideal) (iblk m hO c 1 t)
    rw [outsAt0_A m hO c t h0 (by omega)]
    unfold Leaves
    dsimp only
    frame_out
    rw [e0, e1, e4, e5, e6]
    have g : gradOf m d c (grid0.coords t 0) (row (grid0.coords t) r) j = _ :=
      (if_pos (by omega)).trans ((sum_at (iblk m hO c 0 t) (iblk m hO c 1 t) r j).trans (congrArg₂ (· + ·) (reads_0 m d hd hO c t l0 r j) (Finset.sum_congr rfl fun s _ => reads_1 m d hd hO c t l0 s r j))).symm
    rw [g, ← r4, ← r5, ← r6]
    exact new_at _ _ _ _ r j
  · have l1 := second t h0
    have e0 := (hs0_2 m hO t).read_unread (Val := Elt Ideal) (iblk m hO c 2 t)
    have e1 := (hs0_3 m hO t).read_unread (Val := Elt Ideal) (iblk m hO c 3 t)
    rw [outsAt0_B m hO c t h0 (by omega)]
    unfold Leaves
    dsimp only
    frame_out
    rw [e0, e1, e4, e5, e6]
    have g : gradOf m d c (grid0.coords t 0) (row (grid0.coords t) r) j = _ :=
      (if_neg (by omega)).trans ((sum_at (iblk m hO c 2 t) (iblk m hO c 3 t) r j).trans (congrArg₂ (· + ·) (reads_2 m d hd hO c t l1 r j) (Finset.sum_congr rfl fun s _ => reads_3 m d hd hO c t l1 s r j))).symm
    rw [g, ← r4, ← r5, ← r6]
    obtain ⟨s0, s1, s2, s3, s4, s5, s6, s7⟩ := same
    rw [s0, s1, s2, s3, s4, s5, s6, s7]
    exact new_at _ _ _ _ r j

theorem adm_eq : adm m hO = ⟨tableOf d, ok_table d⟩ := Subtype.ext (tbl_eq m d hd)

omit hd in
theorem covers : ∀ d : Fin 8, ((cfg0 ⟨tableOf d, ok_table d⟩).win 8).Covers ∧ ((cfg0 ⟨tableOf d, ok_table d⟩).win 9).Covers
    ∧ ((cfg0 ⟨tableOf d, ok_table d⟩).win 10).Covers ∧ ((cfg0 ⟨tableOf d, ok_table d⟩).win 11).Covers := by decide +kernel

theorem covers_of : ((cfgM m hO).win 8).Covers ∧ ((cfgM m hO).win 9).Covers ∧ ((cfgM m hO).win 10).Covers ∧ ((cfgM m hO).win 11).Covers := by
  have key : ∀ a : (pcfg0 (F := Ideal)).Adm, a = ⟨tableOf d, ok_table d⟩ →
      ((cfg0 a).win 8).Covers ∧ ((cfg0 a).win 9).Covers ∧ ((cfg0 a).win 10).Covers ∧ ((cfg0 a).win 11).Covers := by
    rintro _ rfl
    exact covers d
  exact key _ (adm_eq m d hd hO)

omit hd in
theorem one_idx (y : S1x128x1024.Idx) : ∃ (r : Fin 128) (j : Fin 1024), y = ix3 0 r j :=
  ⟨y 1, y 2, (eq_ix3 y).trans (congrArg (ix3 · (y 1) (y 2)) (Subsingleton.elim (α := Fin 1) _ _))⟩

theorem final_8 (c : Dev nD) (G : Vec Ideal S2x128x1024 .f32) (hG : ∀ l q j, G (ix3 l q j) = gradOf m d c l q j) :
    (dats m hO 0 c).arrAt 8 (cfgM m hO).N = G := by
  refine (dats m hO 0 c).arrAt_eq_of_covers 8 _ (covers_of m d hd hO).1 fun t hf y => ?_
  obtain ⟨r, j, rfl⟩ := one_idx y
  have e : ((cfgM m hO).win 8).index t = _ := (congrArg (ix0 · 8 (grid0.coords t)) (tbl_eq m d hd)).trans (idx d (grid0.coords t)).2.2.2.2.2.2.2.1
  have p : (((cfgM m hO).win 8).blk t).view.emb (ix3 0 r j) = ix3 (grid0.coords t 0) (row (grid0.coords t) r) j := by
    blk_ext [e, row]
  blk_simp
  rw [after0_8, p]
  exact (leaves m d hd hO c t r j).1.trans (hG _ _ _).symm

theorem final_9 (c : Dev nD) (G : Vec Ideal S2x128x1024 .f32) (hG : ∀ l q j, G (ix3 l q j) = delta ((m ((c : Thread nD τ).loc main_arg5)) (ix3 l q j)) (gradOf m d c l q j) ((m ((c : Thread nD τ).loc main_arg6)) (ix3 l q j)) ((m ((c : Thread nD τ).loc main_arg7)) (ix3 l q j))) :
    (dats m hO 0 c).arrAt 9 (cfgM m hO).N = G := by
  refine (dats m hO 0 c).arrAt_eq_of_covers 9 _ (covers_of m d hd hO).2.1 fun t hf y => ?_
  obtain ⟨r, j, rfl⟩ := one_idx y
  have e : ((cfgM m hO).win 9).index t = _ := (congrArg (ix0 · 9 (grid0.coords t)) (tbl_eq m d hd)).trans (idx d (grid0.coords t)).2.2.2.2.2.2.2.2.1
  have p : (((cfgM m hO).win 9).blk t).view.emb (ix3 0 r j) = ix3 (grid0.coords t 0) (row (grid0.coords t) r) j := by
    blk_ext [e, row]
  blk_simp
  rw [after0_9, p]
  exact (leaves m d hd hO c t r j).2.1.trans (hG _ _ _).symm

theorem final_10 (c : Dev nD) (G : Vec Ideal S2x128x1024 .f32) (hG : ∀ l q j, G (ix3 l q j) = mNew (gradOf m d c l q j) ((m ((c : Thread nD τ).loc main_arg6)) (ix3 l q j))) :
    (dats m hO 0 c).arrAt 10 (cfgM m hO).N = G := by
  refine (dats m hO 0 c).arrAt_eq_of_covers 10 _ (covers_of m d hd hO).2.2.1 fun t hf y => ?_
  obtain ⟨r, j, rfl⟩ := one_idx y
  have e : ((cfgM m hO).win 10).index t = _ := (congrArg (ix0 · 10 (grid0.coords t)) (tbl_eq m d hd)).trans (idx d (grid0.coords t)).2.2.2.2.2.2.2.2.2.1
  have p : (((cfgM m hO).win 10).blk t).view.emb (ix3 0 r j) = ix3 (grid0.coords t 0) (row (grid0.coords t) r) j := by
    blk_ext [e, row]
  blk_simp
  rw [after0_10, p]
  exact (leaves m d hd hO c t r j).2.2.1.trans (hG _ _ _).symm

theorem final_11 (c : Dev nD) (G : Vec Ideal S2x128x1024 .f32) (hG : ∀ l q j, G (ix3 l q j) = vNew (gradOf m d c l q j) ((m ((c : Thread nD τ).loc main_arg7)) (ix3 l q j))) :
    (dats m hO 0 c).arrAt 11 (cfgM m hO).N = G := by
  refine (dats m hO 0 c).arrAt_eq_of_covers 11 _ (covers_of m d hd hO).2.2.2 fun t hf y => ?_
  obtain ⟨r, j, rfl⟩ := one_idx y
  have e : ((cfgM m hO).win 11).index t = _ := (congrArg (ix0 · 11 (grid0.coords t)) (tbl_eq m d hd)).trans (idx d (grid0.coords t)).2.2.2.2.2.2.2.2.2.2
  have p : (((cfgM m hO).win 11).blk t).view.emb (ix3 0 r j) = ix3 (grid0.coords t 0) (row (grid0.coords t) r) j := by
    blk_ext [e, row]
  blk_simp
  rw [after0_11, p]
  exact (leaves m d hd hO c t r j).2.2.2.trans (hG _ _ _).symm

end Cert.ShardOut
end
-- ==== Proof.ShardOutClaim.lean ====
module
public import proofs.«01_k».proof.Defs
public import proofs.«01_k».proof.Proof.Gen.Pre_pre13
public import proofs.«01_k».proof.Proof.Gen.Reference13Ideal.Run
public import proofs.«01_k».proof.Proof.Gen.Reference13Ideal.Read
public import proofs.«01_k».proof.Proof.ShardOutSpec
public import proofs.«01_k».proof.Proof.ShardOutArrays
public import Idealize.ShloMosaic.Lib.Pointwise
@[expose] public section
set_option maxRecDepth 16384
noncomputable section
namespace Cert.ShardOut
open Idealize.ShloMosaic Idealize.ShloMosaic.TcCoe Idealize.ShloMosaic.Pointwise Idealize.SL.Sem Cert.Adam Cert.Kernel13Ideal Cert.Kernel13Ideal.Gen

/-- The precondition names one of the eight devices. -/
theorem device_of_pre (m : (ℓ : Loc nD τ sig) → Buf (Elt Ideal) ℓ) (h : Cert.Pre_Kernel13Ideal m) :
    ∃ d : Fin 8, ∀ c : Dev nD, (m ((c : Thread nD τ).loc main_arg0)) = fun _ => BitVec.ofNat 32 d.val := by
  obtain ⟨d, hd⟩ := device ((m (((0 : Dev nD) : Thread nD τ).loc main_arg0)) (ix1 0)) (congrFun (h 0) (ix1 0))
  refine ⟨d, fun c => funext fun i => ?_⟩
  rw [Subsingleton.elim (α := Fin 1) c 0, (eq_ix1 i).trans (congrArg ix1 (Subsingleton.elim (α := Fin 1) _ _))]
  exact hd

theorem ok_of_pre (m : (ℓ : Loc nD τ sig) → Buf (Elt Ideal) ℓ) (h : Cert.Pre_Kernel13Ideal m) : Ok m := by
  obtain ⟨d, hd⟩ := device_of_pre m h
  exact ok m d hd

/-- The two programs leave the same arrays. -/
theorem algebraic : Cert.algebraic_Kernel13Ideal_Reference13Ideal := by
  intro m g m' g' hP hag
  obtain ⟨d, hd⟩ := device_of_pre m hP
  have hO := ok m d hd
  refine ⟨fun c => Cert.Reference13Ideal.Read.val_main_v17 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)),
      fun c => Cert.Reference13Ideal.Read.val_main_v41 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)),
      fun c => Cert.Reference13Ideal.Read.val_main_v22 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg6)),
      fun c => Cert.Reference13Ideal.Read.val_main_v28 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg7)), ?_, ?_⟩
  · refine (θ_run _ _ _).mono (fun r h c => ?_) (θ_run_and (run_main m g hO) (unchanged m g hO))
    have G := Plain.v17_at (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) d (congrFun (hd c) _)
    exact ⟨((h.1 c).1 8).trans (final_8 m d hd hO c _ fun l q j => G l q j),
      ((h.1 c).1 9).trans (final_9 m d hd hO c _ fun l q j =>
        (Plain.v41_at (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) l q j).trans (congrArg (delta _ · _ _) (G l q j))),
      ((h.1 c).1 10).trans (final_10 m d hd hO c _ fun l q j =>
        (Plain.v22_at (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg6)) l q j).trans (congrArg (mNew · _) (G l q j))),
      ((h.1 c).1 11).trans (final_11 m d hd hO c _ fun l q j =>
        (Plain.v28_at (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg7)) l q j).trans (congrArg (vNew · _) (G l q j))), h.2 c⟩
  · refine (θ_run _ _ _).mono (fun r h c => ?_) (Cert.Reference13Ideal.Value.run (F := Ideal) m' g')
    obtain ⟨h0, h1, h2, h3, a0, a1, a2, a3, a4, a5, a6, a7⟩ := h c
    obtain ⟨e0, e1, e2, e3, e4, e5, e6, e7⟩ := hag c
    have r0 := h0.trans (Cert.Reference13Ideal.Read.val_main_v17_eq (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)))
    rw [e0, e1, e2, e3, e4] at r0
    have r1 := h1.trans (Cert.Reference13Ideal.Read.val_main_v41_eq m' c)
    rw [e0, e1, e2, e3, e4, e5, e6, e7] at r1
    have r2 := h2.trans (Cert.Reference13Ideal.Read.val_main_v22_eq (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)) (m' ((c.tc : Thread Cert.Reference13Ideal.nD Cert.Reference13Ideal.τ).loc Cert.Reference13Ideal.main_arg6)))
    rw [e0, e1, e2, e3, e4, e6] at r2
    have r3 := h3.trans (Cert.Reference13Ideal.Read.val_main_v28_eq (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)) (m' ((c.tc : Thread Cert.Reference13Ideal.nD Cert.Reference13Ideal.τ).loc Cert.Reference13Ideal.main_arg7)))
    rw [e0, e1, e2, e3, e4, e7] at r3
    exact ⟨r0, r1, r2, r3, a0, a1, a2, a3, a4, a5, a6, a7⟩
end Cert.ShardOut
end
-- ==== Proof.ShardOutFrame.lean ====
module
public import proofs.«01_k».proof.Defs
public import proofs.«01_k».proof.Proof.Gen.Kernel13.Frame
public import proofs.«01_k».proof.Proof.Gen.Pre_pre13
public import proofs.«01_k».proof.Proof.Adam
public import Idealize.ShloMosaic.Lib.Pointwise
@[expose] public section
set_option maxRecDepth 16384
noncomputable section
namespace Cert.ShardOut.AtBits
open Idealize.ShloMosaic Idealize.ShloMosaic.TcCoe Idealize.ShloMosaic.Pointwise Cert.Adam Cert.Kernel13 Cert.Kernel13.Gen

/-- The table that names device `d`. -/
def tableOf (d : Fin 8) : pre0.Contents (Elt Bits) := fun | ⟨0, _⟩ => fun _ => BitVec.ofNat 32 d.val | ⟨_ + 1, h⟩ => absurd h (by simp)

theorem ok_table : ∀ d : Fin 8, ok0 (F := Bits) (tableOf d) := by decide

/-- A device number in range makes every block the table picks lie in its array. -/
theorem ok_of_pre (m : (ℓ : Loc nD τ sig) → Buf (Elt Bits) ℓ) (h : Cert.Pre_Kernel13 m) : Ok m := by
  obtain ⟨d, hd⟩ := device ((m (((0 : Dev nD) : Thread nD τ).loc main_arg0)) (ix1 0)) (congrFun (h 0) (ix1 0))
  have e : tbl m = tableOf d := by
    funext j
    match j with
    | ⟨0, _⟩ =>
      refine (V_main_arg0 m 0).trans (funext fun i => ?_)
      rw [(eq_ix1 i).trans (congrArg ix1 (Subsingleton.elim (α := Fin 1) _ _))]
      exact hd
  unfold Ok
  rw [e]
  exact ok_table d
end Cert.ShardOut.AtBits
end
-- ==== Proof.ShardUpSpec.lean ====
module
public import proofs.«01_k».proof.Proof.Adam
public import proofs.«01_k».proof.Proof.Gen.Reference14Ideal.Read
public import Idealize.ShloMosaic.Lib.Pointwise
@[expose] public section
set_option maxRecDepth 16384
noncomputable section
namespace Cert.ShardUp.Plain
open Idealize.ShloMosaic Idealize.ShloMosaic.TcCoe Idealize.SL.Sem Idealize.ShloMosaic.Pointwise Cert.Adam Cert.Reference14Ideal Cert.Reference14Ideal.Read

variable (x0 : IVec S1 32) (x1 x2 : FVec Ideal S8x1024x512 .f32) (x3 x4 : FVec Ideal S7x1024x512 .bf16) (x5 x6 x7 : FVec Ideal S2x1024x512 .f32)

/-- The gradient at one entry: device `d`'s own part and the seven received ones. -/
def gradAt (own : FVec Ideal S8x1024x512 .f32) (recv : FVec Ideal S7x1024x512 .bf16) (d : Fin 8) (r : Fin 1024) (j : Fin 512) : EReal :=
  own (ix3 d r j) + ∑ s : Fin 7, recv (ix3 s r j)

theorem v17_at (d : Fin 8) (h : x0 (ix1 0) = BitVec.ofNat 32 d.val) (l : Fin 2) (r : Fin 1024) (j : Fin 512) :
    val_main_v17 (F := Ideal) x0 x1 x2 x3 x4 (ix3 l r j) = if l.val < 1 then gradAt x1 x3 d r j else gradAt x2 x4 d r j := by
  pointwise [val_main_v17, val_main_v15, val_main_v16, val_main_v9, val_main_v14, val_main_v6, val_main_v8, val_main_v11, val_main_v13, val_main_cst_0, val_main_v5, val_main_cst_1, val_main_v7, val_main_cst_3, val_main_v10, val_main_cst_4, val_main_v12, val_main_call0_v1, val_main_call0_v2, val_main_call1_v1, val_main_call1_v2, val_main_v4, val_main_call0_v0, val_main_call1_v0, val_main_v3, val_main_cst, val_main_cst_2, val_main_v0, val_main_v2, val_main_v1]
  split
  · exact congrArg (· + _) (pick _ _ d h)
  · exact congrArg (· + _) (pick _ _ d h)
theorem v22_at (l : Fin 2) (r : Fin 1024) (j : Fin 512) :
    val_main_v22 (F := Ideal) x0 x1 x2 x3 x4 x6 (ix3 l r j)
      = mNew (val_main_v17 (F := Ideal) x0 x1 x2 x3 x4 (ix3 l r j)) (x6 (ix3 l r j)) := by
  pointwise [val_main_v22, val_main_v19, val_main_v21, val_main_v18, val_main_v20, val_main_cst_5, val_main_cst_6]
  rfl
theorem v28_at (l : Fin 2) (r : Fin 1024) (j : Fin 512) :
    val_main_v28 (F := Ideal) x0 x1 x2 x3 x4 x7 (ix3 l r j)
      = vNew (val_main_v17 (F := Ideal) x0 x1 x2 x3 x4 (ix3 l r j)) (x7 (ix3 l r j)) := by
  pointwise [val_main_v28, val_main_v24, val_main_v27, val_main_v23, val_main_v25, val_main_v26, val_main_cst_7, val_main_cst_8]
  rfl
theorem v41_at (l : Fin 2) (r : Fin 1024) (j : Fin 512) :
    val_main_v41 (F := Ideal) x0 x1 x2 x3 x4 x5 x6 x7 (ix3 l r j)
      = delta (x5 (ix3 l r j)) (val_main_v17 (F := Ideal) x0 x1 x2 x3 x4 (ix3 l r j)) (x6 (ix3 l r j)) (x7 (ix3 l r j)) := by
  pointwise [val_main_v41, val_main_v39, val_main_v40, val_main_v36, val_main_v38, val_main_cst_13, val_main_v30, val_main_v35, val_main_v37, val_main_v22, val_main_v29, val_main_v33, val_main_v34, val_main_cst_12, val_main_v19, val_main_v21, val_main_cst_9, val_main_v32, val_main_cst_11, val_main_v18, val_main_v20, val_main_v28, val_main_v31, val_main_cst_5, val_main_cst_6, val_main_v24, val_main_v27, val_main_cst_10, val_main_v23, val_main_v25, val_main_v26, val_main_cst_7, val_main_cst_8]
  rfl
end Cert.ShardUp.Plain
end
-- ==== Proof.ShardUpArrays.lean ====
module
public import proofs.«01_k».proof.Proof.Gen.Kernel14Ideal.Frame
public import proofs.«01_k».proof.Proof.Adam
public import Idealize.ShloMosaic.Lib.Pointwise
public import Idealize.ShloMosaic.Lib.Pipeline.ValueKit
public import Idealize.ShloMosaic.Lib.Pipeline.ReadBack
@[expose] public section
set_option maxRecDepth 16384
noncomputable section
namespace Cert.ShardUp
open Idealize.ShloMosaic Idealize.ShloMosaic.TcCoe Idealize.SL.Sem Idealize.ShloMosaic.Pointwise Cert.Adam Cert.Kernel14Ideal Cert.Kernel14Ideal.Gen
open Idealize.ShloMosaic.Pipeline (Dat)

/-- The table that names device `d`. -/
def tableOf (d : Fin 8) : pre0.Contents (Elt Ideal) := fun | ⟨0, _⟩ => fun _ => BitVec.ofNat 32 d.val | ⟨_ + 1, h⟩ => absurd h (by simp)

variable (m : (ℓ : Loc nD τ sig) → Buf (Elt Ideal) ℓ)

theorem tbl_eq (d : Fin 8) (h : ∀ c : Dev nD, (m ((c : Thread nD τ).loc main_arg0)) = fun _ => BitVec.ofNat 32 d.val) : tbl m = tableOf d := by
  funext j
  match j with
  | ⟨0, _⟩ => exact (V_main_arg0 m 0).trans (h 0)

theorem ok_table : ∀ d : Fin 8, ok0 (F := Ideal) (tableOf d) := by decide

theorem ok (d : Fin 8) (h : ∀ c : Dev nD, (m ((c : Thread nD τ).loc main_arg0)) = fun _ => BitVec.ofNat 32 d.val) : Ok m := by
  unfold Ok; rw [tbl_eq m d h]; exact ok_table d

/-- Every window's block at every grid point: a point names a layer and a block of rows. -/
theorem idx : ∀ d : Fin 8, ∀ i : grid0.Coords, ix0 (tableOf d) 0 i = ![d.val, if (i 0).val = 0 then (i 1).val else 3, 0]
    ∧ ix0 (tableOf d) 1 i = ![0, if (i 0).val = 0 then (i 1).val else 3, 0]
    ∧ ix0 (tableOf d) 2 i = ![d.val, if (i 0).val = 1 then (i 1).val else 0, 0]
    ∧ ix0 (tableOf d) 3 i = ![0, if (i 0).val = 1 then (i 1).val else 0, 0]
    ∧ ix0 (tableOf d) 4 i = ![(i 0).val, (i 1).val, 0]
    ∧ ix0 (tableOf d) 5 i = ![(i 0).val, (i 1).val, 0]
    ∧ ix0 (tableOf d) 6 i = ![(i 0).val, (i 1).val, 0]
    ∧ ix0 (tableOf d) 8 i = ![(i 0).val, (i 1).val, 0]
    ∧ ix0 (tableOf d) 9 i = ![(i 0).val, (i 1).val, 0]
    ∧ ix0 (tableOf d) 10 i = ![(i 0).val, (i 1).val, 0]
    ∧ ix0 (tableOf d) 11 i = ![(i 0).val, (i 1).val, 0] := by decide

/-- Row `r` of the block of rows of grid point `i`. -/
def row (i : grid0.Coords) (r : Fin 256) : Fin 1024 := ⟨(i 1).val * 256 + r.val, by have : (i 1).val < 4 := (i 1).isLt; omega⟩

variable (d : Fin 8) (hd : ∀ c : Dev nD, (m ((c : Thread nD τ).loc main_arg0)) = fun _ => BitVec.ofNat 32 d.val) (hO : Ok m)

include hd
theorem reads_0 (c : Dev nD) (t : Fin (cfgM m hO).N) (h : (grid0.coords t 0).val = 0) (r : Fin 256) (j : Fin 512) :
    iblk m hO c 0 t (ix3 0 r j) = (m ((c : Thread nD τ).loc main_arg1)) (ix3 d (row (grid0.coords t) r) j) := by
  rw [← V_main_arg1 m c]
  have e : ((cfgM m hO).win 0).index t = _ := (congrArg (ix0 · 0 (grid0.coords t)) (tbl_eq m d hd)).trans (idx d (grid0.coords t)).1
  rw [if_pos h] at e
  blk_simp [iblk]
  blk_ext [e, row]

theorem reads_1 (c : Dev nD) (t : Fin (cfgM m hO).N) (h : (grid0.coords t 0).val = 0) (s : Fin 7) (r : Fin 256) (j : Fin 512) :
    iblk m hO c 1 t (ix3 s r j) = (m ((c : Thread nD τ).loc main_arg3)) (ix3 s (row (grid0.coords t) r) j) := by
  rw [← V_main_arg3 m c]
  have e : ((cfgM m hO).win 1).index t = _ := (congrArg (ix0 · 1 (grid0.coords t)) (tbl_eq m d hd)).trans (idx d (grid0.coords t)).2.1
  rw [if_pos h] at e
  blk_simp [iblk]
  blk_ext [e, row]

theorem reads_2 (c : Dev nD) (t : Fin (cfgM m hO).N) (h : (grid0.coords t 0).val = 1) (r : Fin 256) (j : Fin 512) :
    iblk m hO c 2 t (ix3 0 r j) = (m ((c : Thread nD τ).loc main_arg2)) (ix3 d (row (grid0.coords t) r) j) := by
  rw [← V_main_arg2 m c]
  have e : ((cfgM m hO).win 2).index t = _ := (congrArg (ix0 · 2 (grid0.coords t)) (tbl_eq m d hd)).trans (idx d (grid0.coords t)).2.2.1
  rw [if_pos h] at e
  blk_simp [iblk]
  blk_ext [e, row]

theorem reads_3 (c : Dev nD) (t : Fin (cfgM m hO).N) (h : (grid0.coords t 0).val = 1) (s : Fin 7) (r : Fin 256) (j : Fin 512) :
    iblk m hO c 3 t (ix3 s r j) = (m ((c : Thread nD τ).loc main_arg4)) (ix3 s (row (grid0.coords t) r) j) := by
  rw [← V_main_arg4 m c]
  have e : ((cfgM m hO).win 3).index t = _ := (congrArg (ix0 · 3 (grid0.coords t)) (tbl_eq m d hd)).trans (idx d (grid0.coords t)).2.2.2.1
  rw [if_pos h] at e
  blk_simp [iblk]
  blk_ext [e, row]

theorem reads_4 (c : Dev nD) (t : Fin (cfgM m hO).N) (r : Fin 256) (j : Fin 512) :
    iblk m hO c 4 t (ix3 0 r j) = (m ((c : Thread nD τ).loc main_arg5)) (ix3 (grid0.coords t 0) (row (grid0.coords t) r) j) := by
  rw [← V_main_arg5 m c]
  have e : ((cfgM m hO).win 4).index t = _ := (congrArg (ix0 · 4 (grid0.coords t)) (tbl_eq m d hd)).trans (idx d (grid0.coords t)).2.2.2.2.1
  blk_simp [iblk]
  blk_ext [e, row]

theorem reads_5 (c : Dev nD) (t : Fin (cfgM m hO).N) (r : Fin 256) (j : Fin 512) :
    iblk m hO c 5 t (ix3 0 r j) = (m ((c : Thread nD τ).loc main_arg6)) (ix3 (grid0.coords t 0) (row (grid0.coords t) r) j) := by
  rw [← V_main_arg6 m c]
  have e : ((cfgM m hO).win 5).index t = _ := (congrArg (ix0 · 5 (grid0.coords t)) (tbl_eq m d hd)).trans (idx d (grid0.coords t)).2.2.2.2.2.1
  blk_simp [iblk]
  blk_ext [e, row]

theorem reads_6 (c : Dev nD) (t : Fin (cfgM m hO).N) (r : Fin 256) (j : Fin 512) :
    iblk m hO c 6 t (ix3 0 r j) = (m ((c : Thread nD τ).loc main_arg7)) (ix3 (grid0.coords t 0) (row (grid0.coords t) r) j) := by
  rw [← V_main_arg7 m c]
  have e : ((cfgM m hO).win 6).index t = _ := (congrArg (ix0 · 6 (grid0.coords t)) (tbl_eq m d hd)).trans (idx d (grid0.coords t)).2.2.2.2.2.2.1
  blk_simp [iblk]
  blk_ext [e, row]

/-- The gradient at one entry: device `d`'s own part and the seven received ones. -/
def gradAt (own : Vec Ideal S8x1024x512 .f32) (recv : Vec Ideal S7x1024x512 .bf16) (r : Fin 1024) (j : Fin 512) : EReal :=
  own (ix3 d r j) + ∑ s : Fin 7, recv (ix3 s r j)

/-- The same, of layer `l`. -/
def gradOf (c : Dev nD) (l : Fin 2) (r : Fin 1024) (j : Fin 512) : EReal :=
  if l.val < 1 then gradAt d (m ((c : Thread nD τ).loc main_arg1)) (m ((c : Thread nD τ).loc main_arg3)) r j
  else gradAt d (m ((c : Thread nD τ).loc main_arg2)) (m ((c : Thread nD τ).loc main_arg4)) r j

omit hd in
theorem sum_at (x0 : Vec Ideal S1x256x512 .f32) (x1 : Vec Ideal S7x256x512 .bf16) (r : Fin 256) (j : Fin 512) :
   k0_pay5 x0 (View.ld x1
          (Rect.unit ![0, 0, 0] ![1, 256, 512] inb_S7x256x512_S1x256x512_0_0_0))
        (View.ld x1
          (Rect.unit ![1, 0, 0] ![1, 256, 512] inb_S7x256x512_S1x256x512_1_0_0))
        (View.ld x1
          (Rect.unit ![2, 0, 0] ![1, 256, 512] inb_S7x256x512_S1x256x512_2_0_0))
        (View.ld x1
          (Rect.unit ![3, 0, 0] ![1, 256, 512] inb_S7x256x512_S1x256x512_3_0_0))
        (View.ld x1
          (Rect.unit ![4, 0, 0] ![1, 256, 512] inb_S7x256x512_S1x256x512_4_0_0))
        (View.ld x1
          (Rect.unit ![5, 0, 0] ![1, 256, 512] inb_S7x256x512_S1x256x512_5_0_0))
        (View.ld x1
          (Rect.unit ![6, 0, 0] ![1, 256, 512] inb_S7x256x512_S1x256x512_6_0_0)) (ix2 r j)
      = x0 (ix3 0 r j) + ∑ s : Fin 7, x1 (ix3 s r j) := by
  simp only [Fin.sum_univ_seven, ← add_assoc]
  pointwise [k0_pay5]

omit hd in
theorem new_at (g : FVec Ideal S256x512 .f32) (w x5 x6 : Vec Ideal S1x256x512 .f32) (r : Fin 256) (j : Fin 512) :
   k0_pay9 g (ix3 0 r j) = g (ix2 r j)
   ∧ k0_pay10 g (k0_pay6 w) x5 x6 (ix3 0 r j) = delta (w (ix3 0 r j)) (g (ix2 r j)) (x5 (ix3 0 r j)) (x6 (ix3 0 r j))
   ∧ k0_pay1 (k0_pay7 g x5) (ix3 0 r j) = mNew (g (ix2 r j)) (x5 (ix3 0 r j))
   ∧ k0_pay2 (k0_pay8 g x6) (ix3 0 r j) = vNew (g (ix2 r j)) (x6 (ix3 0 r j)) := by
  refine ⟨?_, ?_, ?_, ?_⟩
  · pointwise [k0_pay9]
  · pointwise [k0_pay10, k0_pay7, k0_pay8, k0_pay6]
    rfl
  · pointwise [k0_pay1, k0_pay7]
    rfl
  · pointwise [k0_pay2, k0_pay8]
    rfl
omit hd in
/-- The second layer's operations are the first layer's. -/
theorem same : k0_pay11 (F := Ideal) = k0_pay5 ∧ k0_pay12 (F := Ideal) = k0_pay6 ∧ k0_pay13 (F := Ideal) = k0_pay7 ∧ k0_pay14 (F := Ideal) = k0_pay8
    ∧ k0_pay15 (F := Ideal) = k0_pay9 ∧ k0_pay16 (F := Ideal) = k0_pay10 ∧ k0_pay3 (F := Ideal) = k0_pay1 ∧ k0_pay4 (F := Ideal) = k0_pay2 :=
  ⟨rfl, rfl, rfl, rfl, rfl, rfl, rfl, rfl⟩

omit hd in
theorem first : ∀ t : Fin grid0.N, t.val < 4 → (grid0.coords t 0).val = 0 := by decide
omit hd in
theorem second : ∀ t : Fin grid0.N, ¬ t.val < 4 → (grid0.coords t 0).val = 1 := by decide

/-- What the body leaves at a grid point, entry by entry. -/
def Leaves (c : Dev nD) (t : Fin (cfgM m hO).N) (o : Vec Ideal S1x256x512 .f32 × Vec Ideal S1x256x512 .f32 × Vec Ideal S1x256x512 .f32 × Vec Ideal S1x256x512 .f32)
    (r : Fin 256) (j : Fin 512) : Prop :=
  let l := grid0.coords t 0
  let q := row (grid0.coords t) r
  let w : EReal := (m ((c : Thread nD τ).loc main_arg5)) (ix3 l q j)
  let m0 : EReal := (m ((c : Thread nD τ).loc main_arg6)) (ix3 l q j)
  let v0 : EReal := (m ((c : Thread nD τ).loc main_arg7)) (ix3 l q j)
  o.1 (ix3 0 r j) = gradOf m d c l q j
    ∧ o.2.1 (ix3 0 r j) = delta w (gradOf m d c l q j) m0 v0
    ∧ o.2.2.1 (ix3 0 r j) = mNew (gradOf m d c l q j) m0
    ∧ o.2.2.2 (ix3 0 r j) = vNew (gradOf m d c l q j) v0

theorem leaves (c : Dev nD) (t : Fin (cfgM m hO).N) (r : Fin 256) (j : Fin 512) :
    Leaves m d hO c t (outsAt0 m hO c t.val t.isLt) r j := by
  have e4 := (hs0_4 m hO t).read_unread (Val := Elt Ideal) (iblk m hO c 4 t)
  have e5 := (hs0_5 m hO t).read_unread (Val := Elt Ideal) (iblk m hO c 5 t)
  have e6 := (hs0_6 m hO t).read_unread (Val := Elt Ideal) (iblk m hO c 6 t)
  have r4 := reads_4 m d hd hO c t r j
  have r5 := reads_5 m d hd hO c t r j
  have r6 := reads_6 m d hd hO c t r j
  by_cases h0 : t.val < 4
  · have l0 := first t h0
    have e0 := (hs0_0 m hO t).read_unread (Val := Elt Ideal) (iblk m hO c 0 t)
    have e1 := (hs0_1 m hO t).read_unread (Val := Elt Ideal) (iblk m hO c 1 t)
    rw [outsAt0_A m hO c t h0 (by omega)]
    unfold Leaves
    dsimp only
    frame_out
    rw [e0, e1, e4, e5, e6]
    have g : gradOf m d c (grid0.coords t 0) (row (grid0.coords t) r) j = _ :=
      (if_pos (by omega)).trans ((sum_at (iblk m hO c 0 t) (iblk m hO c 1 t) r j).trans (congrArg₂ (· + ·) (reads_0 m d hd hO c t l0 r j) (Finset.sum_congr rfl fun s _ => reads_1 m d hd hO c t l0 s r j))).symm
    rw [g, ← r4, ← r5, ← r6]
    exact new_at _ _ _ _ r j
  · have l1 := second t h0
    have e0 := (hs0_2 m hO t).read_unread (Val := Elt Ideal) (iblk m hO c 2 t)
    have e1 := (hs0_3 m hO t).read_unread (Val := Elt Ideal) (iblk m hO c 3 t)
    rw [outsAt0_B m hO c t h0 (by omega)]
    unfold Leaves
    dsimp only
    frame_out
    rw [e0, e1, e4, e5, e6]
    have g : gradOf m d c (grid0.coords t 0) (row (grid0.coords t) r) j = _ :=
      (if_neg (by omega)).trans ((sum_at (iblk m hO c 2 t) (iblk m hO c 3 t) r j).trans (congrArg₂ (· + ·) (reads_2 m d hd hO c t l1 r j) (Finset.sum_congr rfl fun s _ => reads_3 m d hd hO c t l1 s r j))).symm
    rw [g, ← r4, ← r5, ← r6]
    obtain ⟨s0, s1, s2, s3, s4, s5, s6, s7⟩ := same
    rw [s0, s1, s2, s3, s4, s5, s6, s7]
    exact new_at _ _ _ _ r j

theorem adm_eq : adm m hO = ⟨tableOf d, ok_table d⟩ := Subtype.ext (tbl_eq m d hd)

omit hd in
theorem covers : ∀ d : Fin 8, ((cfg0 ⟨tableOf d, ok_table d⟩).win 8).Covers ∧ ((cfg0 ⟨tableOf d, ok_table d⟩).win 9).Covers
    ∧ ((cfg0 ⟨tableOf d, ok_table d⟩).win 10).Covers ∧ ((cfg0 ⟨tableOf d, ok_table d⟩).win 11).Covers := by decide +kernel

theorem covers_of : ((cfgM m hO).win 8).Covers ∧ ((cfgM m hO).win 9).Covers ∧ ((cfgM m hO).win 10).Covers ∧ ((cfgM m hO).win 11).Covers := by
  have key : ∀ a : (pcfg0 (F := Ideal)).Adm, a = ⟨tableOf d, ok_table d⟩ →
      ((cfg0 a).win 8).Covers ∧ ((cfg0 a).win 9).Covers ∧ ((cfg0 a).win 10).Covers ∧ ((cfg0 a).win 11).Covers := by
    rintro _ rfl
    exact covers d
  exact key _ (adm_eq m d hd hO)

omit hd in
theorem one_idx (y : S1x256x512.Idx) : ∃ (r : Fin 256) (j : Fin 512), y = ix3 0 r j :=
  ⟨y 1, y 2, (eq_ix3 y).trans (congrArg (ix3 · (y 1) (y 2)) (Subsingleton.elim (α := Fin 1) _ _))⟩

theorem final_8 (c : Dev nD) (G : Vec Ideal S2x1024x512 .f32) (hG : ∀ l q j, G (ix3 l q j) = gradOf m d c l q j) :
    (dats m hO 0 c).arrAt 8 (cfgM m hO).N = G := by
  refine (dats m hO 0 c).arrAt_eq_of_covers 8 _ (covers_of m d hd hO).1 fun t hf y => ?_
  obtain ⟨r, j, rfl⟩ := one_idx y
  have e : ((cfgM m hO).win 8).index t = _ := (congrArg (ix0 · 8 (grid0.coords t)) (tbl_eq m d hd)).trans (idx d (grid0.coords t)).2.2.2.2.2.2.2.1
  have p : (((cfgM m hO).win 8).blk t).view.emb (ix3 0 r j) = ix3 (grid0.coords t 0) (row (grid0.coords t) r) j := by
    blk_ext [e, row]
  blk_simp
  rw [after0_8, p]
  exact (leaves m d hd hO c t r j).1.trans (hG _ _ _).symm

theorem final_9 (c : Dev nD) (G : Vec Ideal S2x1024x512 .f32) (hG : ∀ l q j, G (ix3 l q j) = delta ((m ((c : Thread nD τ).loc main_arg5)) (ix3 l q j)) (gradOf m d c l q j) ((m ((c : Thread nD τ).loc main_arg6)) (ix3 l q j)) ((m ((c : Thread nD τ).loc main_arg7)) (ix3 l q j))) :
    (dats m hO 0 c).arrAt 9 (cfgM m hO).N = G := by
  refine (dats m hO 0 c).arrAt_eq_of_covers 9 _ (covers_of m d hd hO).2.1 fun t hf y => ?_
  obtain ⟨r, j, rfl⟩ := one_idx y
  have e : ((cfgM m hO).win 9).index t = _ := (congrArg (ix0 · 9 (grid0.coords t)) (tbl_eq m d hd)).trans (idx d (grid0.coords t)).2.2.2.2.2.2.2.2.1
  have p : (((cfgM m hO).win 9).blk t).view.emb (ix3 0 r j) = ix3 (grid0.coords t 0) (row (grid0.coords t) r) j := by
    blk_ext [e, row]
  blk_simp
  rw [after0_9, p]
  exact (leaves m d hd hO c t r j).2.1.trans (hG _ _ _).symm

theorem final_10 (c : Dev nD) (G : Vec Ideal S2x1024x512 .f32) (hG : ∀ l q j, G (ix3 l q j) = mNew (gradOf m d c l q j) ((m ((c : Thread nD τ).loc main_arg6)) (ix3 l q j))) :
    (dats m hO 0 c).arrAt 10 (cfgM m hO).N = G := by
  refine (dats m hO 0 c).arrAt_eq_of_covers 10 _ (covers_of m d hd hO).2.2.1 fun t hf y => ?_
  obtain ⟨r, j, rfl⟩ := one_idx y
  have e : ((cfgM m hO).win 10).index t = _ := (congrArg (ix0 · 10 (grid0.coords t)) (tbl_eq m d hd)).trans (idx d (grid0.coords t)).2.2.2.2.2.2.2.2.2.1
  have p : (((cfgM m hO).win 10).blk t).view.emb (ix3 0 r j) = ix3 (grid0.coords t 0) (row (grid0.coords t) r) j := by
    blk_ext [e, row]
  blk_simp
  rw [after0_10, p]
  exact (leaves m d hd hO c t r j).2.2.1.trans (hG _ _ _).symm

theorem final_11 (c : Dev nD) (G : Vec Ideal S2x1024x512 .f32) (hG : ∀ l q j, G (ix3 l q j) = vNew (gradOf m d c l q j) ((m ((c : Thread nD τ).loc main_arg7)) (ix3 l q j))) :
    (dats m hO 0 c).arrAt 11 (cfgM m hO).N = G := by
  refine (dats m hO 0 c).arrAt_eq_of_covers 11 _ (covers_of m d hd hO).2.2.2 fun t hf y => ?_
  obtain ⟨r, j, rfl⟩ := one_idx y
  have e : ((cfgM m hO).win 11).index t = _ := (congrArg (ix0 · 11 (grid0.coords t)) (tbl_eq m d hd)).trans (idx d (grid0.coords t)).2.2.2.2.2.2.2.2.2.2
  have p : (((cfgM m hO).win 11).blk t).view.emb (ix3 0 r j) = ix3 (grid0.coords t 0) (row (grid0.coords t) r) j := by
    blk_ext [e, row]
  blk_simp
  rw [after0_11, p]
  exact (leaves m d hd hO c t r j).2.2.2.trans (hG _ _ _).symm

end Cert.ShardUp
end
-- ==== Proof.ShardUpClaim.lean ====
module
public import proofs.«01_k».proof.Defs
public import proofs.«01_k».proof.Proof.Gen.Pre_pre14
public import proofs.«01_k».proof.Proof.Gen.Reference14Ideal.Run
public import proofs.«01_k».proof.Proof.Gen.Reference14Ideal.Read
public import proofs.«01_k».proof.Proof.ShardUpSpec
public import proofs.«01_k».proof.Proof.ShardUpArrays
public import Idealize.ShloMosaic.Lib.Pointwise
@[expose] public section
set_option maxRecDepth 16384
noncomputable section
namespace Cert.ShardUp
open Idealize.ShloMosaic Idealize.ShloMosaic.TcCoe Idealize.ShloMosaic.Pointwise Idealize.SL.Sem Cert.Adam Cert.Kernel14Ideal Cert.Kernel14Ideal.Gen

/-- The precondition names one of the eight devices. -/
theorem device_of_pre (m : (ℓ : Loc nD τ sig) → Buf (Elt Ideal) ℓ) (h : Cert.Pre_Kernel14Ideal m) :
    ∃ d : Fin 8, ∀ c : Dev nD, (m ((c : Thread nD τ).loc main_arg0)) = fun _ => BitVec.ofNat 32 d.val := by
  obtain ⟨d, hd⟩ := device ((m (((0 : Dev nD) : Thread nD τ).loc main_arg0)) (ix1 0)) (congrFun (h 0) (ix1 0))
  refine ⟨d, fun c => funext fun i => ?_⟩
  rw [Subsingleton.elim (α := Fin 1) c 0, (eq_ix1 i).trans (congrArg ix1 (Subsingleton.elim (α := Fin 1) _ _))]
  exact hd

theorem ok_of_pre (m : (ℓ : Loc nD τ sig) → Buf (Elt Ideal) ℓ) (h : Cert.Pre_Kernel14Ideal m) : Ok m := by
  obtain ⟨d, hd⟩ := device_of_pre m h
  exact ok m d hd

/-- The two programs leave the same arrays. -/
theorem algebraic : Cert.algebraic_Kernel14Ideal_Reference14Ideal := by
  intro m g m' g' hP hag
  obtain ⟨d, hd⟩ := device_of_pre m hP
  have hO := ok m d hd
  refine ⟨fun c => Cert.Reference14Ideal.Read.val_main_v17 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)),
      fun c => Cert.Reference14Ideal.Read.val_main_v41 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)),
      fun c => Cert.Reference14Ideal.Read.val_main_v22 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg6)),
      fun c => Cert.Reference14Ideal.Read.val_main_v28 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg7)), ?_, ?_⟩
  · refine (θ_run _ _ _).mono (fun r h c => ?_) (θ_run_and (run_main m g hO) (unchanged m g hO))
    have G := Plain.v17_at (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) d (congrFun (hd c) _)
    exact ⟨((h.1 c).1 8).trans (final_8 m d hd hO c _ fun l q j => G l q j),
      ((h.1 c).1 9).trans (final_9 m d hd hO c _ fun l q j =>
        (Plain.v41_at (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) l q j).trans (congrArg (delta _ · _ _) (G l q j))),
      ((h.1 c).1 10).trans (final_10 m d hd hO c _ fun l q j =>
        (Plain.v22_at (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg6)) l q j).trans (congrArg (mNew · _) (G l q j))),
      ((h.1 c).1 11).trans (final_11 m d hd hO c _ fun l q j =>
        (Plain.v28_at (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg7)) l q j).trans (congrArg (vNew · _) (G l q j))), h.2 c⟩
  · refine (θ_run _ _ _).mono (fun r h c => ?_) (Cert.Reference14Ideal.Value.run (F := Ideal) m' g')
    obtain ⟨h0, h1, h2, h3, a0, a1, a2, a3, a4, a5, a6, a7⟩ := h c
    obtain ⟨e0, e1, e2, e3, e4, e5, e6, e7⟩ := hag c
    have r0 := h0.trans (Cert.Reference14Ideal.Read.val_main_v17_eq (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4)))
    rw [e0, e1, e2, e3, e4] at r0
    have r1 := h1.trans (Cert.Reference14Ideal.Read.val_main_v41_eq m' c)
    rw [e0, e1, e2, e3, e4, e5, e6, e7] at r1
    have r2 := h2.trans (Cert.Reference14Ideal.Read.val_main_v22_eq (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg6)))
    rw [e0, e1, e2, e3, e4, e6] at r2
    have r3 := h3.trans (Cert.Reference14Ideal.Read.val_main_v28_eq (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg7)))
    rw [e0, e1, e2, e3, e4, e7] at r3
    exact ⟨r0, r1, r2, r3, a0, a1, a2, a3, a4, a5, a6, a7⟩
end Cert.ShardUp
end
-- ==== Proof.ShardUpFrame.lean ====
module
public import proofs.«01_k».proof.Defs
public import proofs.«01_k».proof.Proof.Gen.Kernel14.Frame
public import proofs.«01_k».proof.Proof.Gen.Pre_pre14
public import proofs.«01_k».proof.Proof.Adam
public import Idealize.ShloMosaic.Lib.Pointwise
@[expose] public section
set_option maxRecDepth 16384
noncomputable section
namespace Cert.ShardUp.AtBits
open Idealize.ShloMosaic Idealize.ShloMosaic.TcCoe Idealize.ShloMosaic.Pointwise Cert.Adam Cert.Kernel14 Cert.Kernel14.Gen

/-- The table that names device `d`. -/
def tableOf (d : Fin 8) : pre0.Contents (Elt Bits) := fun | ⟨0, _⟩ => fun _ => BitVec.ofNat 32 d.val | ⟨_ + 1, h⟩ => absurd h (by simp)

theorem ok_table : ∀ d : Fin 8, ok0 (F := Bits) (tableOf d) := by decide

/-- A device number in range makes every block the table picks lie in its array. -/
theorem ok_of_pre (m : (ℓ : Loc nD τ sig) → Buf (Elt Bits) ℓ) (h : Cert.Pre_Kernel14 m) : Ok m := by
  obtain ⟨d, hd⟩ := device ((m (((0 : Dev nD) : Thread nD τ).loc main_arg0)) (ix1 0)) (congrFun (h 0) (ix1 0))
  have e : tbl m = tableOf d := by
    funext j
    match j with
    | ⟨0, _⟩ =>
      refine (V_main_arg0 m 0).trans (funext fun i => ?_)
      rw [(eq_ix1 i).trans (congrArg ix1 (Subsingleton.elim (α := Fin 1) _ _))]
      exact hd
  unfold Ok
  rw [e]
  exact ok_table d
end Cert.ShardUp.AtBits
end
-- ==== Proof.ShardDownSpec.lean ====
module
public import proofs.«01_k».proof.Proof.Adam
public import proofs.«01_k».proof.Proof.Gen.Reference15Ideal.Read
public import Idealize.ShloMosaic.Lib.Pointwise
@[expose] public section
set_option maxRecDepth 16384
noncomputable section
namespace Cert.ShardDown.Plain
open Idealize.ShloMosaic Idealize.ShloMosaic.TcCoe Idealize.SL.Sem Idealize.ShloMosaic.Pointwise Cert.Adam Cert.Reference15Ideal Cert.Reference15Ideal.Read

variable (x0 : IVec S1 32) (x1 x2 : FVec Ideal S8x512x1024 .f32) (x3 x4 : FVec Ideal S7x512x1024 .bf16) (x5 x6 x7 : FVec Ideal S2x512x1024 .f32)

/-- The gradient at one entry: device `d`'s own part and the seven received ones. -/
def gradAt (own : FVec Ideal S8x512x1024 .f32) (recv : FVec Ideal S7x512x1024 .bf16) (d : Fin 8) (r : Fin 512) (j : Fin 1024) : EReal :=
  own (ix3 d r j) + ∑ s : Fin 7, recv (ix3 s r j)

theorem v17_at (d : Fin 8) (h : x0 (ix1 0) = BitVec.ofNat 32 d.val) (l : Fin 2) (r : Fin 512) (j : Fin 1024) :
    val_main_v17 (F := Ideal) x0 x1 x2 x3 x4 (ix3 l r j) = if l.val < 1 then gradAt x1 x3 d r j else gradAt x2 x4 d r j := by
  pointwise [val_main_v17, val_main_v15, val_main_v16, val_main_v9, val_main_v14, val_main_v6, val_main_v8, val_main_v11, val_main_v13, val_main_cst_0, val_main_v5, val_main_cst_1, val_main_v7, val_main_cst_3, val_main_v10, val_main_cst_4, val_main_v12, val_main_call0_v1, val_main_call0_v2, val_main_call1_v1, val_main_call1_v2, val_main_v4, val_main_call0_v0, val_main_call1_v0, val_main_v3, val_main_cst, val_main_cst_2, val_main_v0, val_main_v2, val_main_v1]
  split
  · exact congrArg (· + _) (pick _ _ d h)
  · exact congrArg (· + _) (pick _ _ d h)
theorem v22_at (l : Fin 2) (r : Fin 512) (j : Fin 1024) :
    val_main_v22 (F := Ideal) x0 x1 x2 x3 x4 x6 (ix3 l r j)
      = mNew (val_main_v17 (F := Ideal) x0 x1 x2 x3 x4 (ix3 l r j)) (x6 (ix3 l r j)) := by
  pointwise [val_main_v22, val_main_v19, val_main_v21, val_main_v18, val_main_v20, val_main_cst_5, val_main_cst_6]
  rfl
theorem v28_at (l : Fin 2) (r : Fin 512) (j : Fin 1024) :
    val_main_v28 (F := Ideal) x0 x1 x2 x3 x4 x7 (ix3 l r j)
      = vNew (val_main_v17 (F := Ideal) x0 x1 x2 x3 x4 (ix3 l r j)) (x7 (ix3 l r j)) := by
  pointwise [val_main_v28, val_main_v24, val_main_v27, val_main_v23, val_main_v25, val_main_v26, val_main_cst_7, val_main_cst_8]
  rfl
theorem v41_at (l : Fin 2) (r : Fin 512) (j : Fin 1024) :
    val_main_v41 (F := Ideal) x0 x1 x2 x3 x4 x5 x6 x7 (ix3 l r j)
      = delta (x5 (ix3 l r j)) (val_main_v17 (F := Ideal) x0 x1 x2 x3 x4 (ix3 l r j)) (x6 (ix3 l r j)) (x7 (ix3 l r j)) := by
  pointwise [val_main_v41, val_main_v39, val_main_v40, val_main_v36, val_main_v38, val_main_cst_13, val_main_v30, val_main_v35, val_main_v37, val_main_v22, val_main_v29, val_main_v33, val_main_v34, val_main_cst_12, val_main_v19, val_main_v21, val_main_cst_9, val_main_v32, val_main_cst_11, val_main_v18, val_main_v20, val_main_v28, val_main_v31, val_main_cst_5, val_main_cst_6, val_main_v24, val_main_v27, val_main_cst_10, val_main_v23, val_main_v25, val_main_v26, val_main_cst_7, val_main_cst_8]
  rfl
end Cert.ShardDown.Plain
end
-- ==== Proof.ShardDownArrays.lean ====
module
public import proofs.«01_k».proof.Proof.Gen.Kernel15Ideal.Frame
public import proofs.«01_k».proof.Proof.Adam
public import Idealize.ShloMosaic.Lib.Pointwise
public import Idealize.ShloMosaic.Lib.Pipeline.ValueKit
public import Idealize.ShloMosaic.Lib.Pipeline.ReadBack
@[expose] public section
set_option maxRecDepth 16384
noncomputable section
namespace Cert.ShardDown
open Idealize.ShloMosaic Idealize.ShloMosaic.TcCoe Idealize.SL.Sem Idealize.ShloMosaic.Pointwise Cert.Adam Cert.Kernel15Ideal Cert.Kernel15Ideal.Gen
open Idealize.ShloMosaic.Pipeline (Dat)

/-- The table that names device `d`. -/
def tableOf (d : Fin 8) : pre0.Contents (Elt Ideal) := fun | ⟨0, _⟩ => fun _ => BitVec.ofNat 32 d.val | ⟨_ + 1, h⟩ => absurd h (by simp)

variable (m : (ℓ : Loc nD τ sig) → Buf (Elt Ideal) ℓ)

theorem tbl_eq (d : Fin 8) (h : ∀ c : Dev nD, (m ((c : Thread nD τ).loc main_arg0)) = fun _ => BitVec.ofNat 32 d.val) : tbl m = tableOf d := by
  funext j
  match j with
  | ⟨0, _⟩ => exact (V_main_arg0 m 0).trans (h 0)

theorem ok_table : ∀ d : Fin 8, ok0 (F := Ideal) (tableOf d) := by decide

theorem ok (d : Fin 8) (h : ∀ c : Dev nD, (m ((c : Thread nD τ).loc main_arg0)) = fun _ => BitVec.ofNat 32 d.val) : Ok m := by
  unfold Ok; rw [tbl_eq m d h]; exact ok_table d

/-- Every window's block at every grid point: a point names a layer and a block of rows. -/
theorem idx : ∀ d : Fin 8, ∀ i : grid0.Coords, ix0 (tableOf d) 0 i = ![d.val, if (i 0).val = 0 then (i 1).val else 1, 0]
    ∧ ix0 (tableOf d) 1 i = ![0, if (i 0).val = 0 then (i 1).val else 1, 0]
    ∧ ix0 (tableOf d) 2 i = ![d.val, if (i 0).val = 1 then (i 1).val else 0, 0]
    ∧ ix0 (tableOf d) 3 i = ![0, if (i 0).val = 1 then (i 1).val else 0, 0]
    ∧ ix0 (tableOf d) 4 i = ![(i 0).val, (i 1).val, 0]
    ∧ ix0 (tableOf d) 5 i = ![(i 0).val, (i 1).val, 0]
    ∧ ix0 (tableOf d) 6 i = ![(i 0).val, (i 1).val, 0]
    ∧ ix0 (tableOf d) 8 i = ![(i 0).val, (i 1).val, 0]
    ∧ ix0 (tableOf d) 9 i = ![(i 0).val, (i 1).val, 0]
    ∧ ix0 (tableOf d) 10 i = ![(i 0).val, (i 1).val, 0]
    ∧ ix0 (tableOf d) 11 i = ![(i 0).val, (i 1).val, 0] := by decide

/-- Row `r` of the block of rows of grid point `i`. -/
def row (i : grid0.Coords) (r : Fin 256) : Fin 512 := ⟨(i 1).val * 256 + r.val, by have : (i 1).val < 2 := (i 1).isLt; omega⟩

variable (d : Fin 8) (hd : ∀ c : Dev nD, (m ((c : Thread nD τ).loc main_arg0)) = fun _ => BitVec.ofNat 32 d.val) (hO : Ok m)

include hd
theorem reads_0 (c : Dev nD) (t : Fin (cfgM m hO).N) (h : (grid0.coords t 0).val = 0) (r : Fin 256) (j : Fin 1024) :
    iblk m hO c 0 t (ix3 0 r j) = (m ((c : Thread nD τ).loc main_arg1)) (ix3 d (row (grid0.coords t) r) j) := by
  rw [← V_main_arg1 m c]
  have e : ((cfgM m hO).win 0).index t = _ := (congrArg (ix0 · 0 (grid0.coords t)) (tbl_eq m d hd)).trans (idx d (grid0.coords t)).1
  rw [if_pos h] at e
  blk_simp [iblk]
  blk_ext [e, row]

theorem reads_1 (c : Dev nD) (t : Fin (cfgM m hO).N) (h : (grid0.coords t 0).val = 0) (s : Fin 7) (r : Fin 256) (j : Fin 1024) :
    iblk m hO c 1 t (ix3 s r j) = (m ((c : Thread nD τ).loc main_arg3)) (ix3 s (row (grid0.coords t) r) j) := by
  rw [← V_main_arg3 m c]
  have e : ((cfgM m hO).win 1).index t = _ := (congrArg (ix0 · 1 (grid0.coords t)) (tbl_eq m d hd)).trans (idx d (grid0.coords t)).2.1
  rw [if_pos h] at e
  blk_simp [iblk]
  blk_ext [e, row]

theorem reads_2 (c : Dev nD) (t : Fin (cfgM m hO).N) (h : (grid0.coords t 0).val = 1) (r : Fin 256) (j : Fin 1024) :
    iblk m hO c 2 t (ix3 0 r j) = (m ((c : Thread nD τ).loc main_arg2)) (ix3 d (row (grid0.coords t) r) j) := by
  rw [← V_main_arg2 m c]
  have e : ((cfgM m hO).win 2).index t = _ := (congrArg (ix0 · 2 (grid0.coords t)) (tbl_eq m d hd)).trans (idx d (grid0.coords t)).2.2.1
  rw [if_pos h] at e
  blk_simp [iblk]
  blk_ext [e, row]

theorem reads_3 (c : Dev nD) (t : Fin (cfgM m hO).N) (h : (grid0.coords t 0).val = 1) (s : Fin 7) (r : Fin 256) (j : Fin 1024) :
    iblk m hO c 3 t (ix3 s r j) = (m ((c : Thread nD τ).loc main_arg4)) (ix3 s (row (grid0.coords t) r) j) := by
  rw [← V_main_arg4 m c]
  have e : ((cfgM m hO).win 3).index t = _ := (congrArg (ix0 · 3 (grid0.coords t)) (tbl_eq m d hd)).trans (idx d (grid0.coords t)).2.2.2.1
  rw [if_pos h] at e
  blk_simp [iblk]
  blk_ext [e, row]

theorem reads_4 (c : Dev nD) (t : Fin (cfgM m hO).N) (r : Fin 256) (j : Fin 1024) :
    iblk m hO c 4 t (ix3 0 r j) = (m ((c : Thread nD τ).loc main_arg5)) (ix3 (grid0.coords t 0) (row (grid0.coords t) r) j) := by
  rw [← V_main_arg5 m c]
  have e : ((cfgM m hO).win 4).index t = _ := (congrArg (ix0 · 4 (grid0.coords t)) (tbl_eq m d hd)).trans (idx d (grid0.coords t)).2.2.2.2.1
  blk_simp [iblk]
  blk_ext [e, row]

theorem reads_5 (c : Dev nD) (t : Fin (cfgM m hO).N) (r : Fin 256) (j : Fin 1024) :
    iblk m hO c 5 t (ix3 0 r j) = (m ((c : Thread nD τ).loc main_arg6)) (ix3 (grid0.coords t 0) (row (grid0.coords t) r) j) := by
  rw [← V_main_arg6 m c]
  have e : ((cfgM m hO).win 5).index t = _ := (congrArg (ix0 · 5 (grid0.coords t)) (tbl_eq m d hd)).trans (idx d (grid0.coords t)).2.2.2.2.2.1
  blk_simp [iblk]
  blk_ext [e, row]

theorem reads_6 (c : Dev nD) (t : Fin (cfgM m hO).N) (r : Fin 256) (j : Fin 1024) :
    iblk m hO c 6 t (ix3 0 r j) = (m ((c : Thread nD τ).loc main_arg7)) (ix3 (grid0.coords t 0) (row (grid0.coords t) r) j) := by
  rw [← V_main_arg7 m c]
  have e : ((cfgM m hO).win 6).index t = _ := (congrArg (ix0 · 6 (grid0.coords t)) (tbl_eq m d hd)).trans (idx d (grid0.coords t)).2.2.2.2.2.2.1
  blk_simp [iblk]
  blk_ext [e, row]

/-- The gradient at one entry: device `d`'s own part and the seven received ones. -/
def gradAt (own : Vec Ideal S8x512x1024 .f32) (recv : Vec Ideal S7x512x1024 .bf16) (r : Fin 512) (j : Fin 1024) : EReal :=
  own (ix3 d r j) + ∑ s : Fin 7, recv (ix3 s r j)

/-- The same, of layer `l`. -/
def gradOf (c : Dev nD) (l : Fin 2) (r : Fin 512) (j : Fin 1024) : EReal :=
  if l.val < 1 then gradAt d (m ((c : Thread nD τ).loc main_arg1)) (m ((c : Thread nD τ).loc main_arg3)) r j
  else gradAt d (m ((c : Thread nD τ).loc main_arg2)) (m ((c : Thread nD τ).loc main_arg4)) r j

omit hd in
theorem sum_at (x0 : Vec Ideal S1x256x1024 .f32) (x1 : Vec Ideal S7x256x1024 .bf16) (r : Fin 256) (j : Fin 1024) :
   k0_pay5 x0 (View.ld x1
          (Rect.unit ![0, 0, 0] ![1, 256, 1024] inb_S7x256x1024_S1x256x1024_0_0_0))
        (View.ld x1
          (Rect.unit ![1, 0, 0] ![1, 256, 1024] inb_S7x256x1024_S1x256x1024_1_0_0))
        (View.ld x1
          (Rect.unit ![2, 0, 0] ![1, 256, 1024] inb_S7x256x1024_S1x256x1024_2_0_0))
        (View.ld x1
          (Rect.unit ![3, 0, 0] ![1, 256, 1024] inb_S7x256x1024_S1x256x1024_3_0_0))
        (View.ld x1
          (Rect.unit ![4, 0, 0] ![1, 256, 1024] inb_S7x256x1024_S1x256x1024_4_0_0))
        (View.ld x1
          (Rect.unit ![5, 0, 0] ![1, 256, 1024] inb_S7x256x1024_S1x256x1024_5_0_0))
        (View.ld x1
          (Rect.unit ![6, 0, 0] ![1, 256, 1024] inb_S7x256x1024_S1x256x1024_6_0_0)) (ix2 r j)
      = x0 (ix3 0 r j) + ∑ s : Fin 7, x1 (ix3 s r j) := by
  simp only [Fin.sum_univ_seven, ← add_assoc]
  pointwise [k0_pay5]

omit hd in
theorem new_at (g : FVec Ideal S256x1024 .f32) (w x5 x6 : Vec Ideal S1x256x1024 .f32) (r : Fin 256) (j : Fin 1024) :
   k0_pay9 g (ix3 0 r j) = g (ix2 r j)
   ∧ k0_pay10 g (k0_pay6 w) x5 x6 (ix3 0 r j) = delta (w (ix3 0 r j)) (g (ix2 r j)) (x5 (ix3 0 r j)) (x6 (ix3 0 r j))
   ∧ k0_pay1 (k0_pay7 g x5) (ix3 0 r j) = mNew (g (ix2 r j)) (x5 (ix3 0 r j))
   ∧ k0_pay2 (k0_pay8 g x6) (ix3 0 r j) = vNew (g (ix2 r j)) (x6 (ix3 0 r j)) := by
  refine ⟨?_, ?_, ?_, ?_⟩
  · pointwise [k0_pay9]
  · pointwise [k0_pay10, k0_pay7, k0_pay8, k0_pay6]
    rfl
  · pointwise [k0_pay1, k0_pay7]
    rfl
  · pointwise [k0_pay2, k0_pay8]
    rfl
omit hd in
/-- The second layer's operations are the first layer's. -/
theorem same : k0_pay11 (F := Ideal) = k0_pay5 ∧ k0_pay12 (F := Ideal) = k0_pay6 ∧ k0_pay13 (F := Ideal) = k0_pay7 ∧ k0_pay14 (F := Ideal) = k0_pay8
    ∧ k0_pay15 (F := Ideal) = k0_pay9 ∧ k0_pay16 (F := Ideal) = k0_pay10 ∧ k0_pay3 (F := Ideal) = k0_pay1 ∧ k0_pay4 (F := Ideal) = k0_pay2 :=
  ⟨rfl, rfl, rfl, rfl, rfl, rfl, rfl, rfl⟩

omit hd in
theorem first : ∀ t : Fin grid0.N, t.val < 2 → (grid0.coords t 0).val = 0 := by decide
omit hd in
theorem second : ∀ t : Fin grid0.N, ¬ t.val < 2 → (grid0.coords t 0).val = 1 := by decide

/-- What the body leaves at a grid point, entry by entry. -/
def Leaves (c : Dev nD) (t : Fin (cfgM m hO).N) (o : Vec Ideal S1x256x1024 .f32 × Vec Ideal S1x256x1024 .f32 × Vec Ideal S1x256x1024 .f32 × Vec Ideal S1x256x1024 .f32)
    (r : Fin 256) (j : Fin 1024) : Prop :=
  let l := grid0.coords t 0
  let q := row (grid0.coords t) r
  let w : EReal := (m ((c : Thread nD τ).loc main_arg5)) (ix3 l q j)
  let m0 : EReal := (m ((c : Thread nD τ).loc main_arg6)) (ix3 l q j)
  let v0 : EReal := (m ((c : Thread nD τ).loc main_arg7)) (ix3 l q j)
  o.1 (ix3 0 r j) = gradOf m d c l q j
    ∧ o.2.1 (ix3 0 r j) = delta w (gradOf m d c l q j) m0 v0
    ∧ o.2.2.1 (ix3 0 r j) = mNew (gradOf m d c l q j) m0
    ∧ o.2.2.2 (ix3 0 r j) = vNew (gradOf m d c l q j) v0

theorem leaves (c : Dev nD) (t : Fin (cfgM m hO).N) (r : Fin 256) (j : Fin 1024) :
    Leaves m d hO c t (outsAt0 m hO c t.val t.isLt) r j := by
  have e4 := (hs0_4 m hO t).read_unread (Val := Elt Ideal) (iblk m hO c 4 t)
  have e5 := (hs0_5 m hO t).read_unread (Val := Elt Ideal) (iblk m hO c 5 t)
  have e6 := (hs0_6 m hO t).read_unread (Val := Elt Ideal) (iblk m hO c 6 t)
  have r4 := reads_4 m d hd hO c t r j
  have r5 := reads_5 m d hd hO c t r j
  have r6 := reads_6 m d hd hO c t r j
  by_cases h0 : t.val < 2
  · have l0 := first t h0
    have e0 := (hs0_0 m hO t).read_unread (Val := Elt Ideal) (iblk m hO c 0 t)
    have e1 := (hs0_1 m hO t).read_unread (Val := Elt Ideal) (iblk m hO c 1 t)
    rw [outsAt0_A m hO c t h0 (by omega)]
    unfold Leaves
    dsimp only
    frame_out
    rw [e0, e1, e4, e5, e6]
    have g : gradOf m d c (grid0.coords t 0) (row (grid0.coords t) r) j = _ :=
      (if_pos (by omega)).trans ((sum_at (iblk m hO c 0 t) (iblk m hO c 1 t) r j).trans (congrArg₂ (· + ·) (reads_0 m d hd hO c t l0 r j) (Finset.sum_congr rfl fun s _ => reads_1 m d hd hO c t l0 s r j))).symm
    rw [g, ← r4, ← r5, ← r6]
    exact new_at _ _ _ _ r j
  · have l1 := second t h0
    have e0 := (hs0_2 m hO t).read_unread (Val := Elt Ideal) (iblk m hO c 2 t)
    have e1 := (hs0_3 m hO t).read_unread (Val := Elt Ideal) (iblk m hO c 3 t)
    rw [outsAt0_B m hO c t h0 (by omega)]
    unfold Leaves
    dsimp only
    frame_out
    rw [e0, e1, e4, e5, e6]
    have g : gradOf m d c (grid0.coords t 0) (row (grid0.coords t) r) j = _ :=
      (if_neg (by omega)).trans ((sum_at (iblk m hO c 2 t) (iblk m hO c 3 t) r j).trans (congrArg₂ (· + ·) (reads_2 m d hd hO c t l1 r j) (Finset.sum_congr rfl fun s _ => reads_3 m d hd hO c t l1 s r j))).symm
    rw [g, ← r4, ← r5, ← r6]
    obtain ⟨s0, s1, s2, s3, s4, s5, s6, s7⟩ := same
    rw [s0, s1, s2, s3, s4, s5, s6, s7]
    exact new_at _ _ _ _ r j

theorem adm_eq : adm m hO = ⟨tableOf d, ok_table d⟩ := Subtype.ext (tbl_eq m d hd)

omit hd in
theorem covers : ∀ d : Fin 8, ((cfg0 ⟨tableOf d, ok_table d⟩).win 8).Covers ∧ ((cfg0 ⟨tableOf d, ok_table d⟩).win 9).Covers
    ∧ ((cfg0 ⟨tableOf d, ok_table d⟩).win 10).Covers ∧ ((cfg0 ⟨tableOf d, ok_table d⟩).win 11).Covers := by decide +kernel

theorem covers_of : ((cfgM m hO).win 8).Covers ∧ ((cfgM m hO).win 9).Covers ∧ ((cfgM m hO).win 10).Covers ∧ ((cfgM m hO).win 11).Covers := by
  have key : ∀ a : (pcfg0 (F := Ideal)).Adm, a = ⟨tableOf d, ok_table d⟩ →
      ((cfg0 a).win 8).Covers ∧ ((cfg0 a).win 9).Covers ∧ ((cfg0 a).win 10).Covers ∧ ((cfg0 a).win 11).Covers := by
    rintro _ rfl
    exact covers d
  exact key _ (adm_eq m d hd hO)

omit hd in
theorem one_idx (y : S1x256x1024.Idx) : ∃ (r : Fin 256) (j : Fin 1024), y = ix3 0 r j :=
  ⟨y 1, y 2, (eq_ix3 y).trans (congrArg (ix3 · (y 1) (y 2)) (Subsingleton.elim (α := Fin 1) _ _))⟩

theorem final_8 (c : Dev nD) (G : Vec Ideal S2x512x1024 .f32) (hG : ∀ l q j, G (ix3 l q j) = gradOf m d c l q j) :
    (dats m hO 0 c).arrAt 8 (cfgM m hO).N = G := by
  refine (dats m hO 0 c).arrAt_eq_of_covers 8 _ (covers_of m d hd hO).1 fun t hf y => ?_
  obtain ⟨r, j, rfl⟩ := one_idx y
  have e : ((cfgM m hO).win 8).index t = _ := (congrArg (ix0 · 8 (grid0.coords t)) (tbl_eq m d hd)).trans (idx d (grid0.coords t)).2.2.2.2.2.2.2.1
  have p : (((cfgM m hO).win 8).blk t).view.emb (ix3 0 r j) = ix3 (grid0.coords t 0) (row (grid0.coords t) r) j := by
    blk_ext [e, row]
  blk_simp
  rw [after0_8, p]
  exact (leaves m d hd hO c t r j).1.trans (hG _ _ _).symm

theorem final_9 (c : Dev nD) (G : Vec Ideal S2x512x1024 .f32) (hG : ∀ l q j, G (ix3 l q j) = delta ((m ((c : Thread nD τ).loc main_arg5)) (ix3 l q j)) (gradOf m d c l q j) ((m ((c : Thread nD τ).loc main_arg6)) (ix3 l q j)) ((m ((c : Thread nD τ).loc main_arg7)) (ix3 l q j))) :
    (dats m hO 0 c).arrAt 9 (cfgM m hO).N = G := by
  refine (dats m hO 0 c).arrAt_eq_of_covers 9 _ (covers_of m d hd hO).2.1 fun t hf y => ?_
  obtain ⟨r, j, rfl⟩ := one_idx y
  have e : ((cfgM m hO).win 9).index t = _ := (congrArg (ix0 · 9 (grid0.coords t)) (tbl_eq m d hd)).trans (idx d (grid0.coords t)).2.2.2.2.2.2.2.2.1
  have p : (((cfgM m hO).win 9).blk t).view.emb (ix3 0 r j) = ix3 (grid0.coords t 0) (row (grid0.coords t) r) j := by
    blk_ext [e, row]
  blk_simp
  rw [after0_9, p]
  exact (leaves m d hd hO c t r j).2.1.trans (hG _ _ _).symm

theorem final_10 (c : Dev nD) (G : Vec Ideal S2x512x1024 .f32) (hG : ∀ l q j, G (ix3 l q j) = mNew (gradOf m d c l q j) ((m ((c : Thread nD τ).loc main_arg6)) (ix3 l q j))) :
    (dats m hO 0 c).arrAt 10 (cfgM m hO).N = G := by
  refine (dats m hO 0 c).arrAt_eq_of_covers 10 _ (covers_of m d hd hO).2.2.1 fun t hf y => ?_
  obtain ⟨r, j, rfl⟩ := one_idx y
  have e : ((cfgM m hO).win 10).index t = _ := (congrArg (ix0 · 10 (grid0.coords t)) (tbl_eq m d hd)).trans (idx d (grid0.coords t)).2.2.2.2.2.2.2.2.2.1
  have p : (((cfgM m hO).win 10).blk t).view.emb (ix3 0 r j) = ix3 (grid0.coords t 0) (row (grid0.coords t) r) j := by
    blk_ext [e, row]
  blk_simp
  rw [after0_10, p]
  exact (leaves m d hd hO c t r j).2.2.1.trans (hG _ _ _).symm

theorem final_11 (c : Dev nD) (G : Vec Ideal S2x512x1024 .f32) (hG : ∀ l q j, G (ix3 l q j) = vNew (gradOf m d c l q j) ((m ((c : Thread nD τ).loc main_arg7)) (ix3 l q j))) :
    (dats m hO 0 c).arrAt 11 (cfgM m hO).N = G := by
  refine (dats m hO 0 c).arrAt_eq_of_covers 11 _ (covers_of m d hd hO).2.2.2 fun t hf y => ?_
  obtain ⟨r, j, rfl⟩ := one_idx y
  have e : ((cfgM m hO).win 11).index t = _ := (congrArg (ix0 · 11 (grid0.coords t)) (tbl_eq m d hd)).trans (idx d (grid0.coords t)).2.2.2.2.2.2.2.2.2.2
  have p : (((cfgM m hO).win 11).blk t).view.emb (ix3 0 r j) = ix3 (grid0.coords t 0) (row (grid0.coords t) r) j := by
    blk_ext [e, row]
  blk_simp
  rw [after0_11, p]
  exact (leaves m d hd hO c t r j).2.2.2.trans (hG _ _ _).symm

end Cert.ShardDown
end
-- ==== Proof.ShardDownClaim.lean ====
module
public import proofs.«01_k».proof.Defs
public import proofs.«01_k».proof.Proof.Gen.Pre_pre15
public import proofs.«01_k».proof.Proof.Gen.Reference15Ideal.Run
public import proofs.«01_k».proof.Proof.Gen.Reference15Ideal.Read
public import proofs.«01_k».proof.Proof.ShardDownSpec
public import proofs.«01_k».proof.Proof.ShardDownArrays
public import Idealize.ShloMosaic.Lib.Pointwise
@[expose] public section
set_option maxRecDepth 16384
noncomputable section
namespace Cert.ShardDown
open Idealize.ShloMosaic Idealize.ShloMosaic.TcCoe Idealize.ShloMosaic.Pointwise Idealize.SL.Sem Cert.Adam Cert.Kernel15Ideal Cert.Kernel15Ideal.Gen

/-- The precondition names one of the eight devices. -/
theorem device_of_pre (m : (ℓ : Loc nD τ sig) → Buf (Elt Ideal) ℓ) (h : Cert.Pre_Kernel15Ideal m) :
    ∃ d : Fin 8, ∀ c : Dev nD, (m ((c : Thread nD τ).loc main_arg0)) = fun _ => BitVec.ofNat 32 d.val := by
  obtain ⟨d, hd⟩ := device ((m (((0 : Dev nD) : Thread nD τ).loc main_arg0)) (ix1 0)) (congrFun (h 0) (ix1 0))
  refine ⟨d, fun c => funext fun i => ?_⟩
  rw [Subsingleton.elim (α := Fin 1) c 0, (eq_ix1 i).trans (congrArg ix1 (Subsingleton.elim (α := Fin 1) _ _))]
  exact hd

theorem ok_of_pre (m : (ℓ : Loc nD τ sig) → Buf (Elt Ideal) ℓ) (h : Cert.Pre_Kernel15Ideal m) : Ok m := by
  obtain ⟨d, hd⟩ := device_of_pre m h
  exact ok m d hd

/-- The two programs leave the same arrays. -/
theorem algebraic : Cert.algebraic_Kernel15Ideal_Reference15Ideal := by
  intro m g m' g' hP hag
  obtain ⟨d, hd⟩ := device_of_pre m hP
  have hO := ok m d hd
  refine ⟨fun c => Cert.Reference15Ideal.Read.val_main_v17 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
      fun c => Cert.Reference15Ideal.Read.val_main_v41 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)),
      fun c => Cert.Reference15Ideal.Read.val_main_v22 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg6)),
      fun c => Cert.Reference15Ideal.Read.val_main_v28 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg7)), ?_, ?_⟩
  · refine (θ_run _ _ _).mono (fun r h c => ?_) (θ_run_and (run_main m g hO) (unchanged m g hO))
    have G := Plain.v17_at (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) d (congrFun (hd c) _)
    exact ⟨((h.1 c).1 8).trans (final_8 m d hd hO c _ fun l q j => G l q j),
      ((h.1 c).1 9).trans (final_9 m d hd hO c _ fun l q j =>
        (Plain.v41_at (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) l q j).trans (congrArg (delta _ · _ _) (G l q j))),
      ((h.1 c).1 10).trans (final_10 m d hd hO c _ fun l q j =>
        (Plain.v22_at (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg6)) l q j).trans (congrArg (mNew · _) (G l q j))),
      ((h.1 c).1 11).trans (final_11 m d hd hO c _ fun l q j =>
        (Plain.v28_at (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg7)) l q j).trans (congrArg (vNew · _) (G l q j))), h.2 c⟩
  · refine (θ_run _ _ _).mono (fun r h c => ?_) (Cert.Reference15Ideal.Value.run (F := Ideal) m' g')
    obtain ⟨h0, h1, h2, h3, a0, a1, a2, a3, a4, a5, a6, a7⟩ := h c
    obtain ⟨e0, e1, e2, e3, e4, e5, e6, e7⟩ := hag c
    have r0 := h0.trans (Cert.Reference15Ideal.Read.val_main_v17_eq (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) (m' ((c.tc : Thread Cert.Reference15Ideal.nD Cert.Reference15Ideal.τ).loc Cert.Reference15Ideal.main_arg4)))
    rw [e0, e1, e2, e3, e4] at r0
    have r1 := h1.trans (Cert.Reference15Ideal.Read.val_main_v41_eq m' c)
    rw [e0, e1, e2, e3, e4, e5, e6, e7] at r1
    have r2 := h2.trans (Cert.Reference15Ideal.Read.val_main_v22_eq (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) (m' ((c.tc : Thread Cert.Reference15Ideal.nD Cert.Reference15Ideal.τ).loc Cert.Reference15Ideal.main_arg4)) (m' ((c.tc : Thread Cert.Reference15Ideal.nD Cert.Reference15Ideal.τ).loc Cert.Reference15Ideal.main_arg6)))
    rw [e0, e1, e2, e3, e4, e6] at r2
    have r3 := h3.trans (Cert.Reference15Ideal.Read.val_main_v28_eq (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) (m' ((c.tc : Thread Cert.Reference15Ideal.nD Cert.Reference15Ideal.τ).loc Cert.Reference15Ideal.main_arg4)) (m' ((c.tc : Thread Cert.Reference15Ideal.nD Cert.Reference15Ideal.τ).loc Cert.Reference15Ideal.main_arg7)))
    rw [e0, e1, e2, e3, e4, e7] at r3
    exact ⟨r0, r1, r2, r3, a0, a1, a2, a3, a4, a5, a6, a7⟩
end Cert.ShardDown
end
-- ==== Proof.ShardDownFrame.lean ====
module
public import proofs.«01_k».proof.Defs
public import proofs.«01_k».proof.Proof.Gen.Kernel15.Frame
public import proofs.«01_k».proof.Proof.Gen.Pre_pre15
public import proofs.«01_k».proof.Proof.Adam
public import Idealize.ShloMosaic.Lib.Pointwise
@[expose] public section
set_option maxRecDepth 16384
noncomputable section
namespace Cert.ShardDown.AtBits
open Idealize.ShloMosaic Idealize.ShloMosaic.TcCoe Idealize.ShloMosaic.Pointwise Cert.Adam Cert.Kernel15 Cert.Kernel15.Gen

/-- The table that names device `d`. -/
def tableOf (d : Fin 8) : pre0.Contents (Elt Bits) := fun | ⟨0, _⟩ => fun _ => BitVec.ofNat 32 d.val | ⟨_ + 1, h⟩ => absurd h (by simp)

theorem ok_table : ∀ d : Fin 8, ok0 (F := Bits) (tableOf d) := by decide

/-- A device number in range makes every block the table picks lie in its array. -/
theorem ok_of_pre (m : (ℓ : Loc nD τ sig) → Buf (Elt Bits) ℓ) (h : Cert.Pre_Kernel15 m) : Ok m := by
  obtain ⟨d, hd⟩ := device ((m (((0 : Dev nD) : Thread nD τ).loc main_arg0)) (ix1 0)) (congrFun (h 0) (ix1 0))
  have e : tbl m = tableOf d := by
    funext j
    match j with
    | ⟨0, _⟩ =>
      refine (V_main_arg0 m 0).trans (funext fun i => ?_)
      rw [(eq_ix1 i).trans (congrArg ix1 (Subsingleton.elim (α := Fin 1) _ _))]
      exact hd
  unfold Ok
  rw [e]
  exact ok_table d
end Cert.ShardDown.AtBits
end
-- ==== Proof.ShardInSpec.lean ====
module
public import proofs.«01_k».proof.Proof.Adam
public import proofs.«01_k».proof.Proof.Gen.Reference16Ideal.Read
public import Idealize.ShloMosaic.Lib.Pointwise
@[expose] public section
set_option maxRecDepth 16384
noncomputable section
namespace Cert.ShardIn.Plain
open Idealize.ShloMosaic Idealize.ShloMosaic.TcCoe Idealize.SL.Sem Idealize.ShloMosaic.Pointwise Cert.Adam Cert.Reference16Ideal Cert.Reference16Ideal.Read

variable (x0 : IVec S1 32) (x1 x2 : FVec Ideal S8x224x1024 .f32) (x3 x4 : FVec Ideal S7x224x1024 .bf16) (x5 x6 x7 : FVec Ideal S2x224x1024 .f32)

/-- The gradient at one entry: device `d`'s own part and the seven received ones. -/
def gradAt (own : FVec Ideal S8x224x1024 .f32) (recv : FVec Ideal S7x224x1024 .bf16) (d : Fin 8) (r : Fin 224) (j : Fin 1024) : EReal :=
  own (ix3 d r j) + ∑ s : Fin 7, recv (ix3 s r j)

theorem v17_at (d : Fin 8) (h : x0 (ix1 0) = BitVec.ofNat 32 d.val) (l : Fin 2) (r : Fin 224) (j : Fin 1024) :
    val_main_v17 (F := Ideal) x0 x1 x2 x3 x4 (ix3 l r j) = if l.val < 1 then gradAt x1 x3 d r j else gradAt x2 x4 d r j := by
  pointwise [val_main_v17, val_main_v15, val_main_v16, val_main_v9, val_main_v14, val_main_v6, val_main_v8, val_main_v11, val_main_v13, val_main_cst_0, val_main_v5, val_main_cst_1, val_main_v7, val_main_cst_3, val_main_v10, val_main_cst_4, val_main_v12, val_main_call0_v1, val_main_call0_v2, val_main_call1_v1, val_main_call1_v2, val_main_v4, val_main_call0_v0, val_main_call1_v0, val_main_v3, val_main_cst, val_main_cst_2, val_main_v0, val_main_v2, val_main_v1]
  split
  · exact congrArg (· + _) (pick _ _ d h)
  · exact congrArg (· + _) (pick _ _ d h)
theorem v22_at (l : Fin 2) (r : Fin 224) (j : Fin 1024) :
    val_main_v22 (F := Ideal) x0 x1 x2 x3 x4 x6 (ix3 l r j)
      = mNew (val_main_v17 (F := Ideal) x0 x1 x2 x3 x4 (ix3 l r j)) (x6 (ix3 l r j)) := by
  pointwise [val_main_v22, val_main_v19, val_main_v21, val_main_v18, val_main_v20, val_main_cst_5, val_main_cst_6]
  rfl
theorem v28_at (l : Fin 2) (r : Fin 224) (j : Fin 1024) :
    val_main_v28 (F := Ideal) x0 x1 x2 x3 x4 x7 (ix3 l r j)
      = vNew (val_main_v17 (F := Ideal) x0 x1 x2 x3 x4 (ix3 l r j)) (x7 (ix3 l r j)) := by
  pointwise [val_main_v28, val_main_v24, val_main_v27, val_main_v23, val_main_v25, val_main_v26, val_main_cst_7, val_main_cst_8]
  rfl
theorem v41_at (l : Fin 2) (r : Fin 224) (j : Fin 1024) :
    val_main_v41 (F := Ideal) x0 x1 x2 x3 x4 x5 x6 x7 (ix3 l r j)
      = delta (x5 (ix3 l r j)) (val_main_v17 (F := Ideal) x0 x1 x2 x3 x4 (ix3 l r j)) (x6 (ix3 l r j)) (x7 (ix3 l r j)) := by
  pointwise [val_main_v41, val_main_v39, val_main_v40, val_main_v36, val_main_v38, val_main_cst_13, val_main_v30, val_main_v35, val_main_v37, val_main_v22, val_main_v29, val_main_v33, val_main_v34, val_main_cst_12, val_main_v19, val_main_v21, val_main_cst_9, val_main_v32, val_main_cst_11, val_main_v18, val_main_v20, val_main_v28, val_main_v31, val_main_cst_5, val_main_cst_6, val_main_v24, val_main_v27, val_main_cst_10, val_main_v23, val_main_v25, val_main_v26, val_main_cst_7, val_main_cst_8]
  rfl
end Cert.ShardIn.Plain
end
-- ==== Proof.ShardInArrays.lean ====
module
public import proofs.«01_k».proof.Proof.Gen.Kernel16Ideal.Frame
public import proofs.«01_k».proof.Proof.Adam
public import Idealize.ShloMosaic.Lib.Pointwise
public import Idealize.ShloMosaic.Lib.Pipeline.ValueKit
public import Idealize.ShloMosaic.Lib.Pipeline.ReadBack
@[expose] public section
set_option maxRecDepth 16384
noncomputable section
namespace Cert.ShardIn
open Idealize.ShloMosaic Idealize.ShloMosaic.TcCoe Idealize.SL.Sem Idealize.ShloMosaic.Pointwise Cert.Adam Cert.Kernel16Ideal Cert.Kernel16Ideal.Gen
open Idealize.ShloMosaic.Pipeline (Dat)

/-- The table that names device `d`. -/
def tableOf (d : Fin 8) : pre0.Contents (Elt Ideal) := fun | ⟨0, _⟩ => fun _ => BitVec.ofNat 32 d.val | ⟨_ + 1, h⟩ => absurd h (by simp)

variable (m : (ℓ : Loc nD τ sig) → Buf (Elt Ideal) ℓ)

theorem tbl_eq (d : Fin 8) (h : ∀ c : Dev nD, (m ((c : Thread nD τ).loc main_arg0)) = fun _ => BitVec.ofNat 32 d.val) : tbl m = tableOf d := by
  funext j
  match j with
  | ⟨0, _⟩ => exact (V_main_arg0 m 0).trans (h 0)

theorem ok_table : ∀ d : Fin 8, ok0 (F := Ideal) (tableOf d) := by decide

theorem ok (d : Fin 8) (h : ∀ c : Dev nD, (m ((c : Thread nD τ).loc main_arg0)) = fun _ => BitVec.ofNat 32 d.val) : Ok m := by
  unfold Ok; rw [tbl_eq m d h]; exact ok_table d

/-- Every window's block at every grid point: a point names a layer and a block of rows. -/
theorem idx : ∀ d : Fin 8, ∀ i : grid0.Coords, ix0 (tableOf d) 0 i = ![d.val, if (i 0).val = 0 then (i 1).val else 1, 0]
    ∧ ix0 (tableOf d) 1 i = ![0, if (i 0).val = 0 then (i 1).val else 1, 0]
    ∧ ix0 (tableOf d) 2 i = ![d.val, if (i 0).val = 1 then (i 1).val else 0, 0]
    ∧ ix0 (tableOf d) 3 i = ![0, if (i 0).val = 1 then (i 1).val else 0, 0]
    ∧ ix0 (tableOf d) 4 i = ![(i 0).val, (i 1).val, 0]
    ∧ ix0 (tableOf d) 5 i = ![(i 0).val, (i 1).val, 0]
    ∧ ix0 (tableOf d) 6 i = ![(i 0).val, (i 1).val, 0]
    ∧ ix0 (tableOf d) 8 i = ![(i 0).val, (i 1).val, 0]
    ∧ ix0 (tableOf d) 9 i = ![(i 0).val, (i 1).val, 0]
    ∧ ix0 (tableOf d) 10 i = ![(i 0).val, (i 1).val, 0]
    ∧ ix0 (tableOf d) 11 i = ![(i 0).val, (i 1).val, 0] := by decide

/-- Row `r` of the block of rows of grid point `i`. -/
def row (i : grid0.Coords) (r : Fin 112) : Fin 224 := ⟨(i 1).val * 112 + r.val, by have : (i 1).val < 2 := (i 1).isLt; omega⟩

variable (d : Fin 8) (hd : ∀ c : Dev nD, (m ((c : Thread nD τ).loc main_arg0)) = fun _ => BitVec.ofNat 32 d.val) (hO : Ok m)

include hd
theorem reads_0 (c : Dev nD) (t : Fin (cfgM m hO).N) (h : (grid0.coords t 0).val = 0) (r : Fin 112) (j : Fin 1024) :
    iblk m hO c 0 t (ix3 0 r j) = (m ((c : Thread nD τ).loc main_arg1)) (ix3 d (row (grid0.coords t) r) j) := by
  rw [← V_main_arg1 m c]
  have e : ((cfgM m hO).win 0).index t = _ := (congrArg (ix0 · 0 (grid0.coords t)) (tbl_eq m d hd)).trans (idx d (grid0.coords t)).1
  rw [if_pos h] at e
  blk_simp [iblk]
  blk_ext [e, row]

theorem reads_1 (c : Dev nD) (t : Fin (cfgM m hO).N) (h : (grid0.coords t 0).val = 0) (s : Fin 7) (r : Fin 112) (j : Fin 1024) :
    iblk m hO c 1 t (ix3 s r j) = (m ((c : Thread nD τ).loc main_arg3)) (ix3 s (row (grid0.coords t) r) j) := by
  rw [← V_main_arg3 m c]
  have e : ((cfgM m hO).win 1).index t = _ := (congrArg (ix0 · 1 (grid0.coords t)) (tbl_eq m d hd)).trans (idx d (grid0.coords t)).2.1
  rw [if_pos h] at e
  blk_simp [iblk]
  blk_ext [e, row]

theorem reads_2 (c : Dev nD) (t : Fin (cfgM m hO).N) (h : (grid0.coords t 0).val = 1) (r : Fin 112) (j : Fin 1024) :
    iblk m hO c 2 t (ix3 0 r j) = (m ((c : Thread nD τ).loc main_arg2)) (ix3 d (row (grid0.coords t) r) j) := by
  rw [← V_main_arg2 m c]
  have e : ((cfgM m hO).win 2).index t = _ := (congrArg (ix0 · 2 (grid0.coords t)) (tbl_eq m d hd)).trans (idx d (grid0.coords t)).2.2.1
  rw [if_pos h] at e
  blk_simp [iblk]
  blk_ext [e, row]

theorem reads_3 (c : Dev nD) (t : Fin (cfgM m hO).N) (h : (grid0.coords t 0).val = 1) (s : Fin 7) (r : Fin 112) (j : Fin 1024) :
    iblk m hO c 3 t (ix3 s r j) = (m ((c : Thread nD τ).loc main_arg4)) (ix3 s (row (grid0.coords t) r) j) := by
  rw [← V_main_arg4 m c]
  have e : ((cfgM m hO).win 3).index t = _ := (congrArg (ix0 · 3 (grid0.coords t)) (tbl_eq m d hd)).trans (idx d (grid0.coords t)).2.2.2.1
  rw [if_pos h] at e
  blk_simp [iblk]
  blk_ext [e, row]

theorem reads_4 (c : Dev nD) (t : Fin (cfgM m hO).N) (r : Fin 112) (j : Fin 1024) :
    iblk m hO c 4 t (ix3 0 r j) = (m ((c : Thread nD τ).loc main_arg5)) (ix3 (grid0.coords t 0) (row (grid0.coords t) r) j) := by
  rw [← V_main_arg5 m c]
  have e : ((cfgM m hO).win 4).index t = _ := (congrArg (ix0 · 4 (grid0.coords t)) (tbl_eq m d hd)).trans (idx d (grid0.coords t)).2.2.2.2.1
  blk_simp [iblk]
  blk_ext [e, row]

theorem reads_5 (c : Dev nD) (t : Fin (cfgM m hO).N) (r : Fin 112) (j : Fin 1024) :
    iblk m hO c 5 t (ix3 0 r j) = (m ((c : Thread nD τ).loc main_arg6)) (ix3 (grid0.coords t 0) (row (grid0.coords t) r) j) := by
  rw [← V_main_arg6 m c]
  have e : ((cfgM m hO).win 5).index t = _ := (congrArg (ix0 · 5 (grid0.coords t)) (tbl_eq m d hd)).trans (idx d (grid0.coords t)).2.2.2.2.2.1
  blk_simp [iblk]
  blk_ext [e, row]

theorem reads_6 (c : Dev nD) (t : Fin (cfgM m hO).N) (r : Fin 112) (j : Fin 1024) :
    iblk m hO c 6 t (ix3 0 r j) = (m ((c : Thread nD τ).loc main_arg7)) (ix3 (grid0.coords t 0) (row (grid0.coords t) r) j) := by
  rw [← V_main_arg7 m c]
  have e : ((cfgM m hO).win 6).index t = _ := (congrArg (ix0 · 6 (grid0.coords t)) (tbl_eq m d hd)).trans (idx d (grid0.coords t)).2.2.2.2.2.2.1
  blk_simp [iblk]
  blk_ext [e, row]

/-- The gradient at one entry: device `d`'s own part and the seven received ones. -/
def gradAt (own : Vec Ideal S8x224x1024 .f32) (recv : Vec Ideal S7x224x1024 .bf16) (r : Fin 224) (j : Fin 1024) : EReal :=
  own (ix3 d r j) + ∑ s : Fin 7, recv (ix3 s r j)

/-- The same, of layer `l`. -/
def gradOf (c : Dev nD) (l : Fin 2) (r : Fin 224) (j : Fin 1024) : EReal :=
  if l.val < 1 then gradAt d (m ((c : Thread nD τ).loc main_arg1)) (m ((c : Thread nD τ).loc main_arg3)) r j
  else gradAt d (m ((c : Thread nD τ).loc main_arg2)) (m ((c : Thread nD τ).loc main_arg4)) r j

omit hd in
theorem sum_at (x0 : Vec Ideal S1x112x1024 .f32) (x1 : Vec Ideal S7x112x1024 .bf16) (r : Fin 112) (j : Fin 1024) :
   k0_pay5 x0 (View.ld x1
          (Rect.unit ![0, 0, 0] ![1, 112, 1024] inb_S7x112x1024_S1x112x1024_0_0_0))
        (View.ld x1
          (Rect.unit ![1, 0, 0] ![1, 112, 1024] inb_S7x112x1024_S1x112x1024_1_0_0))
        (View.ld x1
          (Rect.unit ![2, 0, 0] ![1, 112, 1024] inb_S7x112x1024_S1x112x1024_2_0_0))
        (View.ld x1
          (Rect.unit ![3, 0, 0] ![1, 112, 1024] inb_S7x112x1024_S1x112x1024_3_0_0))
        (View.ld x1
          (Rect.unit ![4, 0, 0] ![1, 112, 1024] inb_S7x112x1024_S1x112x1024_4_0_0))
        (View.ld x1
          (Rect.unit ![5, 0, 0] ![1, 112, 1024] inb_S7x112x1024_S1x112x1024_5_0_0))
        (View.ld x1
          (Rect.unit ![6, 0, 0] ![1, 112, 1024] inb_S7x112x1024_S1x112x1024_6_0_0)) (ix2 r j)
      = x0 (ix3 0 r j) + ∑ s : Fin 7, x1 (ix3 s r j) := by
  simp only [Fin.sum_univ_seven, ← add_assoc]
  pointwise [k0_pay5]

omit hd in
theorem new_at (g : FVec Ideal S112x1024 .f32) (w x5 x6 : Vec Ideal S1x112x1024 .f32) (r : Fin 112) (j : Fin 1024) :
   k0_pay9 g (ix3 0 r j) = g (ix2 r j)
   ∧ k0_pay10 g (k0_pay6 w) x5 x6 (ix3 0 r j) = delta (w (ix3 0 r j)) (g (ix2 r j)) (x5 (ix3 0 r j)) (x6 (ix3 0 r j))
   ∧ k0_pay1 (k0_pay7 g x5) (ix3 0 r j) = mNew (g (ix2 r j)) (x5 (ix3 0 r j))
   ∧ k0_pay2 (k0_pay8 g x6) (ix3 0 r j) = vNew (g (ix2 r j)) (x6 (ix3 0 r j)) := by
  refine ⟨?_, ?_, ?_, ?_⟩
  · pointwise [k0_pay9]
  · pointwise [k0_pay10, k0_pay7, k0_pay8, k0_pay6]
    rfl
  · pointwise [k0_pay1, k0_pay7]
    rfl
  · pointwise [k0_pay2, k0_pay8]
    rfl
omit hd in
/-- The second layer's operations are the first layer's. -/
theorem same : k0_pay11 (F := Ideal) = k0_pay5 ∧ k0_pay12 (F := Ideal) = k0_pay6 ∧ k0_pay13 (F := Ideal) = k0_pay7 ∧ k0_pay14 (F := Ideal) = k0_pay8
    ∧ k0_pay15 (F := Ideal) = k0_pay9 ∧ k0_pay16 (F := Ideal) = k0_pay10 ∧ k0_pay3 (F := Ideal) = k0_pay1 ∧ k0_pay4 (F := Ideal) = k0_pay2 :=
  ⟨rfl, rfl, rfl, rfl, rfl, rfl, rfl, rfl⟩

omit hd in
theorem first : ∀ t : Fin grid0.N, t.val < 2 → (grid0.coords t 0).val = 0 := by decide
omit hd in
theorem second : ∀ t : Fin grid0.N, ¬ t.val < 2 → (grid0.coords t 0).val = 1 := by decide

/-- What the body leaves at a grid point, entry by entry. -/
def Leaves (c : Dev nD) (t : Fin (cfgM m hO).N) (o : Vec Ideal S1x112x1024 .f32 × Vec Ideal S1x112x1024 .f32 × Vec Ideal S1x112x1024 .f32 × Vec Ideal S1x112x1024 .f32)
    (r : Fin 112) (j : Fin 1024) : Prop :=
  let l := grid0.coords t 0
  let q := row (grid0.coords t) r
  let w : EReal := (m ((c : Thread nD τ).loc main_arg5)) (ix3 l q j)
  let m0 : EReal := (m ((c : Thread nD τ).loc main_arg6)) (ix3 l q j)
  let v0 : EReal := (m ((c : Thread nD τ).loc main_arg7)) (ix3 l q j)
  o.1 (ix3 0 r j) = gradOf m d c l q j
    ∧ o.2.1 (ix3 0 r j) = delta w (gradOf m d c l q j) m0 v0
    ∧ o.2.2.1 (ix3 0 r j) = mNew (gradOf m d c l q j) m0
    ∧ o.2.2.2 (ix3 0 r j) = vNew (gradOf m d c l q j) v0

theorem leaves (c : Dev nD) (t : Fin (cfgM m hO).N) (r : Fin 112) (j : Fin 1024) :
    Leaves m d hO c t (outsAt0 m hO c t.val t.isLt) r j := by
  have e4 := (hs0_4 m hO t).read_unread (Val := Elt Ideal) (iblk m hO c 4 t)
  have e5 := (hs0_5 m hO t).read_unread (Val := Elt Ideal) (iblk m hO c 5 t)
  have e6 := (hs0_6 m hO t).read_unread (Val := Elt Ideal) (iblk m hO c 6 t)
  have r4 := reads_4 m d hd hO c t r j
  have r5 := reads_5 m d hd hO c t r j
  have r6 := reads_6 m d hd hO c t r j
  by_cases h0 : t.val < 2
  · have l0 := first t h0
    have e0 := (hs0_0 m hO t).read_unread (Val := Elt Ideal) (iblk m hO c 0 t)
    have e1 := (hs0_1 m hO t).read_unread (Val := Elt Ideal) (iblk m hO c 1 t)
    rw [outsAt0_A m hO c t h0 (by omega)]
    unfold Leaves
    dsimp only
    frame_out
    rw [e0, e1, e4, e5, e6]
    have g : gradOf m d c (grid0.coords t 0) (row (grid0.coords t) r) j = _ :=
      (if_pos (by omega)).trans ((sum_at (iblk m hO c 0 t) (iblk m hO c 1 t) r j).trans (congrArg₂ (· + ·) (reads_0 m d hd hO c t l0 r j) (Finset.sum_congr rfl fun s _ => reads_1 m d hd hO c t l0 s r j))).symm
    rw [g, ← r4, ← r5, ← r6]
    exact new_at _ _ _ _ r j
  · have l1 := second t h0
    have e0 := (hs0_2 m hO t).read_unread (Val := Elt Ideal) (iblk m hO c 2 t)
    have e1 := (hs0_3 m hO t).read_unread (Val := Elt Ideal) (iblk m hO c 3 t)
    rw [outsAt0_B m hO c t h0 (by omega)]
    unfold Leaves
    dsimp only
    frame_out
    rw [e0, e1, e4, e5, e6]
    have g : gradOf m d c (grid0.coords t 0) (row (grid0.coords t) r) j = _ :=
      (if_neg (by omega)).trans ((sum_at (iblk m hO c 2 t) (iblk m hO c 3 t) r j).trans (congrArg₂ (· + ·) (reads_2 m d hd hO c t l1 r j) (Finset.sum_congr rfl fun s _ => reads_3 m d hd hO c t l1 s r j))).symm
    rw [g, ← r4, ← r5, ← r6]
    obtain ⟨s0, s1, s2, s3, s4, s5, s6, s7⟩ := same
    rw [s0, s1, s2, s3, s4, s5, s6, s7]
    exact new_at _ _ _ _ r j

theorem adm_eq : adm m hO = ⟨tableOf d, ok_table d⟩ := Subtype.ext (tbl_eq m d hd)

omit hd in
theorem covers : ∀ d : Fin 8, ((cfg0 ⟨tableOf d, ok_table d⟩).win 8).Covers ∧ ((cfg0 ⟨tableOf d, ok_table d⟩).win 9).Covers
    ∧ ((cfg0 ⟨tableOf d, ok_table d⟩).win 10).Covers ∧ ((cfg0 ⟨tableOf d, ok_table d⟩).win 11).Covers := by decide +kernel

theorem covers_of : ((cfgM m hO).win 8).Covers ∧ ((cfgM m hO).win 9).Covers ∧ ((cfgM m hO).win 10).Covers ∧ ((cfgM m hO).win 11).Covers := by
  have key : ∀ a : (pcfg0 (F := Ideal)).Adm, a = ⟨tableOf d, ok_table d⟩ →
      ((cfg0 a).win 8).Covers ∧ ((cfg0 a).win 9).Covers ∧ ((cfg0 a).win 10).Covers ∧ ((cfg0 a).win 11).Covers := by
    rintro _ rfl
    exact covers d
  exact key _ (adm_eq m d hd hO)

omit hd in
theorem one_idx (y : S1x112x1024.Idx) : ∃ (r : Fin 112) (j : Fin 1024), y = ix3 0 r j :=
  ⟨y 1, y 2, (eq_ix3 y).trans (congrArg (ix3 · (y 1) (y 2)) (Subsingleton.elim (α := Fin 1) _ _))⟩

theorem final_8 (c : Dev nD) (G : Vec Ideal S2x224x1024 .f32) (hG : ∀ l q j, G (ix3 l q j) = gradOf m d c l q j) :
    (dats m hO 0 c).arrAt 8 (cfgM m hO).N = G := by
  refine (dats m hO 0 c).arrAt_eq_of_covers 8 _ (covers_of m d hd hO).1 fun t hf y => ?_
  obtain ⟨r, j, rfl⟩ := one_idx y
  have e : ((cfgM m hO).win 8).index t = _ := (congrArg (ix0 · 8 (grid0.coords t)) (tbl_eq m d hd)).trans (idx d (grid0.coords t)).2.2.2.2.2.2.2.1
  have p : (((cfgM m hO).win 8).blk t).view.emb (ix3 0 r j) = ix3 (grid0.coords t 0) (row (grid0.coords t) r) j := by
    blk_ext [e, row]
  blk_simp
  rw [after0_8, p]
  exact (leaves m d hd hO c t r j).1.trans (hG _ _ _).symm

theorem final_9 (c : Dev nD) (G : Vec Ideal S2x224x1024 .f32) (hG : ∀ l q j, G (ix3 l q j) = delta ((m ((c : Thread nD τ).loc main_arg5)) (ix3 l q j)) (gradOf m d c l q j) ((m ((c : Thread nD τ).loc main_arg6)) (ix3 l q j)) ((m ((c : Thread nD τ).loc main_arg7)) (ix3 l q j))) :
    (dats m hO 0 c).arrAt 9 (cfgM m hO).N = G := by
  refine (dats m hO 0 c).arrAt_eq_of_covers 9 _ (covers_of m d hd hO).2.1 fun t hf y => ?_
  obtain ⟨r, j, rfl⟩ := one_idx y
  have e : ((cfgM m hO).win 9).index t = _ := (congrArg (ix0 · 9 (grid0.coords t)) (tbl_eq m d hd)).trans (idx d (grid0.coords t)).2.2.2.2.2.2.2.2.1
  have p : (((cfgM m hO).win 9).blk t).view.emb (ix3 0 r j) = ix3 (grid0.coords t 0) (row (grid0.coords t) r) j := by
    blk_ext [e, row]
  blk_simp
  rw [after0_9, p]
  exact (leaves m d hd hO c t r j).2.1.trans (hG _ _ _).symm

theorem final_10 (c : Dev nD) (G : Vec Ideal S2x224x1024 .f32) (hG : ∀ l q j, G (ix3 l q j) = mNew (gradOf m d c l q j) ((m ((c : Thread nD τ).loc main_arg6)) (ix3 l q j))) :
    (dats m hO 0 c).arrAt 10 (cfgM m hO).N = G := by
  refine (dats m hO 0 c).arrAt_eq_of_covers 10 _ (covers_of m d hd hO).2.2.1 fun t hf y => ?_
  obtain ⟨r, j, rfl⟩ := one_idx y
  have e : ((cfgM m hO).win 10).index t = _ := (congrArg (ix0 · 10 (grid0.coords t)) (tbl_eq m d hd)).trans (idx d (grid0.coords t)).2.2.2.2.2.2.2.2.2.1
  have p : (((cfgM m hO).win 10).blk t).view.emb (ix3 0 r j) = ix3 (grid0.coords t 0) (row (grid0.coords t) r) j := by
    blk_ext [e, row]
  blk_simp
  rw [after0_10, p]
  exact (leaves m d hd hO c t r j).2.2.1.trans (hG _ _ _).symm

theorem final_11 (c : Dev nD) (G : Vec Ideal S2x224x1024 .f32) (hG : ∀ l q j, G (ix3 l q j) = vNew (gradOf m d c l q j) ((m ((c : Thread nD τ).loc main_arg7)) (ix3 l q j))) :
    (dats m hO 0 c).arrAt 11 (cfgM m hO).N = G := by
  refine (dats m hO 0 c).arrAt_eq_of_covers 11 _ (covers_of m d hd hO).2.2.2 fun t hf y => ?_
  obtain ⟨r, j, rfl⟩ := one_idx y
  have e : ((cfgM m hO).win 11).index t = _ := (congrArg (ix0 · 11 (grid0.coords t)) (tbl_eq m d hd)).trans (idx d (grid0.coords t)).2.2.2.2.2.2.2.2.2.2
  have p : (((cfgM m hO).win 11).blk t).view.emb (ix3 0 r j) = ix3 (grid0.coords t 0) (row (grid0.coords t) r) j := by
    blk_ext [e, row]
  blk_simp
  rw [after0_11, p]
  exact (leaves m d hd hO c t r j).2.2.2.trans (hG _ _ _).symm

end Cert.ShardIn
end
-- ==== Proof.ShardInClaim.lean ====
module
public import proofs.«01_k».proof.Defs
public import proofs.«01_k».proof.Proof.Gen.Pre_pre16
public import proofs.«01_k».proof.Proof.Gen.Reference16Ideal.Run
public import proofs.«01_k».proof.Proof.Gen.Reference16Ideal.Read
public import proofs.«01_k».proof.Proof.ShardInSpec
public import proofs.«01_k».proof.Proof.ShardInArrays
public import Idealize.ShloMosaic.Lib.Pointwise
@[expose] public section
set_option maxRecDepth 16384
noncomputable section
namespace Cert.ShardIn
open Idealize.ShloMosaic Idealize.ShloMosaic.TcCoe Idealize.ShloMosaic.Pointwise Idealize.SL.Sem Cert.Adam Cert.Kernel16Ideal Cert.Kernel16Ideal.Gen

/-- The precondition names one of the eight devices. -/
theorem device_of_pre (m : (ℓ : Loc nD τ sig) → Buf (Elt Ideal) ℓ) (h : Cert.Pre_Kernel16Ideal m) :
    ∃ d : Fin 8, ∀ c : Dev nD, (m ((c : Thread nD τ).loc main_arg0)) = fun _ => BitVec.ofNat 32 d.val := by
  obtain ⟨d, hd⟩ := device ((m (((0 : Dev nD) : Thread nD τ).loc main_arg0)) (ix1 0)) (congrFun (h 0) (ix1 0))
  refine ⟨d, fun c => funext fun i => ?_⟩
  rw [Subsingleton.elim (α := Fin 1) c 0, (eq_ix1 i).trans (congrArg ix1 (Subsingleton.elim (α := Fin 1) _ _))]
  exact hd

theorem ok_of_pre (m : (ℓ : Loc nD τ sig) → Buf (Elt Ideal) ℓ) (h : Cert.Pre_Kernel16Ideal m) : Ok m := by
  obtain ⟨d, hd⟩ := device_of_pre m h
  exact ok m d hd

/-- The two programs leave the same arrays. -/
theorem algebraic : Cert.algebraic_Kernel16Ideal_Reference16Ideal := by
  intro m g m' g' hP hag
  obtain ⟨d, hd⟩ := device_of_pre m hP
  have hO := ok m d hd
  refine ⟨fun c => Cert.Reference16Ideal.Read.val_main_v17 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)),
      fun c => Cert.Reference16Ideal.Read.val_main_v41 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)),
      fun c => Cert.Reference16Ideal.Read.val_main_v22 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg6)),
      fun c => Cert.Reference16Ideal.Read.val_main_v28 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg7)), ?_, ?_⟩
  · refine (θ_run _ _ _).mono (fun r h c => ?_) (θ_run_and (run_main m g hO) (unchanged m g hO))
    have G := Plain.v17_at (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) d (congrFun (hd c) _)
    exact ⟨((h.1 c).1 8).trans (final_8 m d hd hO c _ fun l q j => G l q j),
      ((h.1 c).1 9).trans (final_9 m d hd hO c _ fun l q j =>
        (Plain.v41_at (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) l q j).trans (congrArg (delta _ · _ _) (G l q j))),
      ((h.1 c).1 10).trans (final_10 m d hd hO c _ fun l q j =>
        (Plain.v22_at (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg6)) l q j).trans (congrArg (mNew · _) (G l q j))),
      ((h.1 c).1 11).trans (final_11 m d hd hO c _ fun l q j =>
        (Plain.v28_at (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg7)) l q j).trans (congrArg (vNew · _) (G l q j))), h.2 c⟩
  · refine (θ_run _ _ _).mono (fun r h c => ?_) (Cert.Reference16Ideal.Value.run (F := Ideal) m' g')
    obtain ⟨h0, h1, h2, h3, a0, a1, a2, a3, a4, a5, a6, a7⟩ := h c
    obtain ⟨e0, e1, e2, e3, e4, e5, e6, e7⟩ := hag c
    have r0 := h0.trans (Cert.Reference16Ideal.Read.val_main_v17_eq (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)))
    rw [e0, e1, e2, e3, e4] at r0
    have r1 := h1.trans (Cert.Reference16Ideal.Read.val_main_v41_eq m' c)
    rw [e0, e1, e2, e3, e4, e5, e6, e7] at r1
    have r2 := h2.trans (Cert.Reference16Ideal.Read.val_main_v22_eq (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg6)))
    rw [e0, e1, e2, e3, e4, e6] at r2
    have r3 := h3.trans (Cert.Reference16Ideal.Read.val_main_v28_eq (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg7)))
    rw [e0, e1, e2, e3, e4, e7] at r3
    exact ⟨r0, r1, r2, r3, a0, a1, a2, a3, a4, a5, a6, a7⟩
end Cert.ShardIn
end
-- ==== Proof.ShardInFrame.lean ====
module
public import proofs.«01_k».proof.Defs
public import proofs.«01_k».proof.Proof.Gen.Kernel16.Frame
public import proofs.«01_k».proof.Proof.Gen.Pre_pre16
public import proofs.«01_k».proof.Proof.Adam
public import Idealize.ShloMosaic.Lib.Pointwise
@[expose] public section
set_option maxRecDepth 16384
noncomputable section
namespace Cert.ShardIn.AtBits
open Idealize.ShloMosaic Idealize.ShloMosaic.TcCoe Idealize.ShloMosaic.Pointwise Cert.Adam Cert.Kernel16 Cert.Kernel16.Gen

/-- The table that names device `d`. -/
def tableOf (d : Fin 8) : pre0.Contents (Elt Bits) := fun | ⟨0, _⟩ => fun _ => BitVec.ofNat 32 d.val | ⟨_ + 1, h⟩ => absurd h (by simp)

theorem ok_table : ∀ d : Fin 8, ok0 (F := Bits) (tableOf d) := by decide

/-- A device number in range makes every block the table picks lie in its array. -/
theorem ok_of_pre (m : (ℓ : Loc nD τ sig) → Buf (Elt Bits) ℓ) (h : Cert.Pre_Kernel16 m) : Ok m := by
  obtain ⟨d, hd⟩ := device ((m (((0 : Dev nD) : Thread nD τ).loc main_arg0)) (ix1 0)) (congrFun (h 0) (ix1 0))
  have e : tbl m = tableOf d := by
    funext j
    match j with
    | ⟨0, _⟩ =>
      refine (V_main_arg0 m 0).trans (funext fun i => ?_)
      rw [(eq_ix1 i).trans (congrArg ix1 (Subsingleton.elim (α := Fin 1) _ _))]
      exact hd
  unfold Ok
  rw [e]
  exact ok_table d
end Cert.ShardIn.AtBits
end
-- ==== Proof.SumPartsArrays.lean ====
module
public import proofs.«01_k».proof.Proof.Gen.Kernel18Ideal.Frame
public import proofs.«01_k».proof.Proof.Adam
public import Idealize.ShloMosaic.Lib.Pointwise
public import Idealize.ShloMosaic.Lib.Pipeline.ValueKit
public import Idealize.ShloMosaic.Lib.Pipeline.ReadBack
@[expose] public section
set_option maxRecDepth 16384
noncomputable section
namespace Cert.SumParts
open Idealize.ShloMosaic Idealize.ShloMosaic.TcCoe Idealize.SL.Sem Idealize.ShloMosaic.Pointwise Cert.Kernel18Ideal Cert.Kernel18Ideal.Gen
open Idealize.ShloMosaic.Pipeline (Dat)

/-- Where device `d` finds the part of device `k`, among the seven parts it received. -/
def src (d k : Fin 8) : Fin 7 := ⟨(d.val ^^^ k.val) - 1, by revert d k; decide⟩

theorem off : ∀ d k : Fin 8, k0_off1 (BitVec.ofNat 32 d.val) (BitVec.ofNat 32 k.val) = ![(src d k).val, 0, 0] := by decide

theorem chk : ∀ d : Fin 8, k0_chk1 (BitVec.ofNat 32 d.val) := by
  intro d r
  rw [off d r]
  have := (src d r).isLt
  intro a
  match a with
  | 0 => show (src d r).val + 1 ≤ 7; omega
  | 1 => exact Nat.le_refl _
  | 2 => exact Nat.le_refl _

/-- Whether a part is the device's own. -/
theorem own : ∀ d k : Fin 8, Scalar.cmpi .eq (Scalar.xori (BitVec.ofNat 32 d.val) (BitVec.ofNat 32 k.val)) 0#32 = if d = k then 1#1 else 0#1 := by decide

/-- The eight parts in the order of the devices are the device's own and the seven received ones. -/
theorem total (a : EReal) (f : Fin 7 → EReal) (d : Fin 8) : (∑ k : Fin 8, if d = k then a else f (src d k)) = a + ∑ s : Fin 7, f s := by
  have e : ∀ d k : Fin 8, src d k = ⟨(d.val ^^^ k.val) - 1, by revert d k; decide⟩ := fun _ _ => rfl
  fin_cases d <;> simp [Fin.sum_univ_eight, Fin.sum_univ_seven, src] <;> abel

theorem ld_at (x1 : Vec Ideal S7x784x128 .f32) (o : Fin 3 → ℕ) (s : Fin 7) (e : o = ![s.val, 0, 0])
    (h : ∀ a, o a + S1x784x128.size a ≤ S7x784x128.size a) (r : Fin 784) (j : Fin 128) :
    View.ld x1 (Rect.unit (s := S7x784x128) o S1x784x128.size h) (ix3 0 r j) = x1 (ix3 s r j) := by
  subst e
  unfold View.ld
  refine congrArg x1 (funext fun a => ?_)
  match a with
  | 0 => apply Fin.ext; show s.val + 1 * 0 = s.val; omega
  | 1 => apply Fin.ext; show 0 + 1 * r.val = r.val; omega
  | 2 => apply Fin.ext; show 0 + 1 * j.val = j.val; omega

variable (m : (ℓ : Loc nD τ sig) → Buf (Elt Ideal) ℓ)
variable (d : Fin 8) (hd : ∀ c : Dev nD, (m ((c : Thread nD τ).loc main_arg0)) = fun _ => BitVec.ofNat 32 d.val)

theorem ok : Ok m := trivial

include hd in
theorem word : (tbM0_0.view.readAt (Elt Ideal) (Rect.unit (s := S1) ![0] S1.size inb_S1_S1_0).toLoadRect (tbl m 0) (Shape.Idx.first (numel1_S1.symm ▸ Nat.one_pos)))
    = BitVec.ofNat 32 d.val := congrFun ((V_main_arg0 m 0).trans (hd 0)) _

include hd in
theorem hyps (hO : Ok m) : Hyps m hO := fun c t => by
  rw [word m d hd]
  exact chk d

/-- The table that names device `d`. -/
def tableOf (d : Fin 8) : pre0.Contents (Elt Ideal) := fun | ⟨0, _⟩ => fun _ => BitVec.ofNat 32 d.val | ⟨_ + 1, h⟩ => absurd h (by simp)

include hd in
theorem tbl_eq : tbl m = tableOf d := by
  funext j
  match j with
  | ⟨0, _⟩ => exact (V_main_arg0 m 0).trans (hd 0)

theorem covers : ∀ d : Fin 8, ((cfg0 (F := Ideal) ⟨tableOf d, trivial⟩).win 2).Covers := by decide +kernel

include hd in
theorem adm_eq (hO : Ok m) : adm m hO = ⟨tableOf d, trivial⟩ := Subtype.ext (tbl_eq m d hd)

include hd in
theorem covers_of (hO : Ok m) : ((cfgM m hO).win 2).Covers := by
  have key : ∀ a : (pcfg0 (F := Ideal)).Adm, a = ⟨tableOf d, trivial⟩ → ((cfg0 a).win 2).Covers := by
    rintro _ rfl
    exact covers d
  exact key _ (adm_eq m d hd hO)

theorem idx : ∀ i : grid0.Coords, cc0_transform_0 i = ![0, 0] ∧ cc0_transform_1 i = ![0, 0, 0] ∧ cc0_transform_2 i = ![0, 0] := by decide

theorem reads_0 (hO : Ok m) (c : Dev nD) (t : Fin (cfgM m hO).N) (r : Fin 784) (j : Fin 128) :
    iblk m hO c 0 t (ix2 r j) = (m ((c : Thread nD τ).loc main_arg1)) (ix2 r j) := by
  rw [← V_main_arg1 m c]
  have e : ((cfgM m hO).win 0).index t = _ := (idx (grid0.coords t)).1
  blk_simp [iblk]
  blk_ext [e]

theorem reads_1 (hO : Ok m) (c : Dev nD) (t : Fin (cfgM m hO).N) (s : Fin 7) (r : Fin 784) (j : Fin 128) :
    iblk m hO c 1 t (ix3 s r j) = (m ((c : Thread nD τ).loc main_arg2)) (ix3 s r j) := by
  rw [← V_main_arg2 m c]
  have e : ((cfgM m hO).win 1).index t = _ := (idx (grid0.coords t)).2.1
  blk_simp [iblk]
  blk_ext [e]

/-- The kernel's sum at one entry, as the sum over the eight devices. -/
def sumAt (own : Vec Ideal S784x128 .f32) (recv : Vec Ideal S7x784x128 .f32) (r : Fin 784) (j : Fin 128) : EReal :=
  own (ix2 r j) + ∑ s : Fin 7, recv (ix3 s r j)

/-- One device's part, as the kernel picks it. -/
theorem pick (d k : Fin 8) (x0 : Vec Ideal S784x128 .f32) (y : Vec Ideal S1x784x128 .f32) (r : Fin 784) (j : Fin 128) :
    (Scalar.select (Scalar.cmpi .eq (Scalar.xori (BitVec.ofNat 32 d.val) (BitVec.ofNat 32 k.val)) 0#32) x0 (shapeCast S784x128 y shapeCasts_S1x784x128_S784x128) : Vec Ideal S784x128 .f32) (ix2 r j)
      = if d = k then x0 (ix2 r j) else y (ix3 0 r j) := by
  rw [own]
  by_cases h : d = k
  · rw [if_pos h, if_pos h]; rfl
  · rw [if_neg h, if_neg h]
    show shapeCast S784x128 y shapeCasts_S1x784x128_S784x128 (ix2 r j) = _
    pointwise []

/-- The kernel's eight additions at one entry. -/
theorem eight (d : Fin 8) (x0 : Vec Ideal S784x128 .f32) (y : Fin 8 → Vec Ideal S1x784x128 .f32) (r : Fin 784) (j : Fin 128) :
    k0_pay1 (F := Ideal) (BitVec.ofNat 32 d.val) (k0_pay3 (BitVec.ofNat 32 d.val) (k0_pay2 (BitVec.ofNat 32 d.val) x0 (y 0) x0 (y 1) x0 (y 2))
      (Scalar.xori (BitVec.ofNat 32 d.val) 3#32) 0#32 x0 (y 3) x0 (y 4) x0 (y 5))
      (Scalar.cmpi .eq (Scalar.xori (BitVec.ofNat 32 d.val) 6#32) 0#32) x0 (y 6) x0 (y 7) (ix2 r j)
      = ∑ k : Fin 8, if d = k then x0 (ix2 r j) else y k (ix3 0 r j) := by
  refine Eq.trans ?_ (Finset.sum_congr rfl fun k _ => pick d k x0 (y k) r j)
  rw [Fin.sum_univ_eight]
  rfl

theorem body (d : Fin 8) (v : Elt Ideal .i32) (e : v = BitVec.ofNat 32 d.val) (h : k0_chk1 v) (x0 : Vec Ideal S784x128 .f32) (x1 : Vec Ideal S7x784x128 .f32) (r : Fin 784) (j : Fin 128) :
    let y : Fin 8 → Vec Ideal S1x784x128 .f32 := fun k => View.ld x1 (Rect.unit (k0_off1 v (BitVec.ofNat 32 k.val)) ![1, 784, 128] (h k))
    k0_pay1 (F := Ideal) v (k0_pay3 v (k0_pay2 v x0 (y 0) x0 (y 1) x0 (y 2)) (Scalar.xori v 3#32) 0#32 x0 (y 3) x0 (y 4) x0 (y 5))
      (Scalar.cmpi .eq (Scalar.xori v 6#32) 0#32) x0 (y 6) x0 (y 7) (ix2 r j) = sumAt x0 x1 r j := by
  subst e
  intro y
  refine (eight d x0 y r j).trans (Eq.trans (Finset.sum_congr rfl fun k _ => ?_) (total (x0 (ix2 r j)) (fun s => x1 (ix3 s r j)) d))
  exact congrArg (fun z => if d = k then x0 (ix2 r j) else z) (ld_at x1 _ (src d k) (off d k) (h k) r j)

theorem two_idx (y : S784x128.Idx) : ∃ (r : Fin 784) (j : Fin 128), y = ix2 r j := ⟨y 0, y 1, eq_ix2 y⟩

include hd in
theorem final (hO : Ok m) (hH : Hyps m hO) (c : Dev nD) (G : Vec Ideal S784x128 .f32)
    (hG : ∀ r j, G (ix2 r j) = sumAt (m ((c : Thread nD τ).loc main_arg1)) (m ((c : Thread nD τ).loc main_arg2)) r j) :
    (dats m hO hH 0 c).arrAt 2 (cfgM m hO).N = G := by
  refine (dats m hO hH 0 c).arrAt_eq_of_covers 2 _ (covers_of m d hd hO) fun t hf y => ?_
  have e : ((cfgM m hO).win 2).index t = _ := (idx (grid0.coords t)).2.2
  obtain ⟨r, j, rfl⟩ : ∃ (r : Fin 784) (j : Fin 128), y = ix2 r j := two_idx y
  have p : (((cfgM m hO).win 2).blk t).view.emb (ix2 r j) = ix2 r j := by
    blk_ext [e]
  blk_simp
  rw [after0_2, p]
  have e0 := (hs0_0 m hO t).read_unread (Val := Elt Ideal) (iblk m hO c 0 t)
  have e1 := (hs0_1 m hO t).read_unread (Val := Elt Ideal) (iblk m hO c 1 t)
  unfold outsAt0
  frame_out
  rw [e0, e1]
  refine (body d _ (word m d hd) (hH c t) (iblk m hO c 0 t) (iblk m hO c 1 t) r j).trans (Eq.trans ?_ (hG r j).symm)
  unfold sumAt
  rw [reads_0 m hO c t r j]
  exact congrArg _ (Finset.sum_congr rfl fun s _ => reads_1 m hO c t s r j)
end Cert.SumParts
end
-- ==== Proof.SumPartsClaim.lean ====
module
public import proofs.«01_k».proof.Defs
public import proofs.«01_k».proof.Proof.Gen.Pre_pre18
public import proofs.«01_k».proof.Proof.Gen.Reference18Ideal.Run
public import proofs.«01_k».proof.Proof.Gen.Reference18Ideal.Read
public import proofs.«01_k».proof.Proof.Adam
public import proofs.«01_k».proof.Proof.SumPartsArrays
public import Idealize.ShloMosaic.Lib.Pointwise
@[expose] public section
set_option maxRecDepth 16384
noncomputable section
namespace Cert.SumParts
open Idealize.ShloMosaic Idealize.ShloMosaic.TcCoe Idealize.ShloMosaic.Pointwise Idealize.SL.Sem Cert.Adam Cert.Kernel18Ideal Cert.Kernel18Ideal.Gen

/-- The precondition names one of the eight devices. -/
theorem device_of_pre (m : (ℓ : Loc nD τ sig) → Buf (Elt Ideal) ℓ) (h : Cert.Pre_Kernel18Ideal m) :
    ∃ d : Fin 8, ∀ c : Dev nD, (m ((c : Thread nD τ).loc main_arg0)) = fun _ => BitVec.ofNat 32 d.val := by
  obtain ⟨d, hd⟩ := device ((m (((0 : Dev nD) : Thread nD τ).loc main_arg0)) (ix1 0)) (congrFun (h 0) (ix1 0))
  refine ⟨d, fun c => funext fun i => ?_⟩
  rw [Subsingleton.elim (α := Fin 1) c 0, (eq_ix1 i).trans (congrArg ix1 (Subsingleton.elim (α := Fin 1) _ _))]
  exact hd

theorem ok_of_pre (m : (ℓ : Loc nD τ sig) → Buf (Elt Ideal) ℓ) (_ : Cert.Pre_Kernel18Ideal m) : Ok m := ok m

theorem hyps_of_pre (m : (ℓ : Loc nD τ sig) → Buf (Elt Ideal) ℓ) (h : Cert.Pre_Kernel18Ideal m) : Hyps m (ok m) := by
  obtain ⟨d, hd⟩ := device_of_pre m h
  exact hyps m d hd (ok m)

theorem v1_at (x1 : Vec Ideal S784x128 .f32) (x2 : Vec Ideal S7x784x128 .f32) (r : Fin 784) (j : Fin 128) :
    Cert.Reference18Ideal.Read.val_main_v1 (F := Ideal) x1 x2 (ix2 r j) = sumAt x1 x2 r j := by
  rw [Cert.Reference18Ideal.Read.val_main_v1_apply, Cert.Reference18Ideal.Read.val_main_v0_apply, Cert.Reference18Ideal.Read.val_main_cst_apply]
  show x1 (ix2 r j) + (Ideal.ofBits .f32 0x00000000#32 + _) = _
  rw [Ideal.ofBits_zero, zero_add]
  refine congrArg (x1 (ix2 r j) + ·) (Finset.sum_congr rfl fun s _ => congrArg x2 (funext fun a => ?_))
  match a with
  | 0 => rfl
  | 1 => rfl
  | 2 => rfl

/-- The two programs leave the same array. -/
theorem algebraic : Cert.algebraic_Kernel18Ideal_Reference18Ideal := by
  intro m g m' g' hP hag
  obtain ⟨d, hd⟩ := device_of_pre m hP
  have hO := ok m
  have hH := hyps m d hd hO
  refine ⟨fun c => Cert.Reference18Ideal.Read.val_main_v1 (F := Ideal) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)), ?_, ?_⟩
  · refine (θ_run _ _ _).mono (fun r h c => ?_) (θ_run_and (run_main m g hO hH) (unchanged m g hO hH))
    exact ⟨((h.1 c).1 2).trans (final m d hd hO hH c _ fun r j => v1_at (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) r j), h.2 c⟩
  · refine (θ_run _ _ _).mono (fun r h c => ?_) (Cert.Reference18Ideal.Value.run (F := Ideal) m' g')
    obtain ⟨h0, a0, a1, a2⟩ := h c
    obtain ⟨e0, e1, e2⟩ := hag c
    have r0 := h0.trans (Cert.Reference18Ideal.Read.val_main_v1_eq (F := Ideal) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)))
    rw [e1, e2] at r0
    exact ⟨r0, a0, a1, a2⟩
end Cert.SumParts
end
-- ==== Proof.SumPartsFrame.lean ====
module
public import proofs.«01_k».proof.Defs
public import proofs.«01_k».proof.Proof.Gen.Kernel18.Frame
public import proofs.«01_k».proof.Proof.Gen.Pre_pre18
public import proofs.«01_k».proof.Proof.Adam
public import Idealize.ShloMosaic.Lib.Pointwise
@[expose] public section
set_option maxRecDepth 16384
noncomputable section
namespace Cert.SumParts.AtBits
open Idealize.ShloMosaic Idealize.ShloMosaic.TcCoe Idealize.ShloMosaic.Pointwise Cert.Adam Cert.Kernel18 Cert.Kernel18.Gen

theorem ok (m : (ℓ : Loc nD τ sig) → Buf (Elt Bits) ℓ) : Ok m := trivial

theorem off : ∀ d k : Fin 8, k0_off1 (BitVec.ofNat 32 d.val) (BitVec.ofNat 32 k.val) = ![(d.val ^^^ k.val) - 1, 0, 0] := by decide

theorem small : ∀ d k : Fin 8, (d.val ^^^ k.val) - 1 < 7 := by decide

theorem chk (d : Fin 8) : k0_chk1 (BitVec.ofNat 32 d.val) := by
  intro r
  rw [off d r]
  have := small d r
  intro a
  match a with
  | 0 => show (d.val ^^^ r.val) - 1 + 1 ≤ 7; omega
  | 1 => exact Nat.le_refl _
  | 2 => exact Nat.le_refl _

/-- A device number in range makes every received part the kernel reads lie in its array. -/
theorem hyps_of_pre (m : (ℓ : Loc nD τ sig) → Buf (Elt Bits) ℓ) (h : Cert.Pre_Kernel18 m) : Hyps m (ok m) := by
  obtain ⟨d, hd⟩ := device ((m (((0 : Dev nD) : Thread nD τ).loc main_arg0)) (ix1 0)) (congrFun (h 0) (ix1 0))
  intro c t
  have e : (tbM0_0.view.readAt (Elt Bits) (Rect.unit (s := S1) ![0] S1.size inb_S1_S1_0).toLoadRect (tbl m 0) (Shape.Idx.first (numel1_S1.symm ▸ Nat.one_pos)))
      = BitVec.ofNat 32 d.val := by
    refine (congrFun (V_main_arg0 m 0) _).trans (Eq.trans (congrArg (m (((0 : Dev nD) : Thread nD τ).loc main_arg0)) ?_) hd)
    exact (eq_ix1 _).trans (congrArg ix1 (Subsingleton.elim (α := Fin 1) _ _))
  rw [e]
  exact chk d
end Cert.SumParts.AtBits
end
-- ==== Proof.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.FfnClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.DownClaim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.UpClaim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.MixClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.ProjClaim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.PostClaim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.NormClaim
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.LossClaim
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.DwInClaim
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.ProjFirstClaim
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.ShardOutClaim
public import proofs.«01_k».proof.Proof.Gen.Pre_pre13
public import proofs.«01_k».proof.Proof.ShardOutFrame
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.ShardUpClaim
public import proofs.«01_k».proof.Proof.Gen.Pre_pre14
public import proofs.«01_k».proof.Proof.ShardUpFrame
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.ShardDownClaim
public import proofs.«01_k».proof.Proof.Gen.Pre_pre15
public import proofs.«01_k».proof.Proof.ShardDownFrame
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.ShardInClaim
public import proofs.«01_k».proof.Proof.Gen.Pre_pre16
public import proofs.«01_k».proof.Proof.ShardInFrame
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.SumPartsClaim
public import proofs.«01_k».proof.Proof.Gen.Pre_pre18
public import proofs.«01_k».proof.Proof.SumPartsFrame

@[expose] public section

noncomputable section

namespace Cert.Proof

open Idealize.ShloMosaic Idealize.SL.Sem

theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel18.Gen.facts, Cert.Kernel18Ideal.Gen.facts, Cert.Reference18Ideal.Gen.facts, Cert.Pre_pre13.Gen.facts, Cert.Pre_pre14.Gen.facts, Cert.Pre_pre15.Gen.facts, Cert.Pre_pre16.Gen.facts, Cert.Pre_pre18.Gen.facts,
    fun m g _ => Cert.Kernel2.Gen.frame m g,
    fun m g _ => Cert.Kernel2Ideal.Gen.frame m g,
    fun m g _ => (θ_run Cert.Reference2Ideal.defs _ _).mono (fun r h => ⟨fun c => (h c).2.2.2.2.2, sem_eq_zero_of_no_sems (by decide) r.2⟩)
      (Cert.Reference2Ideal.Value.run (F := Ideal) m g),
    fun m g _ => Cert.Kernel3.Gen.frame m g,
    fun m g _ => Cert.Kernel3Ideal.Gen.frame m g,
    fun m g _ => (θ_run Cert.Reference3Ideal.defs _ _).mono (fun r h => ⟨fun c => (h c).2.2, sem_eq_zero_of_no_sems (by decide) r.2⟩)
      (Cert.Reference3Ideal.Value.run (F := Ideal) m g),
    fun m g _ => Cert.Kernel4.Gen.frame m g,
    fun m g _ => Cert.Kernel4Ideal.Gen.frame m g,
    fun m g _ => (θ_run Cert.Reference4Ideal.defs _ _).mono (fun r h => ⟨fun c => (h c).2.2, sem_eq_zero_of_no_sems (by decide) r.2⟩)
      (Cert.Reference4Ideal.Value.run (F := Ideal) m g),
    fun m g _ => Cert.Kernel5.Gen.frame m g,
    fun m g _ => Cert.Kernel5Ideal.Gen.frame m g,
    fun m g _ => (θ_run Cert.Reference5Ideal.defs _ _).mono (fun r h => ⟨fun c => (h c).2.2.2.2, sem_eq_zero_of_no_sems (by decide) r.2⟩)
      (Cert.Reference5Ideal.Value.run (F := Ideal) m g),
    fun m g _ => Cert.Kernel6.Gen.frame m g,
    fun m g _ => Cert.Kernel6Ideal.Gen.frame m g,
    fun m g _ => (θ_run Cert.Reference6Ideal.defs _ _).mono (fun r h => ⟨fun c => (h c).2.2.2.2, sem_eq_zero_of_no_sems (by decide) r.2⟩)
      (Cert.Reference6Ideal.Value.run (F := Ideal) m g),
    fun m g _ => Cert.Kernel7.Gen.frame m g,
    fun m g _ => Cert.Kernel7Ideal.Gen.frame m g,
    fun m g _ => (θ_run Cert.Reference7Ideal.defs _ _).mono (fun r h => ⟨fun c => (h c).2.2.2.2.2, sem_eq_zero_of_no_sems (by decide) r.2⟩)
      (Cert.Reference7Ideal.Value.run (F := Ideal) m g),
    fun m g _ => Cert.Kernel8.Gen.frame m g,
    fun m g _ => Cert.Kernel8Ideal.Gen.frame m g,
    fun m g _ => (θ_run Cert.Reference8Ideal.defs _ _).mono (fun r h => ⟨fun c => (h c).2.2, sem_eq_zero_of_no_sems (by decide) r.2⟩)
      (Cert.Reference8Ideal.Value.run (F := Ideal) m g),
    fun m g _ => Cert.Kernel9.Gen.frame m g,
    fun m g _ => Cert.Kernel9Ideal.Gen.frame m g,
    fun m g _ => (θ_run Cert.Reference9Ideal.defs _ _).mono (fun r h => ⟨fun c => (h c).2.2.2, sem_eq_zero_of_no_sems (by decide) r.2⟩)
      (Cert.Reference9Ideal.Value.run (F := Ideal) m g),
    fun m g _ => Cert.Kernel10.Gen.frame m g,
    fun m g _ => Cert.Kernel10Ideal.Gen.frame m g,
    fun m g _ => (θ_run Cert.Reference10Ideal.defs _ _).mono (fun r h => ⟨fun c => (h c).2.2, sem_eq_zero_of_no_sems (by decide) r.2⟩)
      (Cert.Reference10Ideal.Value.run (F := Ideal) m g),
    fun m g _ => Cert.Kernel11.Gen.frame m g,
    fun m g _ => Cert.Kernel11Ideal.Gen.frame m g,
    fun m g _ => (θ_run Cert.Reference11Ideal.defs _ _).mono (fun r h => ⟨fun c => (h c).2.2, sem_eq_zero_of_no_sems (by decide) r.2⟩)
      (Cert.Reference11Ideal.Value.run (F := Ideal) m g),
    fun m g h => Cert.Kernel13.Gen.frame m g (Cert.ShardOut.AtBits.ok_of_pre m h),
    fun m g h => Cert.Kernel13Ideal.Gen.frame m g (Cert.ShardOut.ok_of_pre m h),
    fun m g _ => (θ_run Cert.Reference13Ideal.defs _ _).mono (fun r h => ⟨fun c => (h c).2.2.2.2, sem_eq_zero_of_no_sems (by decide) r.2⟩)
      (Cert.Reference13Ideal.Value.run (F := Ideal) m g),
    fun m g _ => (θ_run Cert.Reference13Ideal.defs _ _).mono (fun r h => ⟨fun c => (h c).2.2.2.2, sem_eq_zero_of_no_sems (by decide) r.2⟩)
      (Cert.Reference13Ideal.Value.run (F := Ideal) m g),
    fun m g h => Cert.Kernel14.Gen.frame m g (Cert.ShardUp.AtBits.ok_of_pre m h),
    fun m g h => Cert.Kernel14Ideal.Gen.frame m g (Cert.ShardUp.ok_of_pre m h),
    fun m g _ => (θ_run Cert.Reference14Ideal.defs _ _).mono (fun r h => ⟨fun c => (h c).2.2.2.2, sem_eq_zero_of_no_sems (by decide) r.2⟩)
      (Cert.Reference14Ideal.Value.run (F := Ideal) m g),
    fun m g _ => (θ_run Cert.Reference14Ideal.defs _ _).mono (fun r h => ⟨fun c => (h c).2.2.2.2, sem_eq_zero_of_no_sems (by decide) r.2⟩)
      (Cert.Reference14Ideal.Value.run (F := Ideal) m g),
    fun m g h => Cert.Kernel15.Gen.frame m g (Cert.ShardDown.AtBits.ok_of_pre m h),
    fun m g h => Cert.Kernel15Ideal.Gen.frame m g (Cert.ShardDown.ok_of_pre m h),
    fun m g _ => (θ_run Cert.Reference15Ideal.defs _ _).mono (fun r h => ⟨fun c => (h c).2.2.2.2, sem_eq_zero_of_no_sems (by decide) r.2⟩)
      (Cert.Reference15Ideal.Value.run (F := Ideal) m g),
    fun m g _ => (θ_run Cert.Reference15Ideal.defs _ _).mono (fun r h => ⟨fun c => (h c).2.2.2.2, sem_eq_zero_of_no_sems (by decide) r.2⟩)
      (Cert.Reference15Ideal.Value.run (F := Ideal) m g),
    fun m g h => Cert.Kernel16.Gen.frame m g (Cert.ShardIn.AtBits.ok_of_pre m h),
    fun m g h => Cert.Kernel16Ideal.Gen.frame m g (Cert.ShardIn.ok_of_pre m h),
    fun m g _ => (θ_run Cert.Reference16Ideal.defs _ _).mono (fun r h => ⟨fun c => (h c).2.2.2.2, sem_eq_zero_of_no_sems (by decide) r.2⟩)
      (Cert.Reference16Ideal.Value.run (F := Ideal) m g),
    fun m g _ => (θ_run Cert.Reference16Ideal.defs _ _).mono (fun r h => ⟨fun c => (h c).2.2.2.2, sem_eq_zero_of_no_sems (by decide) r.2⟩)
      (Cert.Reference16Ideal.Value.run (F := Ideal) m g),
    fun m g h => Cert.Kernel18.Gen.frame m g (Cert.SumParts.AtBits.ok m) (Cert.SumParts.AtBits.hyps_of_pre m h),
    fun m g h => Cert.Kernel18Ideal.Gen.frame m g (Cert.SumParts.ok m) (Cert.SumParts.hyps_of_pre m h),
    fun m g _ => (θ_run Cert.Reference18Ideal.defs _ _).mono (fun r h => ⟨fun c => (h c).2, sem_eq_zero_of_no_sems (by decide) r.2⟩)
      (Cert.Reference18Ideal.Value.run (F := Ideal) m g),
    fun m g _ => (θ_run Cert.Reference18Ideal.defs _ _).mono (fun r h => ⟨fun c => (h c).2, sem_eq_zero_of_no_sems (by decide) r.2⟩)
      (Cert.Reference18Ideal.Value.run (F := Ideal) m g),
    trivial,
    Cert.Ffn.algebraic,
    trivial,
    Cert.Down.algebraic,
    trivial,
    Cert.Up.algebraic,
    trivial,
    Cert.Mix.algebraic,
    trivial,
    Cert.Proj.algebraic,
    trivial,
    Cert.Post.algebraic,
    trivial,
    Cert.Norm.algebraic,
    trivial,
    Cert.Loss.algebraic,
    trivial,
    Cert.DwIn.algebraic,
    trivial,
    Cert.ProjFirst.algebraic,
    trivial,
    Cert.ShardOut.algebraic,
    trivial,
    Cert.ShardUp.algebraic,
    trivial,
    Cert.ShardDown.algebraic,
    trivial,
    Cert.ShardIn.algebraic,
    trivial,
    Cert.SumParts.algebraic⟩

end Cert.Proof

end
